-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite4 [hPre_finite4 : Cert.Pre_finite4.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite4.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite4.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite4.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite4 [hKernel5Ideal : Cert.Kernel5Ideal.Facts] [hPre_finite4 : Cert.Pre_finite4.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite4 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def preserves_Kernel_KernelIdeal : Prop :=
  IdealRules.named_const.Statement Cert.KernelIdeal.κ "mask" .f32 0xF149F2CA#32 ⊥

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference4Ideal_pre_finite4 [hKernel5Ideal : Cert.Kernel5Ideal.Facts] [hReference4Ideal : Cert.Reference4Ideal.Facts] [hPre_finite4 : Cert.Pre_finite4.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel5Ideal_finite4 m →
    (∀ c : Dev Cert.Kernel5Ideal.nD,
      m' ((c.tc : Thread Cert.Reference4Ideal.nD Cert.Reference4Ideal.τ).loc Cert.Reference4Ideal.main_arg0) = m ((c.tc : Thread Cert.Kernel5Ideal.nD Cert.Kernel5Ideal.τ).loc Cert.Kernel5Ideal.main_arg0)
      ∧ m' ((c.tc : Thread Cert.Reference4Ideal.nD Cert.Reference4Ideal.τ).loc Cert.Reference4Ideal.main_arg1) = m ((c.tc : Thread Cert.Kernel5Ideal.nD Cert.Kernel5Ideal.τ).loc Cert.Kernel5Ideal.main_arg1)
      ∧ m' ((c.tc : Thread Cert.Reference4Ideal.nD Cert.Reference4Ideal.τ).loc Cert.Reference4Ideal.main_arg2) = m ((c.tc : Thread Cert.Kernel5Ideal.nD Cert.Kernel5Ideal.τ).loc Cert.Kernel5Ideal.main_arg2)
      ∧ m' ((c.tc : Thread Cert.Reference4Ideal.nD Cert.Reference4Ideal.τ).loc Cert.Reference4Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite4 (hKernel5Ideal := hKernel5Ideal) (hPre_finite4 := hPre_finite4)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference4Ideal_pre_finite4 (hKernel5Ideal := hKernel5Ideal) (hReference4Ideal := hReference4Ideal) (hPre_finite4 := hPre_finite4)
-- ==== Pre_finite.lean ====
abbrev S1x8x16384x128 : Shape := ⟨4, ![1, 8, 16384, 128]⟩
abbrev S1x8x16384x64 : Shape := ⟨4, ![1, 8, 16384, 64]⟩
abbrev S1x16384x64 : Shape := ⟨3, ![1, 16384, 64]⟩
abbrev S_ : Shape := ⟨0, ![]⟩

class Facts : Prop where
  bcast_S_S1x8x16384x128 : S_.BroadcastsInDim S1x8x16384x128 (![] : Fin 0 → Fin S1x8x16384x128.rank)
  bcast_S_S1x8x16384x64 : S_.BroadcastsInDim S1x8x16384x64 (![] : Fin 0 → Fin S1x8x16384x64.rank)
  bcast_S_S1x16384x64 : S_.BroadcastsInDim S1x16384x64 (![] : Fin 0 → Fin S1x16384x64.rank)

variable [Facts]

def fn {F : FTy → Type} [FloatOps F] (main_arg0 : FVec F S1x8x16384x128 .f32) (main_arg1 : FVec F S1x8x16384x64 .f32) (main_arg2 : FVec F S1x8x16384x128 .f32) (main_arg3 : FVec F S1x16384x64 .f32) (main_arg4 : FVec F S1x8x16384x128 .f32) : IVec S1x8x16384x128 1 × IVec S1x8x16384x64 1 × IVec S1x8x16384x128 1 × IVec S1x16384x64 1 :=
  let main_v0 : FVec F S1x8x16384x128 .f32 := Host.absf main_arg0
  let main_cst : FVec F S_ .f32 := constant S_ .f32 0x7F800000#32
  let main_v1 : FVec F S1x8x16384x128 .f32 := broadcastInDim S1x8x16384x128 ![] bcast_S_S1x8x16384x128 main_cst
  let main_v2 : IVec S1x8x16384x128 1 := cmpf .olt main_v0 main_v1
  let main_v3 : FVec F S1x8x16384x64 .f32 := Host.absf main_arg1
  let main_cst_0 : FVec F S_ .f32 := constant S_ .f32 0x7F800000#32
  let main_v4 : FVec F S1x8x16384x64 .f32 := broadcastInDim S1x8x16384x64 ![] bcast_S_S1x8x16384x64 main_cst_0
  let main_v5 : IVec S1x8x16384x64 1 := cmpf .olt main_v3 main_v4
  let main_v6 : FVec F S1x8x16384x128 .f32 := Host.absf main_arg2
  let main_cst_1 : FVec F S_ .f32 := constant S_ .f32 0x7F800000#32
  let main_v7 : FVec F S1x8x16384x128 .f32 := broadcastInDim S1x8x16384x128 ![] bcast_S_S1x8x16384x128 main_cst_1
  let main_v8 : IVec S1x8x16384x128 1 := cmpf .olt main_v6 main_v7
  let main_v9 : FVec F S1x16384x64 .f32 := Host.absf main_arg3
  let main_cst_2 : FVec F S_ .f32 := constant S_ .f32 0x7F800000#32
  let main_v10 : FVec F S1x16384x64 .f32 := broadcastInDim S1x16384x64 ![] bcast_S_S1x16384x64 main_cst_2
  let main_v11 : IVec S1x16384x64 1 := cmpf .olt main_v9 main_v10
  (main_v2, main_v5, main_v8, main_v11)
-- ==== Pre_finite4.lean ====
abbrev S1x2x16384x128 : Shape := ⟨4, ![1, 2, 16384, 128]⟩
abbrev S32x128 : Shape := ⟨2, ![32, 128]⟩
abbrev S4096x256 : Shape := ⟨2, ![4096, 256]⟩
abbrev S256x128 : Shape := ⟨2, ![256, 128]⟩
abbrev S_ : Shape := ⟨0, ![]⟩

class Facts : Prop where
  bcast_S_S1x2x16384x128 : S_.BroadcastsInDim S1x2x16384x128 (![] : Fin 0 → Fin S1x2x16384x128.rank)
  bcast_S_S32x128 : S_.BroadcastsInDim S32x128 (![] : Fin 0 → Fin S32x128.rank)
  bcast_S_S4096x256 : S_.BroadcastsInDim S4096x256 (![] : Fin 0 → Fin S4096x256.rank)

variable [Facts]

def fn {F : FTy → Type} [FloatOps F] (main_arg0 : FVec F S1x2x16384x128 .f32) (main_arg1 : FVec F S32x128 .f32) (main_arg2 : FVec F S4096x256 .f32) (main_arg3 : FVec F S256x128 .f32) : IVec S1x2x16384x128 1 × IVec S32x128 1 × IVec S4096x256 1 :=
  let main_v0 : FVec F S1x2x16384x128 .f32 := Host.absf main_arg0
  let main_cst : FVec F S_ .f32 := constant S_ .f32 0x7F800000#32
  let main_v1 : FVec F S1x2x16384x128 .f32 := broadcastInDim S1x2x16384x128 ![] bcast_S_S1x2x16384x128 main_cst
  let main_v2 : IVec S1x2x16384x128 1 := cmpf .olt main_v0 main_v1
  let main_v3 : FVec F S32x128 .f32 := Host.absf main_arg1
  let main_cst_0 : FVec F S_ .f32 := constant S_ .f32 0x7F800000#32
  let main_v4 : FVec F S32x128 .f32 := broadcastInDim S32x128 ![] bcast_S_S32x128 main_cst_0
  let main_v5 : IVec S32x128 1 := cmpf .olt main_v3 main_v4
  let main_v6 : FVec F S4096x256 .f32 := Host.absf main_arg2
  let main_cst_1 : FVec F S_ .f32 := constant S_ .f32 0x7F800000#32
  let main_v7 : FVec F S4096x256 .f32 := broadcastInDim S4096x256 ![] bcast_S_S4096x256 main_cst_1
  let main_v8 : IVec S4096x256 1 := cmpf .olt main_v6 main_v7
  (main_v2, main_v5, main_v8)
-- ==== Kernel.lean ====
abbrev S1x8x16384x128 : Shape := ⟨4, ![1, 8, 16384, 128]⟩
abbrev S1x8x16384x64 : Shape := ⟨4, ![1, 8, 16384, 64]⟩
abbrev S1x16384x64 : Shape := ⟨3, ![1, 16384, 64]⟩
abbrev S_ : Shape := ⟨0, ![]⟩
abbrev S8x16384x64 : Shape := ⟨3, ![8, 16384, 64]⟩
abbrev S8x16384x128 : Shape := ⟨3, ![8, 16384, 128]⟩
abbrev S8x16384x256 : Shape := ⟨3, ![8, 16384, 256]⟩
abbrev S8x128x16384 : Shape := ⟨3, ![8, 128, 16384]⟩
abbrev S16384x1024 : Shape := ⟨2, ![16384, 1024]⟩
abbrev S2x1024x256 : Shape := ⟨3, ![2, 1024, 256]⟩
abbrev S2x16384x256 : Shape := ⟨3, ![2, 16384, 256]⟩
abbrev S2x128x16384 : Shape := ⟨3, ![2, 128, 16384]⟩
abbrev S1024x256 : Shape := ⟨2, ![1024, 256]⟩
abbrev S2x256x1024 : Shape := ⟨3, ![2, 256, 1024]⟩
abbrev S2x512x1024 : Shape := ⟨3, ![2, 512, 1024]⟩
abbrev S2x1x1024 : Shape := ⟨3, ![2, 1, 1024]⟩
abbrev S2x128x1024 : Shape := ⟨3, ![2, 128, 1024]⟩
abbrev S1x1024 : Shape := ⟨2, ![1, 1024]⟩
abbrev S1x1024x256 : Shape := ⟨3, ![1, 1024, 256]⟩
abbrev S256x1024 : Shape := ⟨2, ![256, 1024]⟩
abbrev S1x256x1024 : Shape := ⟨3, ![1, 256, 1024]⟩
abbrev S1x1x1024 : Shape := ⟨3, ![1, 1, 1024]⟩
abbrev S128x1024 : Shape := ⟨2, ![128, 1024]⟩
abbrev S1x128x1024 : Shape := ⟨3, ![1, 128, 1024]⟩
abbrev S1x512x256 : Shape := ⟨3, ![1, 512, 256]⟩
abbrev S512x256 : Shape := ⟨2, ![512, 256]⟩
abbrev S512x1024 : Shape := ⟨2, ![512, 1024]⟩
abbrev S1x512x1024 : Shape := ⟨3, ![1, 512, 1024]⟩
abbrev S1x128x512 : Shape := ⟨3, ![1, 128, 512]⟩
abbrev S128x512 : Shape := ⟨2, ![128, 512]⟩
abbrev S1024 : Shape := ⟨1, ![1024]⟩
abbrev S512x1 : Shape := ⟨2, ![512, 1]⟩
abbrev S1x512 : Shape := ⟨2, ![1, 512]⟩
abbrev S512x512 : Shape := ⟨2, ![512, 512]⟩
abbrev S1x256x512 : Shape := ⟨3, ![1, 256, 512]⟩
abbrev S256x512 : Shape := ⟨2, ![256, 512]⟩
abbrev S512 : Shape := ⟨1, ![512]⟩
abbrev S1024x128 : Shape := ⟨2, ![1024, 128]⟩

abbrev nBuf : Space → Nat
  | .hbm => 27
  | .vmem => 12
  | .smem => 0
  | _ => 0

abbrev bufTy : (tb : Table) → Fin (tcTables nBuf tb) → BufTy
  | .hbm, ⟨0, _⟩ => ⟨S1x8x16384x128, .f32⟩
  | .hbm, ⟨1, _⟩ => ⟨S1x8x16384x64, .f32⟩
  | .hbm, ⟨2, _⟩ => ⟨S1x8x16384x128, .f32⟩
  | .hbm, ⟨3, _⟩ => ⟨S1x16384x64, .f32⟩
  | .hbm, ⟨4, _⟩ => ⟨S1x8x16384x128, .f32⟩
  | .hbm, ⟨5, _⟩ => ⟨S_, .f32⟩
  | .hbm, ⟨6, _⟩ => ⟨S8x16384x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x16384x128, .f32⟩
  | .hbm, ⟨12, _⟩ => ⟨S8x16384x128, .f32⟩
  | .hbm, ⟨13, _⟩ => ⟨S8x16384x128, .f32⟩
  | .hbm, ⟨14, _⟩ => ⟨S8x16384x64, .f32⟩
  | .hbm, ⟨15, _⟩ => ⟨S8x16384x64, .f32⟩
  | .hbm, ⟨16, _⟩ => ⟨S8x16384x64, .f32⟩
  | .hbm, ⟨17, _⟩ => ⟨S8x16384x256, .f32⟩
  | .hbm, ⟨18, _⟩ => ⟨S8x16384x256, .bf16⟩
  | .hbm, ⟨19, _⟩ => ⟨S8x16384x64, .f32⟩
  | .hbm, ⟨20, _⟩ => ⟨S8x16384x128, .f32⟩
  | .hbm, ⟨21, _⟩ => ⟨S8x16384x256, .f32⟩
  | .hbm, ⟨22, _⟩ => ⟨S8x16384x256, .bf16⟩
  | .hbm, ⟨23, _⟩ => ⟨S8x16384x128, .f32⟩
  | .hbm, ⟨24, _⟩ => ⟨S8x128x16384, .f32⟩
  | .hbm, ⟨25, _⟩ => ⟨S8x128x16384, .bf16⟩
  | .hbm, ⟨26, _⟩ => ⟨S16384x1024, .bf16⟩
  | .local _ .vmem, ⟨0, _⟩ => ⟨S2x1024x256, .bf16⟩
  | .local _ .vmem, ⟨1, _⟩ => ⟨S2x1024x256, .bf16⟩
  | .local _ .vmem, ⟨2, _⟩ => ⟨S2x16384x256, .bf16⟩
  | .local _ .vmem, ⟨3, _⟩ => ⟨S2x128x16384, .bf16⟩
  | .local _ .vmem, ⟨4, _⟩ => ⟨S1024x256, .bf16⟩
  | .local _ .vmem, ⟨5, _⟩ => ⟨S1024x256, .bf16⟩
  | .local _ .vmem, ⟨6, _⟩ => ⟨S2x256x1024, .bf16⟩
  | .local _ .vmem, ⟨7, _⟩ => ⟨S2x512x1024, .f32⟩
  | .local _ .vmem, ⟨8, _⟩ => ⟨S2x512x1024, .f32⟩
  | .local _ .vmem, ⟨9, _⟩ => ⟨S2x1x1024, .f32⟩
  | .local _ .vmem, ⟨10, _⟩ => ⟨S2x1x1024, .f32⟩
  | .local _ .vmem, ⟨11, _⟩ => ⟨S2x128x1024, .f32⟩
  | _, _ => ⟨S1x8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

def k0_mult1 : BitVec 32 :=
  let c0_i32 : BitVec 32 := 0#32
  c0_i32
def k0_mult2 : BitVec 32 :=
  let c0_i32_42 : BitVec 32 := 0#32
  c0_i32_42
@[reducible] def k0_t1_loop (i : grid0.Coords) : Scf.Loop 32 :=
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_78 : BitVec 32 := 1#32
  ⟨c0_i32_76, v103, c1_i32_78⟩
def k0_mult3 (i : grid0.Coords) (k0_t1 : Fin (k0_t1_loop i).trips) : BitVec 32 :=
  let c2_i32_265 : BitVec 32 := 2#32
  let c2_i32_263 : BitVec 32 := 2#32
  let c0_i32_76 : BitVec 32 := 0#32
  let c1_i32_78 : BitVec 32 := 1#32
  let arg12 : BitVec 32 := Scf.iv c0_i32_76 c1_i32_78 k0_t1
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c1_i32_266 : BitVec 32 := 1#32
  let v365 : BitVec 32 := Scalar.addi v364 c1_i32_266
  let c512_i32_267 : BitVec 32 := 512#32
  let v366 : BitVec 32 := Scalar.muli v365 c512_i32_267
  v366
def k0_off1 (i : grid0.Coords) (k0_t1 : Fin (k0_t1_loop i).trips) (c0_i32_264 : BitVec 32) (c1_i32_266 : BitVec 32) : Fin 3 → Nat :=
  let c0_268 : Index := 0#32
  let c2_i32_265 : BitVec 32 := 2#32
  let c2_i32_263 : BitVec 32 := 2#32
  let c0_i32_76 : BitVec 32 := 0#32
  let c1_i32_78 : BitVec 32 := 1#32
  let arg12 : BitVec 32 := Scf.iv c0_i32_76 c1_i32_78 k0_t1
  let v362 : BitVec 32 := Scalar.muli c2_i32_263 arg12
  let v363 : BitVec 32 := Scalar.addi v362 c0_i32_264
  let v364 : BitVec 32 := Scalar.muli c2_i32_265 v363
  let v365 : BitVec 32 := Scalar.addi v364 c1_i32_266
  let c512_i32_267 : BitVec 32 := 512#32
  let v366 : BitVec 32 := Scalar.muli v365 c512_i32_267
  let v367 : BitVec 32 := v366
  let v368 : Index := Scalar.indexCast v367
  let c0_269 : Index := 0#32
  ![0, v368.toNat, 0]
def k0_mult4 (i : grid0.Coords) (k0_t1 : Fin (k0_t1_loop i).trips) : BitVec 32 :=
  let c2_i32_265 : BitVec 32 := 2#32
  let c2_i32_263 : BitVec 32 := 2#32
  let c0_i32_76 : BitVec 32 := 0#32
  let c1_i32_78 : BitVec 32 := 1#32
  let arg12 : BitVec 32 := Scf.iv c0_i32_76 c1_i32_78 k0_t1
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c512_i32_278 : BitVec 32 := 512#32
  let v381 : BitVec 32 := Scalar.muli v364 c512_i32_278
  v381
def k0_off2 (i : grid0.Coords) (k0_t1 : Fin (k0_t1_loop i).trips) (c0_i32_264 : BitVec 32) : Fin 3 → Nat :=
  let c0_279 : Index := 0#32
  let c0_280 : Index := 0#32
  let c2_i32_265 : BitVec 32 := 2#32
  let c2_i32_263 : BitVec 32 := 2#32
  let c0_i32_76 : BitVec 32 := 0#32
  let c1_i32_78 : BitVec 32 := 1#32
  let arg12 : BitVec 32 := Scf.iv c0_i32_76 c1_i32_78 k0_t1
  let v362 : BitVec 32 := Scalar.muli c2_i32_263 arg12
  let v363 : BitVec 32 := Scalar.addi v362 c0_i32_264
  let v364 : BitVec 32 := Scalar.muli c2_i32_265 v363
  let c512_i32_278 : BitVec 32 := 512#32
  let v381 : BitVec 32 := Scalar.muli v364 c512_i32_278
  let v382 : BitVec 32 := v381
  let v383 : Index := Scalar.indexCast v382
  ![0, 0, v383.toNat]
def k0_mult5 (i : grid0.Coords) (k0_t1 : Fin (k0_t1_loop i).trips) : BitVec 32 :=
  let c2_i32_265 : BitVec 32 := 2#32
  let c2_i32_263 : BitVec 32 := 2#32
  let c0_i32_76 : BitVec 32 := 0#32
  let c1_i32_78 : BitVec 32 := 1#32
  let arg12 : BitVec 32 := Scf.iv c0_i32_76 c1_i32_78 k0_t1
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c2_i32_296 : BitVec 32 := 2#32
  let v424 : BitVec 32 := Scalar.addi v364 c2_i32_296
  let c512_i32_297 : BitVec 32 := 512#32
  let v425 : BitVec 32 := Scalar.muli v424 c512_i32_297
  v425
def k0_mult6 (i : grid0.Coords) (k0_t1 : Fin (k0_t1_loop i).trips) : BitVec 32 :=
  let c2_i32_265 : BitVec 32 := 2#32
  let c2_i32_263 : BitVec 32 := 2#32
  let c0_i32_76 : BitVec 32 := 0#32
  let c1_i32_78 : BitVec 32 := 1#32
  let arg12 : BitVec 32 := Scf.iv c0_i32_76 c1_i32_78 k0_t1
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c1_i32_308 : BitVec 32 := 1#32
  let v440 : BitVec 32 := Scalar.addi v364 c1_i32_308
  let c512_i32_309 : BitVec 32 := 512#32
  let v441 : BitVec 32 := Scalar.muli v440 c512_i32_309
  v441
def k0_off3 (i : grid0.Coords) (k0_t1 : Fin (k0_t1_loop i).trips) (c0_i32_264 : BitVec 32) : Fin 3 → Nat :=
  let c0_310 : Index := 0#32
  let c0_311 : Index := 0#32
  let c2_i32_265 : BitVec 32 := 2#32
  let c2_i32_263 : BitVec 32 := 2#32
  let c0_i32_76 : BitVec 32 := 0#32
  let c1_i32_78 : BitVec 32 := 1#32
  let arg12 : BitVec 32 := Scf.iv c0_i32_76 c1_i32_78 k0_t1
  let v362 : BitVec 32 := Scalar.muli c2_i32_263 arg12
  let v363 : BitVec 32 := Scalar.addi v362 c0_i32_264
  let v364 : BitVec 32 := Scalar.muli c2_i32_265 v363
  let c1_i32_308 : BitVec 32 := 1#32
  let v440 : BitVec 32 := Scalar.addi v364 c1_i32_308
  let c512_i32_309 : BitVec 32 := 512#32
  let v441 : BitVec 32 := Scalar.muli v440 c512_i32_309
  let v442 : BitVec 32 := v441
  let v443 : Index := Scalar.indexCast v442
  ![0, 0, v443.toNat]
def k0_mult7 (i : grid0.Coords) (k0_t1 : Fin (k0_t1_loop i).trips) : BitVec 32 :=
  let c2_i32_265 : BitVec 32 := 2#32
  let c2_i32_263 : BitVec 32 := 2#32
  let c0_i32_76 : BitVec 32 := 0#32
  let c1_i32_78 : BitVec 32 := 1#32
  let arg12 : BitVec 32 := Scf.iv c0_i32_76 c1_i32_78 k0_t1
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c1_i32_327 : BitVec 32 := 1#32
  let v484 : BitVec 32 := Scalar.addi v364 c1_i32_327
  let c512_i32_328 : BitVec 32 := 512#32
  let v485 : BitVec 32 := Scalar.muli v484 c512_i32_328
  v485
def k0_off4 (i : grid0.Coords) (k0_t1 : Fin (k0_t1_loop i).trips) (c0_i32_264 : BitVec 32) (c1_i32_327 : BitVec 32) : Fin 3 → Nat :=
  let c1_329 : Index := 1#32
  let c2_i32_265 : BitVec 32 := 2#32
  let c2_i32_263 : BitVec 32 := 2#32
  let c0_i32_76 : BitVec 32 := 0#32
  let c1_i32_78 : BitVec 32 := 1#32
  let arg12 : BitVec 32 := Scf.iv c0_i32_76 c1_i32_78 k0_t1
  let v362 : BitVec 32 := Scalar.muli c2_i32_263 arg12
  let v363 : BitVec 32 := Scalar.addi v362 c0_i32_264
  let v364 : BitVec 32 := Scalar.muli c2_i32_265 v363
  let v484 : BitVec 32 := Scalar.addi v364 c1_i32_327
  let c512_i32_328 : BitVec 32 := 512#32
  let v485 : BitVec 32 := Scalar.muli v484 c512_i32_328
  let v486 : BitVec 32 := v485
  let v487 : Index := Scalar.indexCast v486
  let c0_330 : Index := 0#32
  ![1, v487.toNat, 0]
def k0_mult8 (i : grid0.Coords) (k0_t1 : Fin (k0_t1_loop i).trips) : BitVec 32 :=
  let c2_i32_265 : BitVec 32 := 2#32
  let c2_i32_263 : BitVec 32 := 2#32
  let c0_i32_76 : BitVec 32 := 0#32
  let c1_i32_78 : BitVec 32 := 1#32
  let arg12 : BitVec 32 := Scf.iv c0_i32_76 c1_i32_78 k0_t1
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c512_i32_339 : BitVec 32 := 512#32
  let v500 : BitVec 32 := Scalar.muli v364 c512_i32_339
  v500
def k0_off5 (i : grid0.Coords) (k0_t1 : Fin (k0_t1_loop i).trips) (c0_i32_264 : BitVec 32) : Fin 3 → Nat :=
  let c1_340 : Index := 1#32
  let c0_341 : Index := 0#32
  let c2_i32_265 : BitVec 32 := 2#32
  let c2_i32_263 : BitVec 32 := 2#32
  let c0_i32_76 : BitVec 32 := 0#32
  let c1_i32_78 : BitVec 32 := 1#32
  let arg12 : BitVec 32 := Scf.iv c0_i32_76 c1_i32_78 k0_t1
  let v362 : BitVec 32 := Scalar.muli c2_i32_263 arg12
  let v363 : BitVec 32 := Scalar.addi v362 c0_i32_264
  let v364 : BitVec 32 := Scalar.muli c2_i32_265 v363
  let c512_i32_339 : BitVec 32 := 512#32
  let v500 : BitVec 32 := Scalar.muli v364 c512_i32_339
  let v501 : BitVec 32 := v500
  let v502 : Index := Scalar.indexCast v501
  ![1, 0, v502.toNat]
def k0_mult9 (i : grid0.Coords) (k0_t1 : Fin (k0_t1_loop i).trips) : BitVec 32 :=
  let c2_i32_265 : BitVec 32 := 2#32
  let c2_i32_263 : BitVec 32 := 2#32
  let c0_i32_76 : BitVec 32 := 0#32
  let c1_i32_78 : BitVec 32 := 1#32
  let arg12 : BitVec 32 := Scf.iv c0_i32_76 c1_i32_78 k0_t1
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c2_i32_357 : BitVec 32 := 2#32
  let v543 : BitVec 32 := Scalar.addi v364 c2_i32_357
  let c512_i32_358 : BitVec 32 := 512#32
  let v544 : BitVec 32 := Scalar.muli v543 c512_i32_358
  v544
def k0_mult10 (i : grid0.Coords) (k0_t1 : Fin (k0_t1_loop i).trips) : BitVec 32 :=
  let c2_i32_265 : BitVec 32 := 2#32
  let c2_i32_263 : BitVec 32 := 2#32
  let c0_i32_76 : BitVec 32 := 0#32
  let c1_i32_78 : BitVec 32 := 1#32
  let arg12 : BitVec 32 := Scf.iv c0_i32_76 c1_i32_78 k0_t1
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c1_i32_369 : BitVec 32 := 1#32
  let v559 : BitVec 32 := Scalar.addi v364 c1_i32_369
  let c512_i32_370 : BitVec 32 := 512#32
  let v560 : BitVec 32 := Scalar.muli v559 c512_i32_370
  v560
def k0_off6 (i : grid0.Coords) (k0_t1 : Fin (k0_t1_loop i).trips) (c0_i32_264 : BitVec 32) : Fin 3 → Nat :=
  let c1_371 : Index := 1#32
  let c0_372 : Index := 0#32
  let c2_i32_265 : BitVec 32 := 2#32
  let c2_i32_263 : BitVec 32 := 2#32
  let c0_i32_76 : BitVec 32 := 0#32
  let c1_i32_78 : BitVec 32 := 1#32
  let arg12 : BitVec 32 := Scf.iv c0_i32_76 c1_i32_78 k0_t1
  let v362 : BitVec 32 := Scalar.muli c2_i32_263 arg12
  let v363 : BitVec 32 := Scalar.addi v362 c0_i32_264
  let v364 : BitVec 32 := Scalar.muli c2_i32_265 v363
  let c1_i32_369 : BitVec 32 := 1#32
  let v559 : BitVec 32 := Scalar.addi v364 c1_i32_369
  let c512_i32_370 : BitVec 32 := 512#32
  let v560 : BitVec 32 := Scalar.muli v559 c512_i32_370
  let v561 : BitVec 32 := v560
  let v562 : Index := Scalar.indexCast v561
  ![1, 0, v562.toNat]
def k0_mult11 (i : grid0.Coords) (k0_t1 : Fin (k0_t1_loop i).trips) : BitVec 32 :=
  let c2_i32_390 : BitVec 32 := 2#32
  let c2_i32_388 : BitVec 32 := 2#32
  let c0_i32_76 : BitVec 32 := 0#32
  let c1_i32_78 : BitVec 32 := 1#32
  let arg12 : BitVec 32 := Scf.iv c0_i32_76 c1_i32_78 k0_t1
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c1_i32_391 : BitVec 32 := 1#32
  let v606 : BitVec 32 := Scalar.addi v605 c1_i32_391
  let c512_i32_392 : BitVec 32 := 512#32
  let v607 : BitVec 32 := Scalar.muli v606 c512_i32_392
  v607
def k0_mult12 (i : grid0.Coords) (k0_t1 : Fin (k0_t1_loop i).trips) : BitVec 32 :=
  let c2_i32_390 : BitVec 32 := 2#32
  let c2_i32_388 : BitVec 32 := 2#32
  let c0_i32_76 : BitVec 32 := 0#32
  let c1_i32_78 : BitVec 32 := 1#32
  let arg12 : BitVec 32 := Scf.iv c0_i32_76 c1_i32_78 k0_t1
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c512_i32_403 : BitVec 32 := 512#32
  let v622 : BitVec 32 := Scalar.muli v605 c512_i32_403
  v622
def k0_mult13 (i : grid0.Coords) (k0_t1 : Fin (k0_t1_loop i).trips) : BitVec 32 :=
  let c2_i32_390 : BitVec 32 := 2#32
  let c2_i32_388 : BitVec 32 := 2#32
  let c0_i32_76 : BitVec 32 := 0#32
  let c1_i32_78 : BitVec 32 := 1#32
  let arg12 : BitVec 32 := Scf.iv c0_i32_76 c1_i32_78 k0_t1
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c2_i32_421 : BitVec 32 := 2#32
  let v665 : BitVec 32 := Scalar.addi v605 c2_i32_421
  let c512_i32_422 : BitVec 32 := 512#32
  let v666 : BitVec 32 := Scalar.muli v665 c512_i32_422
  v666
def k0_mult14 (i : grid0.Coords) (k0_t1 : Fin (k0_t1_loop i).trips) : BitVec 32 :=
  let c2_i32_390 : BitVec 32 := 2#32
  let c2_i32_388 : BitVec 32 := 2#32
  let c0_i32_76 : BitVec 32 := 0#32
  let c1_i32_78 : BitVec 32 := 1#32
  let arg12 : BitVec 32 := Scf.iv c0_i32_76 c1_i32_78 k0_t1
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c1_i32_433 : BitVec 32 := 1#32
  let v681 : BitVec 32 := Scalar.addi v605 c1_i32_433
  let c512_i32_434 : BitVec 32 := 512#32
  let v682 : BitVec 32 := Scalar.muli v681 c512_i32_434
  v682
def k0_mult15 (i : grid0.Coords) (k0_t1 : Fin (k0_t1_loop i).trips) : BitVec 32 :=
  let c2_i32_390 : BitVec 32 := 2#32
  let c2_i32_388 : BitVec 32 := 2#32
  let c0_i32_76 : BitVec 32 := 0#32
  let c1_i32_78 : BitVec 32 := 1#32
  let arg12 : BitVec 32 := Scf.iv c0_i32_76 c1_i32_78 k0_t1
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c1_i32_452 : BitVec 32 := 1#32
  let v725 : BitVec 32 := Scalar.addi v605 c1_i32_452
  let c512_i32_453 : BitVec 32 := 512#32
  let v726 : BitVec 32 := Scalar.muli v725 c512_i32_453
  v726
def k0_mult16 (i : grid0.Coords) (k0_t1 : Fin (k0_t1_loop i).trips) : BitVec 32 :=
  let c2_i32_390 : BitVec 32 := 2#32
  let c2_i32_388 : BitVec 32 := 2#32
  let c0_i32_76 : BitVec 32 := 0#32
  let c1_i32_78 : BitVec 32 := 1#32
  let arg12 : BitVec 32 := Scf.iv c0_i32_76 c1_i32_78 k0_t1
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c512_i32_464 : BitVec 32 := 512#32
  let v741 : BitVec 32 := Scalar.muli v605 c512_i32_464
  v741
def k0_mult17 (i : grid0.Coords) (k0_t1 : Fin (k0_t1_loop i).trips) : BitVec 32 :=
  let c2_i32_390 : BitVec 32 := 2#32
  let c2_i32_388 : BitVec 32 := 2#32
  let c0_i32_76 : BitVec 32 := 0#32
  let c1_i32_78 : BitVec 32 := 1#32
  let arg12 : BitVec 32 := Scf.iv c0_i32_76 c1_i32_78 k0_t1
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c2_i32_482 : BitVec 32 := 2#32
  let v784 : BitVec 32 := Scalar.addi v605 c2_i32_482
  let c512_i32_483 : BitVec 32 := 512#32
  let v785 : BitVec 32 := Scalar.muli v784 c512_i32_483
  v785
def k0_mult18 (i : grid0.Coords) (k0_t1 : Fin (k0_t1_loop i).trips) : BitVec 32 :=
  let c2_i32_390 : BitVec 32 := 2#32
  let c2_i32_388 : BitVec 32 := 2#32
  let c0_i32_76 : BitVec 32 := 0#32
  let c1_i32_78 : BitVec 32 := 1#32
  let arg12 : BitVec 32 := Scf.iv c0_i32_76 c1_i32_78 k0_t1
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c1_i32_494 : BitVec 32 := 1#32
  let v800 : BitVec 32 := Scalar.addi v605 c1_i32_494
  let c512_i32_495 : BitVec 32 := 512#32
  let v801 : BitVec 32 := Scalar.muli v800 c512_i32_495
  v801
@[reducible] def k0_t2_loop (i : grid0.Coords) : Scf.Loop 32 :=
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let v100 : BitVec 32 := Scalar.addi c0_i32_76 v99
  let c1_i32_79 : BitVec 32 := 1#32
  ⟨v103, v100, c1_i32_79⟩
def k0_mult19 (i : grid0.Coords) (k0_t2 : Fin (k0_t2_loop i).trips) : BitVec 32 :=
  let c2_i32_265 : BitVec 32 := 2#32
  let c2_i32_263 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c1_i32_266 : BitVec 32 := 1#32
  let v365 : BitVec 32 := Scalar.addi v364 c1_i32_266
  let c512_i32_267 : BitVec 32 := 512#32
  let v366 : BitVec 32 := Scalar.muli v365 c512_i32_267
  v366
def k0_off7 (i : grid0.Coords) (k0_t2 : Fin (k0_t2_loop i).trips) (c0_i32_264 : BitVec 32) (c1_i32_266 : BitVec 32) : Fin 3 → Nat :=
  let c0_268 : Index := 0#32
  let c2_i32_265 : BitVec 32 := 2#32
  let c2_i32_263 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v362 : BitVec 32 := Scalar.muli c2_i32_263 arg12
  let v363 : BitVec 32 := Scalar.addi v362 c0_i32_264
  let v364 : BitVec 32 := Scalar.muli c2_i32_265 v363
  let v365 : BitVec 32 := Scalar.addi v364 c1_i32_266
  let c512_i32_267 : BitVec 32 := 512#32
  let v366 : BitVec 32 := Scalar.muli v365 c512_i32_267
  let v367 : BitVec 32 := v366
  let v368 : Index := Scalar.indexCast v367
  let c0_269 : Index := 0#32
  ![0, v368.toNat, 0]
def k0_mult20 (i : grid0.Coords) (k0_t2 : Fin (k0_t2_loop i).trips) : BitVec 32 :=
  let c2_i32_265 : BitVec 32 := 2#32
  let c2_i32_263 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c512_i32_278 : BitVec 32 := 512#32
  let v381 : BitVec 32 := Scalar.muli v364 c512_i32_278
  v381
def k0_off8 (i : grid0.Coords) (k0_t2 : Fin (k0_t2_loop i).trips) (c0_i32_264 : BitVec 32) : Fin 3 → Nat :=
  let c0_279 : Index := 0#32
  let c0_280 : Index := 0#32
  let c2_i32_265 : BitVec 32 := 2#32
  let c2_i32_263 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v362 : BitVec 32 := Scalar.muli c2_i32_263 arg12
  let v363 : BitVec 32 := Scalar.addi v362 c0_i32_264
  let v364 : BitVec 32 := Scalar.muli c2_i32_265 v363
  let c512_i32_278 : BitVec 32 := 512#32
  let v381 : BitVec 32 := Scalar.muli v364 c512_i32_278
  let v382 : BitVec 32 := v381
  let v383 : Index := Scalar.indexCast v382
  ![0, 0, v383.toNat]
def k0_mult21 (i : grid0.Coords) (k0_t2 : Fin (k0_t2_loop i).trips) : BitVec 32 :=
  let c2_i32_265 : BitVec 32 := 2#32
  let c2_i32_263 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c2_i32_296 : BitVec 32 := 2#32
  let v424 : BitVec 32 := Scalar.addi v364 c2_i32_296
  let c512_i32_297 : BitVec 32 := 512#32
  let v425 : BitVec 32 := Scalar.muli v424 c512_i32_297
  v425
def k0_mult22 (i : grid0.Coords) (k0_t2 : Fin (k0_t2_loop i).trips) : BitVec 32 :=
  let c2_i32_265 : BitVec 32 := 2#32
  let c2_i32_263 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c1_i32_308 : BitVec 32 := 1#32
  let v440 : BitVec 32 := Scalar.addi v364 c1_i32_308
  let c512_i32_309 : BitVec 32 := 512#32
  let v441 : BitVec 32 := Scalar.muli v440 c512_i32_309
  v441
def k0_off9 (i : grid0.Coords) (k0_t2 : Fin (k0_t2_loop i).trips) (c0_i32_264 : BitVec 32) : Fin 3 → Nat :=
  let c0_310 : Index := 0#32
  let c0_311 : Index := 0#32
  let c2_i32_265 : BitVec 32 := 2#32
  let c2_i32_263 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v362 : BitVec 32 := Scalar.muli c2_i32_263 arg12
  let v363 : BitVec 32 := Scalar.addi v362 c0_i32_264
  let v364 : BitVec 32 := Scalar.muli c2_i32_265 v363
  let c1_i32_308 : BitVec 32 := 1#32
  let v440 : BitVec 32 := Scalar.addi v364 c1_i32_308
  let c512_i32_309 : BitVec 32 := 512#32
  let v441 : BitVec 32 := Scalar.muli v440 c512_i32_309
  let v442 : BitVec 32 := v441
  let v443 : Index := Scalar.indexCast v442
  ![0, 0, v443.toNat]
def k0_mult23 (i : grid0.Coords) (k0_t2 : Fin (k0_t2_loop i).trips) : BitVec 32 :=
  let c2_i32_265 : BitVec 32 := 2#32
  let c2_i32_263 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c1_i32_327 : BitVec 32 := 1#32
  let v484 : BitVec 32 := Scalar.addi v364 c1_i32_327
  let c512_i32_328 : BitVec 32 := 512#32
  let v485 : BitVec 32 := Scalar.muli v484 c512_i32_328
  v485
def k0_off10 (i : grid0.Coords) (k0_t2 : Fin (k0_t2_loop i).trips) (c0_i32_264 : BitVec 32) (c1_i32_327 : BitVec 32) : Fin 3 → Nat :=
  let c1_329 : Index := 1#32
  let c2_i32_265 : BitVec 32 := 2#32
  let c2_i32_263 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v362 : BitVec 32 := Scalar.muli c2_i32_263 arg12
  let v363 : BitVec 32 := Scalar.addi v362 c0_i32_264
  let v364 : BitVec 32 := Scalar.muli c2_i32_265 v363
  let v484 : BitVec 32 := Scalar.addi v364 c1_i32_327
  let c512_i32_328 : BitVec 32 := 512#32
  let v485 : BitVec 32 := Scalar.muli v484 c512_i32_328
  let v486 : BitVec 32 := v485
  let v487 : Index := Scalar.indexCast v486
  let c0_330 : Index := 0#32
  ![1, v487.toNat, 0]
def k0_mult24 (i : grid0.Coords) (k0_t2 : Fin (k0_t2_loop i).trips) : BitVec 32 :=
  let c2_i32_265 : BitVec 32 := 2#32
  let c2_i32_263 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c512_i32_339 : BitVec 32 := 512#32
  let v500 : BitVec 32 := Scalar.muli v364 c512_i32_339
  v500
def k0_off11 (i : grid0.Coords) (k0_t2 : Fin (k0_t2_loop i).trips) (c0_i32_264 : BitVec 32) : Fin 3 → Nat :=
  let c1_340 : Index := 1#32
  let c0_341 : Index := 0#32
  let c2_i32_265 : BitVec 32 := 2#32
  let c2_i32_263 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v362 : BitVec 32 := Scalar.muli c2_i32_263 arg12
  let v363 : BitVec 32 := Scalar.addi v362 c0_i32_264
  let v364 : BitVec 32 := Scalar.muli c2_i32_265 v363
  let c512_i32_339 : BitVec 32 := 512#32
  let v500 : BitVec 32 := Scalar.muli v364 c512_i32_339
  let v501 : BitVec 32 := v500
  let v502 : Index := Scalar.indexCast v501
  ![1, 0, v502.toNat]
def k0_mult25 (i : grid0.Coords) (k0_t2 : Fin (k0_t2_loop i).trips) : BitVec 32 :=
  let c2_i32_265 : BitVec 32 := 2#32
  let c2_i32_263 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c2_i32_357 : BitVec 32 := 2#32
  let v543 : BitVec 32 := Scalar.addi v364 c2_i32_357
  let c512_i32_358 : BitVec 32 := 512#32
  let v544 : BitVec 32 := Scalar.muli v543 c512_i32_358
  v544
def k0_mult26 (i : grid0.Coords) (k0_t2 : Fin (k0_t2_loop i).trips) : BitVec 32 :=
  let c2_i32_265 : BitVec 32 := 2#32
  let c2_i32_263 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v362 : BitVec 32 := Scalar.muli c2_i32_263 arg12
  let c0_i32_264 : BitVec 32 := 0#32
  let v363 : BitVec 32 := Scalar.addi v362 c0_i32_264
  let v364 : BitVec 32 := Scalar.muli c2_i32_265 v363
  let c1_i32_369 : BitVec 32 := 1#32
  let v559 : BitVec 32 := Scalar.addi v364 c1_i32_369
  let c512_i32_370 : BitVec 32 := 512#32
  let v560 : BitVec 32 := Scalar.muli v559 c512_i32_370
  v560
def k0_off12 (i : grid0.Coords) (k0_t2 : Fin (k0_t2_loop i).trips) (c0_i32_264 : BitVec 32) : Fin 3 → Nat :=
  let c1_371 : Index := 1#32
  let c0_372 : Index := 0#32
  let c2_i32_265 : BitVec 32 := 2#32
  let c2_i32_263 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v362 : BitVec 32 := Scalar.muli c2_i32_263 arg12
  let v363 : BitVec 32 := Scalar.addi v362 c0_i32_264
  let v364 : BitVec 32 := Scalar.muli c2_i32_265 v363
  let c1_i32_369 : BitVec 32 := 1#32
  let v559 : BitVec 32 := Scalar.addi v364 c1_i32_369
  let c512_i32_370 : BitVec 32 := 512#32
  let v560 : BitVec 32 := Scalar.muli v559 c512_i32_370
  let v561 : BitVec 32 := v560
  let v562 : Index := Scalar.indexCast v561
  ![1, 0, v562.toNat]
def k0_mult27 (i : grid0.Coords) (k0_t2 : Fin (k0_t2_loop i).trips) : BitVec 32 :=
  let c2_i32_390 : BitVec 32 := 2#32
  let c2_i32_388 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c1_i32_391 : BitVec 32 := 1#32
  let v606 : BitVec 32 := Scalar.addi v605 c1_i32_391
  let c512_i32_392 : BitVec 32 := 512#32
  let v607 : BitVec 32 := Scalar.muli v606 c512_i32_392
  v607
def k0_mult28 (i : grid0.Coords) (k0_t2 : Fin (k0_t2_loop i).trips) : BitVec 32 :=
  let c2_i32_390 : BitVec 32 := 2#32
  let c2_i32_388 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c512_i32_403 : BitVec 32 := 512#32
  let v622 : BitVec 32 := Scalar.muli v605 c512_i32_403
  v622
def k0_mult29 (i : grid0.Coords) (k0_t2 : Fin (k0_t2_loop i).trips) : BitVec 32 :=
  let c2_i32_390 : BitVec 32 := 2#32
  let c2_i32_388 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c2_i32_421 : BitVec 32 := 2#32
  let v665 : BitVec 32 := Scalar.addi v605 c2_i32_421
  let c512_i32_422 : BitVec 32 := 512#32
  let v666 : BitVec 32 := Scalar.muli v665 c512_i32_422
  v666
def k0_mult30 (i : grid0.Coords) (k0_t2 : Fin (k0_t2_loop i).trips) : BitVec 32 :=
  let c2_i32_390 : BitVec 32 := 2#32
  let c2_i32_388 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c1_i32_433 : BitVec 32 := 1#32
  let v681 : BitVec 32 := Scalar.addi v605 c1_i32_433
  let c512_i32_434 : BitVec 32 := 512#32
  let v682 : BitVec 32 := Scalar.muli v681 c512_i32_434
  v682
def k0_mult31 (i : grid0.Coords) (k0_t2 : Fin (k0_t2_loop i).trips) : BitVec 32 :=
  let c2_i32_390 : BitVec 32 := 2#32
  let c2_i32_388 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c1_i32_452 : BitVec 32 := 1#32
  let v725 : BitVec 32 := Scalar.addi v605 c1_i32_452
  let c512_i32_453 : BitVec 32 := 512#32
  let v726 : BitVec 32 := Scalar.muli v725 c512_i32_453
  v726
def k0_mult32 (i : grid0.Coords) (k0_t2 : Fin (k0_t2_loop i).trips) : BitVec 32 :=
  let c2_i32_390 : BitVec 32 := 2#32
  let c2_i32_388 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c512_i32_464 : BitVec 32 := 512#32
  let v741 : BitVec 32 := Scalar.muli v605 c512_i32_464
  v741
def k0_mult33 (i : grid0.Coords) (k0_t2 : Fin (k0_t2_loop i).trips) : BitVec 32 :=
  let c2_i32_390 : BitVec 32 := 2#32
  let c2_i32_388 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c2_i32_482 : BitVec 32 := 2#32
  let v784 : BitVec 32 := Scalar.addi v605 c2_i32_482
  let c512_i32_483 : BitVec 32 := 512#32
  let v785 : BitVec 32 := Scalar.muli v784 c512_i32_483
  v785
def k0_mult34 (i : grid0.Coords) (k0_t2 : Fin (k0_t2_loop i).trips) : BitVec 32 :=
  let c2_i32_390 : BitVec 32 := 2#32
  let c2_i32_388 : BitVec 32 := 2#32
  let c0_i32_76 : BitVec 32 := 0#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let v99 : BitVec 32 := Scalar.subi v98 c0_i32_76
  let c1_i32_77 : BitVec 32 := 1#32
  let v101 : BitVec 32 := Scalar.divsi v99 c1_i32_77
  let v102 : BitVec 32 := Scalar.muli v101 c1_i32_77
  let v103 : BitVec 32 := Scalar.addi c0_i32_76 v102
  let c1_i32_79 : BitVec 32 := 1#32
  let arg12 : BitVec 32 := Scf.iv v103 c1_i32_79 k0_t2
  let v603 : BitVec 32 := Scalar.muli c2_i32_388 arg12
  let c1_i32_389 : BitVec 32 := 1#32
  let v604 : BitVec 32 := Scalar.addi v603 c1_i32_389
  let v605 : BitVec 32 := Scalar.muli c2_i32_390 v604
  let c1_i32_494 : BitVec 32 := 1#32
  let v800 : BitVec 32 := Scalar.addi v605 c1_i32_494
  let c512_i32_495 : BitVec 32 := 512#32
  let v801 : BitVec 32 := Scalar.muli v800 c512_i32_495
  v801
def k0_cond1 (i : grid0.Coords) : BitVec 1 :=
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_80 : BitVec 32 := 2#32
  let v104 : BitVec 32 := Scalar.muli v98 c2_i32_80
  let c0_i32_81 : BitVec 32 := 0#32
  let v105 : BitVec 32 := Scalar.addi v104 c0_i32_81
  let v106 : BitVec 1 := Scalar.cmpi .slt v105 v81
  let v107 : BitVec 32 := Scalar.extui v106
  let c0_i32_92 : BitVec 32 := 0#32
  let v108 : BitVec 1 := Scalar.cmpi .ne v107 c0_i32_92
  v108

def k0_mult35 (i : grid0.Coords) : BitVec 32 :=
  let c2_i32_265 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_263 : BitVec 32 := 2#32
  let v362 : BitVec 32 := Scalar.muli v98 c2_i32_263
  let c0_i32_264 : BitVec 32 := 0#32
  let v363 : BitVec 32 := Scalar.addi v362 c0_i32_264
  let v364 : BitVec 32 := Scalar.muli c2_i32_265 v363
  let c1_i32_266 : BitVec 32 := 1#32
  let v365 : BitVec 32 := Scalar.addi v364 c1_i32_266
  let c512_i32_267 : BitVec 32 := 512#32
  let v366 : BitVec 32 := Scalar.muli v365 c512_i32_267
  v366
def k0_off13 (i : grid0.Coords) (c1_i32_266 : BitVec 32) : Fin 3 → Nat :=
  let c0_268 : Index := 0#32
  let c2_i32_265 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_263 : BitVec 32 := 2#32
  let v362 : BitVec 32 := Scalar.muli v98 c2_i32_263
  let c0_i32_264 : BitVec 32 := 0#32
  let v363 : BitVec 32 := Scalar.addi v362 c0_i32_264
  let v364 : BitVec 32 := Scalar.muli c2_i32_265 v363
  let v365 : BitVec 32 := Scalar.addi v364 c1_i32_266
  let c512_i32_267 : BitVec 32 := 512#32
  let v366 : BitVec 32 := Scalar.muli v365 c512_i32_267
  let v367 : BitVec 32 := v366
  let v368 : Index := Scalar.indexCast v367
  let c0_269 : Index := 0#32
  ![0, v368.toNat, 0]
def k0_mult36 (i : grid0.Coords) : BitVec 32 :=
  let c2_i32_265 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_263 : BitVec 32 := 2#32
  let v362 : BitVec 32 := Scalar.muli v98 c2_i32_263
  let c0_i32_264 : BitVec 32 := 0#32
  let v363 : BitVec 32 := Scalar.addi v362 c0_i32_264
  let v364 : BitVec 32 := Scalar.muli c2_i32_265 v363
  let c512_i32_278 : BitVec 32 := 512#32
  let v381 : BitVec 32 := Scalar.muli v364 c512_i32_278
  v381
def k0_off14 (i : grid0.Coords) : Fin 3 → Nat :=
  let c0_279 : Index := 0#32
  let c0_280 : Index := 0#32
  let c2_i32_265 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_263 : BitVec 32 := 2#32
  let v362 : BitVec 32 := Scalar.muli v98 c2_i32_263
  let c0_i32_264 : BitVec 32 := 0#32
  let v363 : BitVec 32 := Scalar.addi v362 c0_i32_264
  let v364 : BitVec 32 := Scalar.muli c2_i32_265 v363
  let c512_i32_278 : BitVec 32 := 512#32
  let v381 : BitVec 32 := Scalar.muli v364 c512_i32_278
  let v382 : BitVec 32 := v381
  let v383 : Index := Scalar.indexCast v382
  ![0, 0, v383.toNat]
def k0_mult37 (i : grid0.Coords) : BitVec 32 :=
  let c2_i32_265 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_263 : BitVec 32 := 2#32
  let v362 : BitVec 32 := Scalar.muli v98 c2_i32_263
  let c0_i32_264 : BitVec 32 := 0#32
  let v363 : BitVec 32 := Scalar.addi v362 c0_i32_264
  let v364 : BitVec 32 := Scalar.muli c2_i32_265 v363
  let c2_i32_296 : BitVec 32 := 2#32
  let v424 : BitVec 32 := Scalar.addi v364 c2_i32_296
  let c512_i32_297 : BitVec 32 := 512#32
  let v425 : BitVec 32 := Scalar.muli v424 c512_i32_297
  v425
def k0_mult38 (i : grid0.Coords) : BitVec 32 :=
  let c2_i32_265 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_263 : BitVec 32 := 2#32
  let v362 : BitVec 32 := Scalar.muli v98 c2_i32_263
  let c0_i32_264 : BitVec 32 := 0#32
  let v363 : BitVec 32 := Scalar.addi v362 c0_i32_264
  let v364 : BitVec 32 := Scalar.muli c2_i32_265 v363
  let c1_i32_308 : BitVec 32 := 1#32
  let v440 : BitVec 32 := Scalar.addi v364 c1_i32_308
  let c512_i32_309 : BitVec 32 := 512#32
  let v441 : BitVec 32 := Scalar.muli v440 c512_i32_309
  v441
def k0_off15 (i : grid0.Coords) : Fin 3 → Nat :=
  let c0_310 : Index := 0#32
  let c0_311 : Index := 0#32
  let c2_i32_265 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_263 : BitVec 32 := 2#32
  let v362 : BitVec 32 := Scalar.muli v98 c2_i32_263
  let c0_i32_264 : BitVec 32 := 0#32
  let v363 : BitVec 32 := Scalar.addi v362 c0_i32_264
  let v364 : BitVec 32 := Scalar.muli c2_i32_265 v363
  let c1_i32_308 : BitVec 32 := 1#32
  let v440 : BitVec 32 := Scalar.addi v364 c1_i32_308
  let c512_i32_309 : BitVec 32 := 512#32
  let v441 : BitVec 32 := Scalar.muli v440 c512_i32_309
  let v442 : BitVec 32 := v441
  let v443 : Index := Scalar.indexCast v442
  ![0, 0, v443.toNat]
def k0_mult39 (i : grid0.Coords) : BitVec 32 :=
  let c2_i32_265 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_263 : BitVec 32 := 2#32
  let v362 : BitVec 32 := Scalar.muli v98 c2_i32_263
  let c0_i32_264 : BitVec 32 := 0#32
  let v363 : BitVec 32 := Scalar.addi v362 c0_i32_264
  let v364 : BitVec 32 := Scalar.muli c2_i32_265 v363
  let c1_i32_327 : BitVec 32 := 1#32
  let v484 : BitVec 32 := Scalar.addi v364 c1_i32_327
  let c512_i32_328 : BitVec 32 := 512#32
  let v485 : BitVec 32 := Scalar.muli v484 c512_i32_328
  v485
def k0_off16 (i : grid0.Coords) (c1_i32_327 : BitVec 32) : Fin 3 → Nat :=
  let c1_329 : Index := 1#32
  let c2_i32_265 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_263 : BitVec 32 := 2#32
  let v362 : BitVec 32 := Scalar.muli v98 c2_i32_263
  let c0_i32_264 : BitVec 32 := 0#32
  let v363 : BitVec 32 := Scalar.addi v362 c0_i32_264
  let v364 : BitVec 32 := Scalar.muli c2_i32_265 v363
  let v484 : BitVec 32 := Scalar.addi v364 c1_i32_327
  let c512_i32_328 : BitVec 32 := 512#32
  let v485 : BitVec 32 := Scalar.muli v484 c512_i32_328
  let v486 : BitVec 32 := v485
  let v487 : Index := Scalar.indexCast v486
  let c0_330 : Index := 0#32
  ![1, v487.toNat, 0]
def k0_mult40 (i : grid0.Coords) : BitVec 32 :=
  let c2_i32_265 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_263 : BitVec 32 := 2#32
  let v362 : BitVec 32 := Scalar.muli v98 c2_i32_263
  let c0_i32_264 : BitVec 32 := 0#32
  let v363 : BitVec 32 := Scalar.addi v362 c0_i32_264
  let v364 : BitVec 32 := Scalar.muli c2_i32_265 v363
  let c512_i32_339 : BitVec 32 := 512#32
  let v500 : BitVec 32 := Scalar.muli v364 c512_i32_339
  v500
def k0_off17 (i : grid0.Coords) : Fin 3 → Nat :=
  let c1_340 : Index := 1#32
  let c0_341 : Index := 0#32
  let c2_i32_265 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_263 : BitVec 32 := 2#32
  let v362 : BitVec 32 := Scalar.muli v98 c2_i32_263
  let c0_i32_264 : BitVec 32 := 0#32
  let v363 : BitVec 32 := Scalar.addi v362 c0_i32_264
  let v364 : BitVec 32 := Scalar.muli c2_i32_265 v363
  let c512_i32_339 : BitVec 32 := 512#32
  let v500 : BitVec 32 := Scalar.muli v364 c512_i32_339
  let v501 : BitVec 32 := v500
  let v502 : Index := Scalar.indexCast v501
  ![1, 0, v502.toNat]
def k0_mult41 (i : grid0.Coords) : BitVec 32 :=
  let c2_i32_265 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_263 : BitVec 32 := 2#32
  let v362 : BitVec 32 := Scalar.muli v98 c2_i32_263
  let c0_i32_264 : BitVec 32 := 0#32
  let v363 : BitVec 32 := Scalar.addi v362 c0_i32_264
  let v364 : BitVec 32 := Scalar.muli c2_i32_265 v363
  let c2_i32_357 : BitVec 32 := 2#32
  let v543 : BitVec 32 := Scalar.addi v364 c2_i32_357
  let c512_i32_358 : BitVec 32 := 512#32
  let v544 : BitVec 32 := Scalar.muli v543 c512_i32_358
  v544
def k0_mult42 (i : grid0.Coords) : BitVec 32 :=
  let c2_i32_265 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_263 : BitVec 32 := 2#32
  let v362 : BitVec 32 := Scalar.muli v98 c2_i32_263
  let c0_i32_264 : BitVec 32 := 0#32
  let v363 : BitVec 32 := Scalar.addi v362 c0_i32_264
  let v364 : BitVec 32 := Scalar.muli c2_i32_265 v363
  let c1_i32_369 : BitVec 32 := 1#32
  let v559 : BitVec 32 := Scalar.addi v364 c1_i32_369
  let c512_i32_370 : BitVec 32 := 512#32
  let v560 : BitVec 32 := Scalar.muli v559 c512_i32_370
  v560
def k0_off18 (i : grid0.Coords) : Fin 3 → Nat :=
  let c1_371 : Index := 1#32
  let c0_372 : Index := 0#32
  let c2_i32_265 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let c0_i32_59 : BitVec 32 := 0#32
  let v83 : BitVec 1 := Scalar.cmpi .sgt v81 c0_i32_59
  let v84 : BitVec 32 := Scalar.extui v83
  let c0_i32_60 : BitVec 32 := 0#32
  let v85 : BitVec 1 := Scalar.cmpi .slt v81 c0_i32_60
  let v86 : BitVec 32 := Scalar.extui v85
  let v87 : BitVec 32 := Scalar.subi v84 v86
  let c2_i32_58 : BitVec 32 := 2#32
  let c0_i32_61 : BitVec 32 := 0#32
  let v88 : BitVec 1 := Scalar.cmpi .sgt c2_i32_58 c0_i32_61
  let v89 : BitVec 32 := Scalar.extui v88
  let c0_i32_62 : BitVec 32 := 0#32
  let v90 : BitVec 1 := Scalar.cmpi .slt c2_i32_58 c0_i32_62
  let v91 : BitVec 32 := Scalar.extui v90
  let v92 : BitVec 32 := Scalar.subi v89 v91
  let v93 : BitVec 1 := Scalar.cmpi .ne v87 v92
  let v94 : BitVec 32 := Scalar.remsi v81 c2_i32_58
  let c0_i32_63 : BitVec 32 := 0#32
  let v95 : BitVec 1 := Scalar.cmpi .ne v94 c0_i32_63
  let v96 : BitVec 1 := Scalar.andi v93 v95
  let v82 : BitVec 32 := Scalar.divsi v81 c2_i32_58
  let c1_i32_64 : BitVec 32 := 1#32
  let v97 : BitVec 32 := Scalar.subi v82 c1_i32_64
  let v98 : BitVec 32 := Scalar.select v96 v97 v82
  let c2_i32_263 : BitVec 32 := 2#32
  let v362 : BitVec 32 := Scalar.muli v98 c2_i32_263
  let c0_i32_264 : BitVec 32 := 0#32
  let v363 : BitVec 32 := Scalar.addi v362 c0_i32_264
  let v364 : BitVec 32 := Scalar.muli c2_i32_265 v363
  let c1_i32_369 : BitVec 32 := 1#32
  let v559 : BitVec 32 := Scalar.addi v364 c1_i32_369
  let c512_i32_370 : BitVec 32 := 512#32
  let v560 : BitVec 32 := Scalar.muli v559 c512_i32_370
  let v561 : BitVec 32 := v560
  let v562 : Index := Scalar.indexCast v561
  ![1, 0, v562.toNat]
def k0_mult43 (i : grid0.Coords) : BitVec 32 :=
  let c2_i32_93 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let v109 : BitVec 32 := Scalar.muli c2_i32_93 v81
  let c512_i32_98 : BitVec 32 := 512#32
  let v121 : BitVec 32 := Scalar.muli v109 c512_i32_98
  v121
def k0_off19 (i : grid0.Coords) : Fin 3 → Nat :=
  let c0_99 : Index := 0#32
  let c0_100 : Index := 0#32
  let c2_i32_93 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let v109 : BitVec 32 := Scalar.muli c2_i32_93 v81
  let c512_i32_98 : BitVec 32 := 512#32
  let v121 : BitVec 32 := Scalar.muli v109 c512_i32_98
  let v122 : BitVec 32 := v121
  let v123 : Index := Scalar.indexCast v122
  ![0, 0, v123.toNat]
def k0_mult44 (i : grid0.Coords) : BitVec 32 :=
  let c2_i32_93 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let v109 : BitVec 32 := Scalar.muli c2_i32_93 v81
  let c1_i32_124 : BitVec 32 := 1#32
  let v167 : BitVec 32 := Scalar.addi v109 c1_i32_124
  let c512_i32_125 : BitVec 32 := 512#32
  let v168 : BitVec 32 := Scalar.muli v167 c512_i32_125
  v168
def k0_off20 (i : grid0.Coords) : Fin 3 → Nat :=
  let c0_126 : Index := 0#32
  let c2_i32_93 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let v109 : BitVec 32 := Scalar.muli c2_i32_93 v81
  let c1_i32_124 : BitVec 32 := 1#32
  let v167 : BitVec 32 := Scalar.addi v109 c1_i32_124
  let c512_i32_125 : BitVec 32 := 512#32
  let v168 : BitVec 32 := Scalar.muli v167 c512_i32_125
  let v169 : BitVec 32 := v168
  let v170 : Index := Scalar.indexCast v169
  let c0_127 : Index := 0#32
  ![0, v170.toNat, 0]
def k0_mult45 (i : grid0.Coords) : BitVec 32 :=
  let c2_i32_93 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let v109 : BitVec 32 := Scalar.muli c2_i32_93 v81
  let c1_i32_132 : BitVec 32 := 1#32
  let v178 : BitVec 32 := Scalar.addi v109 c1_i32_132
  let c512_i32_133 : BitVec 32 := 512#32
  let v179 : BitVec 32 := Scalar.muli v178 c512_i32_133
  v179
def k0_off21 (i : grid0.Coords) : Fin 3 → Nat :=
  let c0_134 : Index := 0#32
  let c0_135 : Index := 0#32
  let c2_i32_93 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let v109 : BitVec 32 := Scalar.muli c2_i32_93 v81
  let c1_i32_132 : BitVec 32 := 1#32
  let v178 : BitVec 32 := Scalar.addi v109 c1_i32_132
  let c512_i32_133 : BitVec 32 := 512#32
  let v179 : BitVec 32 := Scalar.muli v178 c512_i32_133
  let v180 : BitVec 32 := v179
  let v181 : Index := Scalar.indexCast v180
  ![0, 0, v181.toNat]
def k0_mult46 (i : grid0.Coords) : BitVec 32 :=
  let c2_i32_93 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let v109 : BitVec 32 := Scalar.muli c2_i32_93 v81
  let c512_i32_174 : BitVec 32 := 512#32
  let v236 : BitVec 32 := Scalar.muli v109 c512_i32_174
  v236
def k0_off22 (i : grid0.Coords) : Fin 3 → Nat :=
  let c1_175 : Index := 1#32
  let c0_176 : Index := 0#32
  let c2_i32_93 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let v109 : BitVec 32 := Scalar.muli c2_i32_93 v81
  let c512_i32_174 : BitVec 32 := 512#32
  let v236 : BitVec 32 := Scalar.muli v109 c512_i32_174
  let v237 : BitVec 32 := v236
  let v238 : Index := Scalar.indexCast v237
  ![1, 0, v238.toNat]
def k0_mult47 (i : grid0.Coords) : BitVec 32 :=
  let c2_i32_93 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let v109 : BitVec 32 := Scalar.muli c2_i32_93 v81
  let c1_i32_200 : BitVec 32 := 1#32
  let v282 : BitVec 32 := Scalar.addi v109 c1_i32_200
  let c512_i32_201 : BitVec 32 := 512#32
  let v283 : BitVec 32 := Scalar.muli v282 c512_i32_201
  v283
def k0_off23 (i : grid0.Coords) : Fin 3 → Nat :=
  let c1_202 : Index := 1#32
  let c2_i32_93 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let v109 : BitVec 32 := Scalar.muli c2_i32_93 v81
  let c1_i32_200 : BitVec 32 := 1#32
  let v282 : BitVec 32 := Scalar.addi v109 c1_i32_200
  let c512_i32_201 : BitVec 32 := 512#32
  let v283 : BitVec 32 := Scalar.muli v282 c512_i32_201
  let v284 : BitVec 32 := v283
  let v285 : Index := Scalar.indexCast v284
  let c0_203 : Index := 0#32
  ![1, v285.toNat, 0]
def k0_mult48 (i : grid0.Coords) : BitVec 32 :=
  let c2_i32_93 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let v109 : BitVec 32 := Scalar.muli c2_i32_93 v81
  let c1_i32_209 : BitVec 32 := 1#32
  let v293 : BitVec 32 := Scalar.addi v109 c1_i32_209
  let c512_i32_210 : BitVec 32 := 512#32
  let v294 : BitVec 32 := Scalar.muli v293 c512_i32_210
  v294
def k0_off24 (i : grid0.Coords) : Fin 3 → Nat :=
  let c1_211 : Index := 1#32
  let c0_212 : Index := 0#32
  let c2_i32_93 : BitVec 32 := 2#32
  let arg1 : BitVec 32 := BitVec.ofNat 32 (i 1).val
  let c2_i32 : BitVec 32 := 2#32
  let v20 : BitVec 32 := Scalar.muli arg1 c2_i32
  let c0_i32_53 : BitVec 32 := 0#32
  let v66 : BitVec 1 := Scalar.cmpi .sgt v20 c0_i32_53
  let v67 : BitVec 32 := Scalar.extui v66
  let c0_i32_54 : BitVec 32 := 0#32
  let v68 : BitVec 1 := Scalar.cmpi .slt v20 c0_i32_54
  let v69 : BitVec 32 := Scalar.extui v68
  let v70 : BitVec 32 := Scalar.subi v67 v69
  let c2_i32_52 : BitVec 32 := 2#32
  let c0_i32_55 : BitVec 32 := 0#32
  let v71 : BitVec 1 := Scalar.cmpi .sgt c2_i32_52 c0_i32_55
  let v72 : BitVec 32 := Scalar.extui v71
  let c0_i32_56 : BitVec 32 := 0#32
  let v73 : BitVec 1 := Scalar.cmpi .slt c2_i32_52 c0_i32_56
  let v74 : BitVec 32 := Scalar.extui v73
  let v75 : BitVec 32 := Scalar.subi v72 v74
  let v76 : BitVec 1 := Scalar.cmpi .ne v70 v75
  let v77 : BitVec 32 := Scalar.remsi v20 c2_i32_52
  let c0_i32_57 : BitVec 32 := 0#32
  let v78 : BitVec 1 := Scalar.cmpi .ne v77 c0_i32_57
  let v79 : BitVec 1 := Scalar.andi v76 v78
  let v65 : BitVec 32 := Scalar.divsi v20 c2_i32_52
  let c1_i32 : BitVec 32 := 1#32
  let v80 : BitVec 32 := Scalar.subi v65 c1_i32
  let v81 : BitVec 32 := Scalar.select v79 v80 v65
  let v109 : BitVec 32 := Scalar.muli c2_i32_93 v81
  let c1_i32_209 : BitVec 32 := 1#32
  let v293 : BitVec 32 := Scalar.addi v109 c1_i32_209
  let c512_i32_210 : BitVec 32 := 512#32
  let v294 : BitVec 32 := Scalar.muli v293 c512_i32_210
  let v295 : BitVec 32 := v294
  let v296 : Index := Scalar.indexCast v295
  ![1, 0, v296.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2x128x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== Reference.lean ====
abbrev S1x8x16384x128 : Shape := ⟨4, ![1, 8, 16384, 128]⟩
abbrev S1x8x16384x64 : Shape := ⟨4, ![1, 8, 16384, 64]⟩
abbrev S1x16384x64 : Shape := ⟨3, ![1, 16384, 64]⟩
abbrev S1x8x16384x16384 : Shape := ⟨4, ![1, 8, 16384, 16384]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S1x8x16384 : Shape := ⟨3, ![1, 8, 16384]⟩
abbrev S1x8x16384x1 : Shape := ⟨4, ![1, 8, 16384, 1]⟩
abbrev S1x16384x8x128 : Shape := ⟨4, ![1, 16384, 8, 128]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x8x16384x128, .f32⟩
  | .hbm, ⟨1, _⟩ => ⟨S1x8x16384x64, .f32⟩
  | .hbm, ⟨2, _⟩ => ⟨S1x8x16384x128, .f32⟩
  | .hbm, ⟨3, _⟩ => ⟨S1x16384x64, .f32⟩
  | .hbm, ⟨4, _⟩ => ⟨S1x8x16384x128, .f32⟩
  | .hbm, ⟨5, _⟩ => ⟨S1x8x16384x16384, .f32⟩
  | .hbm, ⟨6, _⟩ => ⟨S1x8x16384x16384, .f32⟩
  | .hbm, ⟨7, _⟩ => ⟨S1x8x16384x16384, .f32⟩
  | .hbm, ⟨8, _⟩ => ⟨S_, .f32⟩
  | .hbm, ⟨9, _⟩ => ⟨S1x8x16384x16384, .f32⟩
  | .hbm, ⟨10, _⟩ => ⟨S1x8x16384x16384, .f32⟩
  | .hbm, ⟨11, _⟩ => ⟨S16384, .i32⟩
  | .hbm, ⟨12, _⟩ => ⟨S16384x1, .i32⟩
  | .hbm, ⟨13, _⟩ => ⟨S1x16384, .i32⟩
  | .hbm, ⟨14, _⟩ => ⟨S16384x16384, .i32⟩
  | .hbm, ⟨15, _⟩ => ⟨S16384x16384, .i32⟩
  | .hbm, ⟨16, _⟩ => ⟨S16384x16384, .i1⟩
  | .hbm, ⟨17, _⟩ => ⟨S_, .f32⟩
  | .hbm, ⟨18, _⟩ => ⟨S_, .f32⟩
  | .hbm, ⟨19, _⟩ => ⟨S1x8x16384x16384, .i1⟩
  | .hbm, ⟨20, _⟩ => ⟨S1x8x16384x16384, .f32⟩
  | .hbm, ⟨21, _⟩ => ⟨S1x8x16384x16384, .f32⟩
  | .hbm, ⟨22, _⟩ => ⟨S_, .f32⟩
  | .hbm, ⟨23, _⟩ => ⟨S1x8x16384, .f32⟩
  | .hbm, ⟨24, _⟩ => ⟨S_, .f32⟩
  | .hbm, ⟨25, _⟩ => ⟨S1x8x16384, .f32⟩
  | .hbm, ⟨26, _⟩ => ⟨S1x8x16384, .f32⟩
  | .hbm, ⟨27, _⟩ => ⟨S1x8x16384x1, .f32⟩
  | .hbm, ⟨28, _⟩ => ⟨S1x8x16384x16384, .f32⟩
  | .hbm, ⟨29, _⟩ => ⟨S1x8x16384x16384, .f32⟩
  | .hbm, ⟨30, _⟩ => ⟨S1x8x16384x16384, .f32⟩
  | .hbm, ⟨31, _⟩ => ⟨S_, .f32⟩
  | .hbm, ⟨32, _⟩ => ⟨S1x8x16384, .f32⟩
  | .hbm, ⟨33, _⟩ => ⟨S1x8x16384x1, .f32⟩
  | .hbm, ⟨34, _⟩ => ⟨S1x8x16384x16384, .f32⟩
  | .hbm, ⟨35, _⟩ => ⟨S1x8x16384x16384, .f32⟩
  | .hbm, ⟨36, _⟩ => ⟨S1x8x16384x128, .f32⟩
  | .hbm, ⟨37, _⟩ => ⟨S1x16384x8x128, .f32⟩
  | .hbm, ⟨38, _⟩ => ⟨S16384x1024, .f32⟩
  | .hbm, ⟨39, _⟩ => ⟨S16384x1024, .bf16⟩
  | _, _ => ⟨S1x8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel2.lean ====
abbrev S1x16384x2048 : Shape := ⟨3, ![1, 16384, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 14
  | .smem => 0
  | _ => 0

abbrev bufTy : (tb : Table) → Fin (tcTables nBuf tb) → BufTy
  | .hbm, ⟨0, _⟩ => ⟨S1x16384x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S16384x2048, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .f32⟩
  | .hbm, ⟨12, _⟩ => ⟨S5632x2048, .bf16⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S1x16384x2048 : Shape := ⟨3, ![1, 16384, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S_ : Shape := ⟨0, ![]⟩
abbrev S2048x5632 : Shape := ⟨2, ![2048, 5632]⟩
abbrev S5632x2048 : Shape := ⟨2, ![5632, 2048]⟩
abbrev S1x16384x5632 : Shape := ⟨3, ![1, 16384, 5632]⟩
abbrev S2048 : Shape := ⟨1, ![2048]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩

abbrev nBuf : Space → Nat
  | .hbm => 61
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x16384x2048, .f32⟩
  | .hbm, ⟨8, _⟩ => ⟨S1x16384x2048, .f32⟩
  | .hbm, ⟨9, _⟩ => ⟨S2048x5632, .f32⟩
  | .hbm, ⟨10, _⟩ => ⟨S2048x5632, .f32⟩
  | .hbm, ⟨11, _⟩ => ⟨S5632x2048, .f32⟩
  | .hbm, ⟨12, _⟩ => ⟨S1x16384x5632, .f32⟩
  | .hbm, ⟨13, _⟩ => ⟨S1x16384x5632, .f32⟩
  | .hbm, ⟨14, _⟩ => ⟨S1x16384x5632, .f32⟩
  | .hbm, ⟨15, _⟩ => ⟨S_, .f32⟩
  | .hbm, ⟨16, _⟩ => ⟨S1x16384x5632, .f32⟩
  | .hbm, ⟨17, _⟩ => ⟨S1x16384x5632, .f32⟩
  | .hbm, ⟨18, _⟩ => ⟨S_, .f32⟩
  | .hbm, ⟨19, _⟩ => ⟨S1x16384x5632, .f32⟩
  | .hbm, ⟨20, _⟩ => ⟨S1x16384x5632, .f32⟩
  | .hbm, ⟨21, _⟩ => ⟨S1x16384x5632, .f32⟩
  | .hbm, ⟨22, _⟩ => ⟨S1x16384x5632, .f32⟩
  | .hbm, ⟨23, _⟩ => ⟨S1x16384x5632, .f32⟩
  | .hbm, ⟨24, _⟩ => ⟨S1x16384x2048, .f32⟩
  | .hbm, ⟨25, _⟩ => ⟨S_, .f32⟩
  | .hbm, ⟨26, _⟩ => ⟨S1x16384x2048, .f32⟩
  | .hbm, ⟨27, _⟩ => ⟨S1x16384x2048, .f32⟩
  | .hbm, ⟨28, _⟩ => ⟨S1x16384x2048, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S1x16384, .f32⟩
  | .hbm, ⟨33, _⟩ => ⟨S1x16384x1, .f32⟩
  | .hbm, ⟨34, _⟩ => ⟨S_, .f32⟩
  | .hbm, ⟨35, _⟩ => ⟨S1x16384x1, .f32⟩
  | .hbm, ⟨36, _⟩ => ⟨S1x16384x1, .f32⟩
  | .hbm, ⟨37, _⟩ => ⟨S1x16384x2048, .f32⟩
  | .hbm, ⟨38, _⟩ => ⟨S1x16384x2048, .f32⟩
  | .hbm, ⟨39, _⟩ => ⟨S1x16384x2048, .f32⟩
  | .hbm, ⟨40, _⟩ => ⟨S_, .f32⟩
  | .hbm, ⟨41, _⟩ => ⟨S1x16384, .f32⟩
  | .hbm, ⟨42, _⟩ => ⟨S1x16384x1, .f32⟩
  | .hbm, ⟨43, _⟩ => ⟨S_, .f32⟩
  | .hbm, ⟨44, _⟩ => ⟨S1x16384x1, .f32⟩
  | .hbm, ⟨45, _⟩ => ⟨S1x16384x1, .f32⟩
  | .hbm, ⟨46, _⟩ => ⟨S1x16384x2048, .f32⟩
  | .hbm, ⟨47, _⟩ => ⟨S1x16384x2048, .f32⟩
  | .hbm, ⟨48, _⟩ => ⟨S_, .f32⟩
  | .hbm, ⟨49, _⟩ => ⟨S1x16384x1, .f32⟩
  | .hbm, ⟨50, _⟩ => ⟨S1x16384x1, .f32⟩
  | .hbm, ⟨51, _⟩ => ⟨S1x16384x1, .f32⟩
  | .hbm, ⟨52, _⟩ => ⟨S1x16384x2048, .f32⟩
  | .hbm, ⟨53, _⟩ => ⟨S1x16384x2048, .f32⟩
  | .hbm, ⟨54, _⟩ => ⟨S1x1x2048, .f32⟩
  | .hbm, ⟨55, _⟩ => ⟨S1x16384x2048, .f32⟩
  | .hbm, ⟨56, _⟩ => ⟨S1x16384x2048, .f32⟩
  | .hbm, ⟨57, _⟩ => ⟨S1x1x2048, .f32⟩
  | .hbm, ⟨58, _⟩ => ⟨S1x16384x2048, .f32⟩
  | .hbm, ⟨59, _⟩ => ⟨S1x16384x2048, .f32⟩
  | .hbm, ⟨60, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel3.lean ====
abbrev S1x16384x1024 : Shape := ⟨3, ![1, 16384, 1024]⟩
abbrev S1x2048x2048 : Shape := ⟨3, ![1, 2048, 2048]⟩
abbrev S1x16384x2048 : Shape := ⟨3, ![1, 16384, 2048]⟩
abbrev S1x2048 : Shape := ⟨2, ![1, 2048]⟩
abbrev S2048x2048 : Shape := ⟨2, ![2048, 2048]⟩
abbrev S16384x1024 : Shape := ⟨2, ![16384, 1024]⟩
abbrev S1024x2048 : Shape := ⟨2, ![1024, 2048]⟩
abbrev S16384x2048 : Shape := ⟨2, ![16384, 2048]⟩
abbrev S2048 : Shape := ⟨1, ![2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 20
  | .vmem => 12
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x2048x2048, .f32⟩
  | .hbm, ⟨3, _⟩ => ⟨S1x16384x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x1024, .bf16⟩
  | .hbm, ⟨12, _⟩ => ⟨S1024x2048, .bf16⟩
  | .hbm, ⟨13, _⟩ => ⟨S1024x2048, .bf16⟩
  | .hbm, ⟨14, _⟩ => ⟨S16384x2048, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S1x16384x1024 : Shape := ⟨3, ![1, 16384, 1024]⟩
abbrev S1x2048x2048 : Shape := ⟨3, ![1, 2048, 2048]⟩
abbrev S1x16384x2048 : Shape := ⟨3, ![1, 16384, 2048]⟩
abbrev S1x2048 : Shape := ⟨2, ![1, 2048]⟩
abbrev S2048x2048 : Shape := ⟨2, ![2048, 2048]⟩
abbrev S_ : Shape := ⟨0, ![]⟩
abbrev S2048 : Shape := ⟨1, ![2048]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩

abbrev nBuf : Space → Nat
  | .hbm => 45
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x2048x2048, .f32⟩
  | .hbm, ⟨3, _⟩ => ⟨S1x16384x2048, .f32⟩
  | .hbm, ⟨4, _⟩ => ⟨S1x2048, .f32⟩
  | .hbm, ⟨5, _⟩ => ⟨S1x2048, .f32⟩
  | .hbm, ⟨6, _⟩ => ⟨S1x16384x2048, .f32⟩
  | .hbm, ⟨7, _⟩ => ⟨S2048x2048, .f32⟩
  | .hbm, ⟨8, _⟩ => ⟨S1x16384x2048, .f32⟩
  | .hbm, ⟨9, _⟩ => ⟨S_, .f32⟩
  | .hbm, ⟨10, _⟩ => ⟨S1x16384x2048, .f32⟩
  | .hbm, ⟨11, _⟩ => ⟨S1x16384x2048, .f32⟩
  | .hbm, ⟨12, _⟩ => ⟨S1x16384x2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S1x16384, .f32⟩
  | .hbm, ⟨17, _⟩ => ⟨S1x16384x1, .f32⟩
  | .hbm, ⟨18, _⟩ => ⟨S_, .f32⟩
  | .hbm, ⟨19, _⟩ => ⟨S1x16384x1, .f32⟩
  | .hbm, ⟨20, _⟩ => ⟨S1x16384x1, .f32⟩
  | .hbm, ⟨21, _⟩ => ⟨S1x16384x2048, .f32⟩
  | .hbm, ⟨22, _⟩ => ⟨S1x16384x2048, .f32⟩
  | .hbm, ⟨23, _⟩ => ⟨S1x16384x2048, .f32⟩
  | .hbm, ⟨24, _⟩ => ⟨S_, .f32⟩
  | .hbm, ⟨25, _⟩ => ⟨S1x16384, .f32⟩
  | .hbm, ⟨26, _⟩ => ⟨S1x16384x1, .f32⟩
  | .hbm, ⟨27, _⟩ => ⟨S_, .f32⟩
  | .hbm, ⟨28, _⟩ => ⟨S1x16384x1, .f32⟩
  | .hbm, ⟨29, _⟩ => ⟨S1x16384x1, .f32⟩
  | .hbm, ⟨30, _⟩ => ⟨S1x16384x2048, .f32⟩
  | .hbm, ⟨31, _⟩ => ⟨S1x16384x2048, .f32⟩
  | .hbm, ⟨32, _⟩ => ⟨S_, .f32⟩
  | .hbm, ⟨33, _⟩ => ⟨S1x16384x1, .f32⟩
  | .hbm, ⟨34, _⟩ => ⟨S1x16384x1, .f32⟩
  | .hbm, ⟨35, _⟩ => ⟨S1x16384x1, .f32⟩
  | .hbm, ⟨36, _⟩ => ⟨S1x16384x2048, .f32⟩
  | .hbm, ⟨37, _⟩ => ⟨S1x16384x2048, .f32⟩
  | .hbm, ⟨38, _⟩ => ⟨S1x1x2048, .f32⟩
  | .hbm, ⟨39, _⟩ => ⟨S1x16384x2048, .f32⟩
  | .hbm, ⟨40, _⟩ => ⟨S1x16384x2048, .f32⟩
  | .hbm, ⟨41, _⟩ => ⟨S1x1x2048, .f32⟩
  | .hbm, ⟨42, _⟩ => ⟨S1x16384x2048, .f32⟩
  | .hbm, ⟨43, _⟩ => ⟨S1x16384x2048, .f32⟩
  | .hbm, ⟨44, _⟩ => ⟨S16384x2048, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel4.lean ====
abbrev S1x2x16384x128 : Shape := ⟨4, ![1, 2, 16384, 128]⟩
abbrev S32x128 : Shape := ⟨2, ![32, 128]⟩
abbrev S4096x256 : Shape := ⟨2, ![4096, 256]⟩
abbrev S256x128 : Shape := ⟨2, ![256, 128]⟩
abbrev S2x1024x2048 : Shape := ⟨3, ![2, 1024, 2048]⟩
abbrev S1x4096 : Shape := ⟨2, ![1, 4096]⟩
abbrev S8x4096 : Shape := ⟨2, ![8, 4096]⟩
abbrev S2x1024x128 : Shape := ⟨3, ![2, 1024, 128]⟩
abbrev S1x1024x2048 : Shape := ⟨3, ![1, 1024, 2048]⟩
abbrev S1x1024x128 : Shape := ⟨3, ![1, 1024, 128]⟩
abbrev S1024x2048 : Shape := ⟨2, ![1024, 2048]⟩
abbrev S2048x256 : Shape := ⟨2, ![2048, 256]⟩
abbrev S1024x256 : Shape := ⟨2, ![1024, 256]⟩
abbrev S8x256 : Shape := ⟨2, ![8, 256]⟩
abbrev S1x256 : Shape := ⟨2, ![1, 256]⟩
abbrev S1024x128 : Shape := ⟨2, ![1024, 128]⟩
abbrev S2x1023x128 : Shape := ⟨3, ![2, 1023, 128]⟩

abbrev nBuf : Space → Nat
  | .hbm => 9
  | .vmem => 7
  | .smem => 0
  | _ => 0

abbrev bufTy : (tb : Table) → Fin (tcTables nBuf tb) → BufTy
  | .hbm, ⟨0, _⟩ => ⟨S1x2x16384x128, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S2x1024x2048, .f32⟩
  | .hbm, ⟨5, _⟩ => ⟨S1x4096, .f32⟩
  | .hbm, ⟨6, _⟩ => ⟨S8x4096, .f32⟩
  | .hbm, ⟨7, _⟩ => ⟨S2x1024x128, .bf16⟩
  | .hbm, ⟨8, _⟩ => ⟨S2x1023x128, .bf16⟩
  | .local _ .vmem, ⟨0, _⟩ => ⟨S1x1024x2048, .f32⟩
  | .local _ .vmem, ⟨1, _⟩ => ⟨S1x1024x2048, .f32⟩
  | .local _ .vmem, ⟨2, _⟩ => ⟨S8x4096, .f32⟩
  | .local _ .vmem, ⟨3, _⟩ => ⟨S4096x256, .f32⟩
  | .local _ .vmem, ⟨4, _⟩ => ⟨S256x128, .f32⟩
  | .local _ .vmem, ⟨5, _⟩ => ⟨S1x1024x128, .bf16⟩
  | .local _ .vmem, ⟨6, _⟩ => ⟨S1x1024x128, .bf16⟩
  | _, _ => ⟨S1x2x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S1x2x16384x128 : Shape := ⟨4, ![1, 2, 16384, 128]⟩
abbrev S32x128 : Shape := ⟨2, ![32, 128]⟩
abbrev S4096x256 : Shape := ⟨2, ![4096, 256]⟩
abbrev S256x128 : Shape := ⟨2, ![256, 128]⟩
abbrev S1023 : Shape := ⟨1, ![1023]⟩
abbrev S1023x1 : Shape := ⟨2, ![1023, 1]⟩
abbrev S_ : Shape := ⟨0, ![]⟩
abbrev S32 : Shape := ⟨1, ![32]⟩
abbrev S1x32 : Shape := ⟨2, ![1, 32]⟩
abbrev S1023x32 : Shape := ⟨2, ![1023, 32]⟩
abbrev S1023x32x1 : Shape := ⟨3, ![1023, 32, 1]⟩
abbrev S1x2x1023x32x128 : Shape := ⟨5, ![1, 2, 1023, 32, 128]⟩
abbrev S1x1x1x32x128 : Shape := ⟨5, ![1, 1, 1, 32, 128]⟩
abbrev S1x2x1023x4096 : Shape := ⟨4, ![1, 2, 1023, 4096]⟩
abbrev S1x2x1023x256 : Shape := ⟨4, ![1, 2, 1023, 256]⟩
abbrev S1x2x1023x128 : Shape := ⟨4, ![1, 2, 1023, 128]⟩
abbrev S2x1023x128 : Shape := ⟨3, ![2, 1023, 128]⟩

abbrev nBuf : Space → Nat
  | .hbm => 48
  | .vmem => 0
  | .smem => 0
  | _ => 0

abbrev bufTy : (tb : Table) → Fin (tcTables nBuf tb) → BufTy
  | .hbm, ⟨0, _⟩ => ⟨S1x2x16384x128, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S1023, .i32⟩
  | .hbm, ⟨5, _⟩ => ⟨S1023x1, .i32⟩
  | .hbm, ⟨6, _⟩ => ⟨S_, .i32⟩
  | .hbm, ⟨7, _⟩ => ⟨S1023x1, .i32⟩
  | .hbm, ⟨8, _⟩ => ⟨S1023x1, .i32⟩
  | .hbm, ⟨9, _⟩ => ⟨S32, .i32⟩
  | .hbm, ⟨10, _⟩ => ⟨S1x32, .i32⟩
  | .hbm, ⟨11, _⟩ => ⟨S1023x32, .i32⟩
  | .hbm, ⟨12, _⟩ => ⟨S1023x32, .i32⟩
  | .hbm, ⟨13, _⟩ => ⟨S1023x32, .i32⟩
  | .hbm, ⟨14, _⟩ => ⟨S_, .i32⟩
  | .hbm, ⟨15, _⟩ => ⟨S1023x32, .i32⟩
  | .hbm, ⟨16, _⟩ => ⟨S1023x32, .i1⟩
  | .hbm, ⟨17, _⟩ => ⟨S_, .i32⟩
  | .hbm, ⟨18, _⟩ => ⟨S1023x32, .i32⟩
  | .hbm, ⟨19, _⟩ => ⟨S1023x32, .i32⟩
  | .hbm, ⟨20, _⟩ => ⟨S1023x32, .i32⟩
  | .hbm, ⟨21, _⟩ => ⟨S1023x32x1, .i32⟩
  | .hbm, ⟨22, _⟩ => ⟨S1x2x1023x32x128, .f32⟩
  | .hbm, ⟨23, _⟩ => ⟨S1x1x1x32x128, .f32⟩
  | .hbm, ⟨24, _⟩ => ⟨S1x2x1023x32x128, .f32⟩
  | .hbm, ⟨25, _⟩ => ⟨S1x2x1023x32x128, .f32⟩
  | .hbm, ⟨26, _⟩ => ⟨S1x2x1023x4096, .f32⟩
  | .hbm, ⟨27, _⟩ => ⟨S1x2x1023x256, .f32⟩
  | .hbm, ⟨28, _⟩ => ⟨S1x2x1023x256, .f32⟩
  | .hbm, ⟨29, _⟩ => ⟨S1x2x1023x256, .f32⟩
  | .hbm, ⟨30, _⟩ => ⟨S_, .f32⟩
  | .hbm, ⟨31, _⟩ => ⟨S1x2x1023x256, .f32⟩
  | .hbm, ⟨32, _⟩ => ⟨S1x2x1023x256, .f32⟩
  | .hbm, ⟨33, _⟩ => ⟨S1x2x1023x256, .f32⟩
  | .hbm, ⟨34, _⟩ => ⟨S_, .f32⟩
  | .hbm, ⟨35, _⟩ => ⟨S1x2x1023x256, .f32⟩
  | .hbm, ⟨36, _⟩ => ⟨S1x2x1023x256, .f32⟩
  | .hbm, ⟨37, _⟩ => ⟨S1x2x1023x256, .f32⟩
  | .hbm, ⟨38, _⟩ => ⟨S_, .f32⟩
  | .hbm, ⟨39, _⟩ => ⟨S1x2x1023x256, .f32⟩
  | .hbm, ⟨40, _⟩ => ⟨S1x2x1023x256, .f32⟩
  | .hbm, ⟨41, _⟩ => ⟨S_, .f32⟩
  | .hbm, ⟨42, _⟩ => ⟨S1x2x1023x256, .f32⟩
  | .hbm, ⟨43, _⟩ => ⟨S1x2x1023x256, .f32⟩
  | .hbm, ⟨44, _⟩ => ⟨S1x2x1023x256, .f32⟩
  | .hbm, ⟨45, _⟩ => ⟨S1x2x1023x128, .f32⟩
  | .hbm, ⟨46, _⟩ => ⟨S2x1023x128, .f32⟩
  | .hbm, ⟨47, _⟩ => ⟨S2x1023x128, .bf16⟩
  | _, _ => ⟨S1x2x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel5.lean ====
abbrev S1x2x16384x128 : Shape := ⟨4, ![1, 2, 16384, 128]⟩
abbrev S32x128 : Shape := ⟨2, ![32, 128]⟩
abbrev S4096x256 : Shape := ⟨2, ![4096, 256]⟩
abbrev S256x128 : Shape := ⟨2, ![256, 128]⟩
abbrev S2x1024x2048 : Shape := ⟨3, ![2, 1024, 2048]⟩
abbrev S1x4096 : Shape := ⟨2, ![1, 4096]⟩
abbrev S8x4096 : Shape := ⟨2, ![8, 4096]⟩
abbrev S2x128x1024 : Shape := ⟨3, ![2, 128, 1024]⟩
abbrev S1x1024x2048 : Shape := ⟨3, ![1, 1024, 2048]⟩
abbrev S1x128x1024 : Shape := ⟨3, ![1, 128, 1024]⟩
abbrev S1024x2048 : Shape := ⟨2, ![1024, 2048]⟩
abbrev S2048x256 : Shape := ⟨2, ![2048, 256]⟩
abbrev S1024x256 : Shape := ⟨2, ![1024, 256]⟩
abbrev S8x256 : Shape := ⟨2, ![8, 256]⟩
abbrev S1x256 : Shape := ⟨2, ![1, 256]⟩
abbrev S1024x128 : Shape := ⟨2, ![1024, 128]⟩
abbrev S128x1024 : Shape := ⟨2, ![128, 1024]⟩
abbrev S2x1024x128 : Shape := ⟨3, ![2, 1024, 128]⟩
abbrev S2x1023x128 : Shape := ⟨3, ![2, 1023, 128]⟩

abbrev nBuf : Space → Nat
  | .hbm => 10
  | .vmem => 7
  | .smem => 0
  | _ => 0

abbrev bufTy : (tb : Table) → Fin (tcTables nBuf tb) → BufTy
  | .hbm, ⟨0, _⟩ => ⟨S1x2x16384x128, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S2x1024x2048, .f32⟩
  | .hbm, ⟨5, _⟩ => ⟨S1x4096, .f32⟩
  | .hbm, ⟨6, _⟩ => ⟨S8x4096, .f32⟩
  | .hbm, ⟨7, _⟩ => ⟨S2x128x1024, .bf16⟩
  | .hbm, ⟨8, _⟩ => ⟨S2x1024x128, .bf16⟩
  | .hbm, ⟨9, _⟩ => ⟨S2x1023x128, .bf16⟩
  | .local _ .vmem, ⟨0, _⟩ => ⟨S1x1024x2048, .f32⟩
  | .local _ .vmem, ⟨1, _⟩ => ⟨S1x1024x2048, .f32⟩
  | .local _ .vmem, ⟨2, _⟩ => ⟨S8x4096, .f32⟩
  | .local _ .vmem, ⟨3, _⟩ => ⟨S4096x256, .f32⟩
  | .local _ .vmem, ⟨4, _⟩ => ⟨S256x128, .f32⟩
  | .local _ .vmem, ⟨5, _⟩ => ⟨S1x128x1024, .bf16⟩
  | .local _ .vmem, ⟨6, _⟩ => ⟨S1x128x1024, .bf16⟩
  | _, _ => ⟨S1x2x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Proof.Online.lean ====
/- The online softmax over a sequence of scores, in the extended reals: the running maximum, the running sum of
   exponentials and the running weighted sum, and what a further block of scores does to each. No score has to be
   finite for these; masked scores (`⊥`) add nothing. -/
module

public import Idealize.ShloMosaic.Lib.Pointwise

@[expose] public section

noncomputable section

namespace Cert.Online

open Idealize.ShloMosaic

/-- The maximum of the first `N` scores (`⊥` of none). -/
def mx (s : ℕ → EReal) (N : ℕ) : EReal := (Finset.range N).sup s

/-- The sum of the exponentials of the first `N` scores less their maximum. -/
def ls (s : ℕ → EReal) (N : ℕ) : EReal := ∑ n ∈ Finset.range N, Ideal.exp2 (s n - mx s N)

/-- The sum of the first `N` values, weighted by the same exponentials. -/
def av (s v : ℕ → EReal) (N : ℕ) : EReal := ∑ n ∈ Finset.range N, v n * Ideal.exp2 (s n - mx s N)

/-- A power of two is not negative. -/
theorem exp2_nonneg (x : EReal) : 0 ≤ Ideal.exp2 x := by
  induction x with
  | bot => simp
  | top => simp
  | coe r => simp only [Ideal.exp2_coe]; exact_mod_cast (Real.rpow_pos_of_pos two_pos r).le

/-- With a nonpositive exponent it is at most one. -/
theorem exp2_le_one {x : EReal} (h : x ≤ 0) : Ideal.exp2 x ≤ 1 := by
  induction x with
  | bot => simp
  | top => simp at h
  | coe r =>
    simp only [Ideal.exp2_coe]
    have hr : r ≤ 0 := by exact_mod_cast h
    exact_mod_cast Real.rpow_le_one_of_one_le_of_nonpos one_le_two hr

/-- Minus infinity less anything is minus infinity. -/
theorem bot_sub (x : EReal) : ⊥ - x = ⊥ := by
  rw [sub_eq_add_neg, EReal.bot_add]

/-- Anything less plus infinity is minus infinity. -/
theorem sub_top (x : EReal) : x - ⊤ = ⊥ := by
  rw [sub_eq_add_neg, EReal.neg_top, EReal.add_bot]

/-- A difference from a larger number is not positive. -/
theorem sub_nonpos {a b : EReal} (h : a ≤ b) : a - b ≤ 0 := by
  induction b with
  | bot => rw [le_bot_iff.mp h, bot_sub]; exact bot_le
  | top => rw [sub_top]; exact bot_le
  | coe y =>
    induction a with
    | bot => rw [bot_sub]; exact bot_le
    | top => simp at h
    | coe x =>
      have hx : x ≤ y := by exact_mod_cast h
      rw [← EReal.coe_sub]; exact_mod_cast (by linarith : x - y ≤ 0)

/-- Rescaling an exponential from the maximum `m` to a later maximum `m'`. -/
theorem exp2_mul {s m m' : EReal} (h1 : s ≤ m) (h2 : m ≤ m') :
    Ideal.exp2 (m - m') * Ideal.exp2 (s - m) = Ideal.exp2 (s - m') := by
  induction m' with
  | top => simp [sub_top]
  | bot =>
    have hm := le_bot_iff.mp h2; subst hm
    have hs := le_bot_iff.mp h1; subst hs
    simp [bot_sub]
  | coe z =>
    induction m with
    | top => simp at h2
    | bot =>
      have hs := le_bot_iff.mp h1; subst hs
      simp [bot_sub]
    | coe y =>
      induction s with
      | top => simp at h1
      | bot => simp [bot_sub]
      | coe x =>
        rw [← EReal.coe_sub, ← EReal.coe_sub, ← EReal.coe_sub, Ideal.exp2_coe, Ideal.exp2_coe, Ideal.exp2_coe,
          ← EReal.coe_mul]
        congr 1
        change (2 : ℝ) ^ (y - z) * (2 : ℝ) ^ (x - y) = (2 : ℝ) ^ (x - z)
        rw [← Real.rpow_add two_pos]; congr 1; ring

/-- A finite nonnegative factor distributes over a sum of extended reals. -/
theorem mul_sum {ι : Type} (t : Finset ι) (f : ι → EReal) {c : EReal} (h0 : 0 ≤ c) (h1 : c ≠ ⊤) :
    c * ∑ n ∈ t, f n = ∑ n ∈ t, c * f n := by
  classical
  induction t using Finset.induction_on with
  | empty => simp
  | insert a t ha ih =>
    rw [Finset.sum_insert ha, Finset.sum_insert ha, ← ih, EReal.left_distrib_of_nonneg_of_ne_top h0 h1]

/-- A score is at most the maximum. -/
theorem le_mx (s : ℕ → EReal) {n N : ℕ} (h : n < N) : s n ≤ mx s N := Finset.le_sup (Finset.mem_range.mpr h)

/-- The maximum grows with the scores taken. -/
theorem mx_mono (s : ℕ → EReal) {N N' : ℕ} (h : N ≤ N') : mx s N ≤ mx s N' :=
  Finset.sup_mono (Finset.range_mono h)

/-- The correction factor is not infinite. -/
theorem alpha_ne_top (s : ℕ → EReal) {N N' : ℕ} (h : N ≤ N') : Ideal.exp2 (mx s N - mx s N') ≠ ⊤ :=
  ne_top_of_le_ne_top (EReal.coe_ne_top 1) (exp2_le_one (sub_nonpos (mx_mono s h)))

/-- The block's maximum as a supremum. -/
theorem fold_max (f : Fin 512 → EReal) : Finset.univ.fold max ⊥ f = Finset.univ.sup f := rfl

/-- A sum over 512 more terms. -/
theorem sum_range_add (f : ℕ → EReal) (N : ℕ) :
    ∑ n ∈ Finset.range (N + 512), f n = ∑ n ∈ Finset.range N, f n + ∑ j : Fin 512, f (N + j) := by
  rw [Finset.sum_range_add, ← Finset.sum_range (fun j => f (N + j))]

/-- The maximum of 512 further scores. -/
theorem mx_step (s : ℕ → EReal) (N : ℕ) :
    max (mx s N) (Finset.univ.sup fun j : Fin 512 => s (N + j)) = mx s (N + 512) := by
  apply le_antisymm
  · refine max_le (mx_mono s (by omega)) (Finset.sup_le fun j _ => le_mx s (by omega))
  · refine Finset.sup_le fun n hn => ?_
    have hn := Finset.mem_range.mp hn
    by_cases h : n < N
    · exact le_max_of_le_left (le_mx s h)
    · refine le_max_of_le_right ?_
      have := Finset.le_sup (f := fun j : Fin 512 => s (N + j)) (Finset.mem_univ ⟨n - N, by omega⟩)
      simpa [show N + (n - N) = n by omega] using this

/-- The sum of exponentials after 512 further scores: the old one rescaled, and theirs. -/
theorem ls_step (s : ℕ → EReal) (N : ℕ) :
    Ideal.exp2 (mx s N - mx s (N + 512)) * ls s N + ∑ j : Fin 512, Ideal.exp2 (s (N + j) - mx s (N + 512))
      = ls s (N + 512) := by
  unfold ls
  rw [sum_range_add, mul_sum _ _ (exp2_nonneg _) (alpha_ne_top s (by omega))]
  congr 1
  refine Finset.sum_congr rfl fun n hn => ?_
  exact exp2_mul (le_mx s (Finset.mem_range.mp hn)) (mx_mono s (by omega))

/-- The weighted sum after 512 further scores: the old one rescaled, and theirs. -/
theorem av_step (s v : ℕ → EReal) (N : ℕ) :
    Ideal.exp2 (mx s N - mx s (N + 512)) * av s v N
        + ∑ j : Fin 512, v (N + j) * Ideal.exp2 (s (N + j) - mx s (N + 512)) = av s v (N + 512) := by
  unfold av
  rw [sum_range_add, mul_sum _ _ (exp2_nonneg _) (alpha_ne_top s (by omega))]
  congr 1
  refine Finset.sum_congr rfl fun n hn => ?_
  rw [mul_left_comm, exp2_mul (le_mx s (Finset.mem_range.mp hn)) (mx_mono s (by omega))]

/-- Masked scores after the first `N` do not change the maximum, -/
theorem mx_masked (s : ℕ → EReal) {N N' : ℕ} (h : N ≤ N') (hs : ∀ n, N ≤ n → n < N' → s n = ⊥) : mx s N' = mx s N := by
  apply le_antisymm _ (mx_mono s h)
  refine Finset.sup_le fun n hn => ?_
  by_cases hn' : n < N
  · exact le_mx s hn'
  · rw [hs n (by omega) (Finset.mem_range.mp hn)]; exact bot_le

/-- nor the sum of exponentials, -/
theorem ls_masked (s : ℕ → EReal) {N N' : ℕ} (h : N ≤ N') (hs : ∀ n, N ≤ n → n < N' → s n = ⊥) : ls s N' = ls s N := by
  unfold ls
  rw [mx_masked s h hs]
  refine (Finset.sum_subset (Finset.range_mono h) fun n hn hn' => ?_).symm
  rw [hs n (by simpa using hn') (Finset.mem_range.mp hn), bot_sub, Ideal.exp2_bot]

/-- nor the weighted sum. -/
theorem av_masked (s v : ℕ → EReal) {N N' : ℕ} (h : N ≤ N') (hs : ∀ n, N ≤ n → n < N' → s n = ⊥) :
    av s v N' = av s v N := by
  unfold av
  rw [mx_masked s h hs]
  refine (Finset.sum_subset (Finset.range_mono h) fun n hn hn' => ?_).symm
  rw [hs n (by simpa using hn') (Finset.mem_range.mp hn), bot_sub, Ideal.exp2_bot, mul_zero]

end Cert.Online

end
-- ==== Proof.Softmax.lean ====
/- The softmax of finitely many real scores, in the two forms that meet: exponentials of base e normalised before the
   weighted sum, and exponentials of base 2 of the scores over `log 2` normalised after it. -/
module

public import proofs.«01_k».proof.Proof.Online

@[expose] public section

noncomputable section

namespace Cert.Softmax

open Idealize.ShloMosaic Cert.Online

/-- A finite sum of reals is the same sum of extended reals. -/
theorem coe_sum {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The scores of a query that sees the places up to `p`. -/
def seen (p : ℕ) (a : ℕ → ℝ) (n : ℕ) : EReal := if n ≤ p then (a n : EReal) else ⊥

/-- The largest of the first `N` scores. -/
def top (S : ℕ → EReal) (N : ℕ) : EReal := Finset.univ.sup fun n : Fin N => S n

/-- The sum of the first `N` exponentials, less the largest score. -/
def den (S : ℕ → EReal) (N : ℕ) : EReal := ∑ n : Fin N, Ideal.exp (S n - top S N)

/-- The average of the first `N` values with the softmax' weights. -/
def out (S v : ℕ → EReal) (N : ℕ) : EReal := ∑ n : Fin N, Ideal.div (Ideal.exp (S n - top S N)) (den S N) * v n

/-- The two ways to write the largest score agree. -/
theorem top_eq (S : ℕ → EReal) (N : ℕ) : top S N = mx S N := by
  unfold top mx
  refine le_antisymm (Finset.sup_le fun n _ => ?_) (Finset.sup_le fun n hn => ?_)
  · exact Finset.le_sup (f := S) (Finset.mem_range.mpr n.isLt)
  · exact Finset.le_sup (f := fun n : Fin N => S n) (Finset.mem_univ ⟨n, Finset.mem_range.mp hn⟩)

/-- The largest score is one of those seen. -/
theorem top_real (p N : ℕ) (hp : p < N) (a : ℕ → ℝ) : ∃ n0, n0 ≤ p ∧ (∀ n, n ≤ p → a n ≤ a n0) := by
  obtain ⟨n0, h0, h1⟩ := Finset.exists_max_image (Finset.range (p + 1)) a ⟨0, by simp⟩
  exact ⟨n0, by have := Finset.mem_range.mp h0; omega, fun n hn => h1 n (Finset.mem_range.mpr (by omega))⟩

/-- The maximum of the scores seen, when it is at `n0`. -/
theorem mx_seen (p N : ℕ) (hp : p < N) (a : ℕ → ℝ) (n0 : ℕ) (h0 : n0 ≤ p) (h1 : ∀ n, n ≤ p → a n ≤ a n0) :
    mx (seen p a) N = (a n0 : EReal) := by
  refine le_antisymm (Finset.sup_le fun n _ => ?_) ?_
  · unfold seen
    split
    · rename_i h; exact_mod_cast h1 n h
    · exact bot_le
  · refine le_trans (le_of_eq ?_) (le_mx (seen p a) (show n0 < N by omega))
    unfold seen; rw [if_pos h0]

/-- The exponential of base e of a score is that of base 2 of the score over `log 2`. -/
theorem exp_eq (p : ℕ) (a : ℕ → ℝ) (n n0 : ℕ) :
    Ideal.exp2 (seen p (fun n => a n / Real.log 2) n - ((a n0 / Real.log 2 : ℝ) : EReal))
      = Ideal.exp (seen p a n - (a n0 : EReal)) := by
  unfold seen
  split
  · rw [← EReal.coe_sub, ← EReal.coe_sub, Ideal.exp2_coe, Ideal.exp_coe]
    congr 1
    have h2 : Real.log 2 ≠ 0 := (Real.log_pos one_lt_two).ne'
    refine (Real.rpow_def_of_pos two_pos _).trans ?_
    congr 1
    field_simp
  · rw [bot_sub, bot_sub, Ideal.exp2_bot, Ideal.exp_bot]

/-- The two forms of the softmax agree. -/
theorem out_eq (p N : ℕ) (hp : p < N) (a : ℕ → ℝ) (v : ℕ → EReal) :
    av (seen p fun n => a n / Real.log 2) v N * Ideal.div 1 (ls (seen p fun n => a n / Real.log 2) N)
      = out (seen p a) v N := by
  obtain ⟨n0, h0, h1⟩ := top_real p N hp a
  have hl : (0 : ℝ) < Real.log 2 := Real.log_pos one_lt_two
  have hM : top (seen p a) N = (a n0 : EReal) := (top_eq _ _).trans (mx_seen p N hp a n0 h0 h1)
  have hm : mx (seen p fun n => a n / Real.log 2) N = ((a n0 / Real.log 2 : ℝ) : EReal) :=
    mx_seen p N hp (fun n => a n / Real.log 2) n0 h0 fun n hn => div_le_div_of_nonneg_right (h1 n hn) hl.le
  let e : ℕ → ℝ := fun n => if n ≤ p then Real.exp (a n - a n0) else 0
  have he : ∀ n, Ideal.exp (seen p a n - (a n0 : EReal)) = (e n : EReal) := fun n => by
    unfold seen
    simp only [e]
    split
    · rw [← EReal.coe_sub, Ideal.exp_coe]
    · rw [bot_sub, Ideal.exp_bot, EReal.coe_zero]
  have hpos : 0 < ∑ n ∈ Finset.range N, e n := by
    refine Finset.sum_pos' (fun n _ => ?_) ⟨n0, Finset.mem_range.mpr (by omega), ?_⟩
    · simp only [e]; split
      · exact (Real.exp_pos _).le
      · exact le_refl _
    · simp only [e]; rw [if_pos h0]; exact Real.exp_pos _
  have hls : ls (seen p fun n => a n / Real.log 2) N = ((∑ n ∈ Finset.range N, e n : ℝ) : EReal) := by
    unfold ls
    rw [hm, ← coe_sum]
    exact Finset.sum_congr rfl fun n _ => (exp_eq p a n n0).trans (he n)
  have hden : den (seen p a) N = ((∑ n ∈ Finset.range N, e n : ℝ) : EReal) := by
    unfold den
    rw [hM, ← coe_sum, ← Fin.sum_univ_eq_sum_range (fun n => (e n : EReal)) N]
    exact Finset.sum_congr rfl fun n _ => he n
  rw [hls, Ideal.div_coe hpos.ne', one_mul, mul_comm]
  unfold av out
  rw [hm, hM, hden, mul_sum _ _ (by exact_mod_cast (one_div_pos.mpr hpos).le) (EReal.coe_ne_top _),
    ← Fin.sum_univ_eq_sum_range]
  refine Finset.sum_congr rfl fun n _ => ?_
  rw [exp_eq, he, Ideal.div_coe hpos.ne', mul_comm (v n), ← mul_assoc, mul_comm ((1 / _ : ℝ) : EReal)]

end Cert.Softmax

end
-- ==== Proof.MlaSpec.lean ====
/- What the attention computes, from its queries, keys and values: the scores, the softmax over the places seen, and
   the average of the values; and the two ways the programs sum a score. -/
module

public import proofs.«01_k».proof.KernelIdeal
public import proofs.«01_k».proof.Proof.Softmax

@[expose] public section

set_option maxRecDepth 16384

noncomputable section

namespace Cert.Mla

open Cert.KernelIdeal Idealize.ShloMosaic Cert.Online Cert.Softmax

/-- The scale of the scores, the real number its word denotes. -/
def rr : ℝ := (Ideal.ofBits .f32 0x3D93CD3A#32).toReal

/-- The scale's word denotes a real number. -/
theorem rr_coe : Ideal.ofBits .f32 0x3D93CD3A#32 = (rr : EReal) := by
  refine (EReal.coe_toReal ?_ ?_).symm <;> simp [Ideal.ofBits, Ideal.ieee, -EReal.coe_mul]

/-- The word of two denotes two. -/
theorem two_coe : Ideal.ofBits .f32 0x40000000#32 = ((2 : ℝ) : EReal) := by
  simp [Ideal.ofBits, Ideal.ieee, -EReal.coe_mul]; norm_num

/-- The scale the kernel's queries carry: the scores' scale over `log 2`. -/
theorem scale_coe : Ideal.div (Ideal.ofBits .f32 0x3D93CD3A#32) (Ideal.log (Ideal.ofBits .f32 0x40000000#32))
    = ((rr / Real.log 2 : ℝ) : EReal) := by
  rw [rr_coe, two_coe, Ideal.log_coe, if_neg (by norm_num), Ideal.div_coe (Real.log_pos one_lt_two).ne', ← EReal.coe_mul]
  congr 1
  ring

variable (q0 : FVec Ideal S1x8x16384x128 .f32) (q1 : FVec Ideal S1x8x16384x64 .f32) (k0 : FVec Ideal S1x8x16384x128 .f32)
  (k1 : FVec Ideal S1x16384x64 .f32) (vv : FVec Ideal S1x8x16384x128 .f32)

/-- The score of query `p` and key `n` in head `h`, a real number. -/
def score (h : Fin 8) (p : Fin 16384) (n : ℕ) : ℝ :=
  if hn : n < 16384 then
    ((∑ d : Fin 128, (q0 (ix4 0 h p d)).toReal * (k0 (ix4 0 h ⟨n, hn⟩ d)).toReal)
      + ∑ d : Fin 64, (q1 (ix4 0 h p d)).toReal * (k1 (ix3 0 ⟨n, hn⟩ d)).toReal) * rr
  else 0

/-- Entry `d` of value `n` in head `h`. -/
def val (h : Fin 8) (d : Fin 128) (n : ℕ) : EReal := if hn : n < 16384 then vv (ix4 0 h ⟨n, hn⟩ d) else 0

/-- The attention's result: the heads' averages side by side. -/
def res : FVec Ideal S16384x1024 .bf16 := fun i =>
  out (seen (i 0).val (score q0 q1 k0 k1 ⟨(i 1).val / 128, Nat.div_lt_of_lt_mul (i 1).isLt⟩ (i 0)))
    (val vv ⟨(i 1).val / 128, Nat.div_lt_of_lt_mul (i 1).isLt⟩ ⟨(i 1).val % 128, Nat.mod_lt _ (by decide)⟩) 16384

/-- The queries and the keys are finite. -/
structure Fin4 : Prop where
  q0 : ∀ i, q0 i ≠ ⊤ ∧ q0 i ≠ ⊥
  q1 : ∀ i, q1 i ≠ ⊤ ∧ q1 i ≠ ⊥
  k0 : ∀ i, k0 i ≠ ⊤ ∧ k0 i ≠ ⊥
  k1 : ∀ i, k1 i ≠ ⊤ ∧ k1 i ≠ ⊥

/-- A product of finite numbers is the product of the reals they are. -/
theorem toReal_mul {x y : EReal} (hx : x ≠ ⊤ ∧ x ≠ ⊥) (hy : y ≠ ⊤ ∧ y ≠ ⊥) :
    x * y = ((x.toReal * y.toReal : ℝ) : EReal) := by
  rw [EReal.coe_mul, EReal.coe_toReal hx.1 hx.2, EReal.coe_toReal hy.1 hy.2]

variable {q0 q1 k0 k1}

/-- The score as the reference sums it. -/
theorem score_ref (hf : Fin4 q0 q1 k0 k1) (h : Fin 8) (p n : Fin 16384) :
    ((∑ d : Fin 128, q0 (ix4 0 h p d) * k0 (ix4 0 h n d)) + ∑ d : Fin 64, q1 (ix4 0 h p d) * k1 (ix3 0 n d))
        * Ideal.ofBits .f32 0x3D93CD3A#32
      = (score q0 q1 k0 k1 h p n : EReal) := by
  rw [score, dif_pos n.isLt, EReal.coe_mul, EReal.coe_add, ← coe_sum, ← coe_sum, rr_coe]
  congr 2
  · exact Finset.sum_congr rfl fun d _ => toReal_mul (hf.q0 _) (hf.k0 _)
  · exact Finset.sum_congr rfl fun d _ => toReal_mul (hf.q1 _) (hf.k1 _)

/-- A sum over `a + b` places is the sum over the first `a` and the sum over the last `b`. -/
theorem sum_split {n : ℕ} (a b : ℕ) (h : n = a + b) (f : Fin n → EReal) :
    ∑ d, f d = (∑ d : Fin a, f ⟨d.val, by omega⟩) + ∑ d : Fin b, f ⟨a + d.val, by omega⟩ := by
  subst h
  exact Fin.sum_univ_add f

/-- A sum over 256 lanes, of which the last 64 are zero. -/
theorem sum_lanes (f : Fin 256 → EReal) (h0 : ∀ d : Fin 64, f ⟨192 + d.val, by omega⟩ = 0) :
    ∑ d, f d = (∑ d : Fin 128, f ⟨d.val, by omega⟩) + ∑ d : Fin 64, f ⟨128 + d.val, by omega⟩ := by
  rw [sum_split 192 64 rfl f, Finset.sum_eq_zero fun d _ => h0 d, add_zero,
    sum_split 128 64 rfl fun d : Fin 192 => f ⟨d.val, by omega⟩]

/-- The score as the kernel sums it: the queries scaled, the lanes of both parts and the empty ones together. -/
theorem score_ker (hf : Fin4 q0 q1 k0 k1) (h : Fin 8) (p n : Fin 16384) (f : Fin 256 → EReal)
    (h0 : ∀ d : Fin 128, f ⟨d.val, by omega⟩ = k0 (ix4 0 h n d) * (q0 (ix4 0 h p d) * ((rr / Real.log 2 : ℝ) : EReal)))
    (h1 : ∀ d : Fin 64, f ⟨128 + d.val, by omega⟩ = k1 (ix3 0 n d) * (q1 (ix4 0 h p d) * ((rr / Real.log 2 : ℝ) : EReal)))
    (h2 : ∀ d : Fin 64, f ⟨192 + d.val, by omega⟩ = 0) :
    ∑ d, f d = ((score q0 q1 k0 k1 h p n / Real.log 2 : ℝ) : EReal) := by
  have e0 : (∑ d : Fin 128, f ⟨d.val, by omega⟩)
      = (((∑ d : Fin 128, (q0 (ix4 0 h p d)).toReal * (k0 (ix4 0 h n d)).toReal) * (rr / Real.log 2) : ℝ) : EReal) := by
    rw [Finset.sum_mul, ← coe_sum]
    refine Finset.sum_congr rfl fun d _ => ?_
    rw [h0, ← mul_assoc, toReal_mul (hf.k0 _) (hf.q0 _), ← EReal.coe_mul, mul_comm (EReal.toReal (k0 _))]
  have e1 : (∑ d : Fin 64, f ⟨128 + d.val, by omega⟩)
      = (((∑ d : Fin 64, (q1 (ix4 0 h p d)).toReal * (k1 (ix3 0 n d)).toReal) * (rr / Real.log 2) : ℝ) : EReal) := by
    rw [Finset.sum_mul, ← coe_sum]
    refine Finset.sum_congr rfl fun d _ => ?_
    rw [h1, ← mul_assoc, toReal_mul (hf.k1 _) (hf.q1 _), ← EReal.coe_mul, mul_comm (EReal.toReal (k1 _))]
  rw [sum_lanes f h2, e0, e1, ← EReal.coe_add, score, dif_pos n.isLt]
  congr 1
  ring

end Cert.Mla

end
-- ==== Proof.MlaHost.lean ====
/- The arrays the attention kernel is launched on: the queries scaled and laid out with the rotary part and empty lanes,
   the keys laid out likewise, and the values transposed. -/
module

public import proofs.«01_k».proof.Proof.MlaSpec
public import proofs.«01_k».proof.Proof.Gen.KernelIdeal.Frame.Runs
public import Idealize.ShloMosaic.Lib.Pipeline.ValueKit

@[expose] public section

set_option maxRecDepth 16384

noncomputable section

namespace Cert.Mla

open Cert.KernelIdeal Cert.KernelIdeal.Gen
open Idealize.ShloMosaic Idealize.ShloMosaic.TcCoe Idealize.SL.Sem

/-- The scale's scalar. -/
def sVec : FVec Ideal S_ .f32 := Host.divf (constant S_ .f32 0x3D93CD3A#32) (Host.log (constant S_ .f32 0x40000000#32))

/-- The queries as the kernel takes them. -/
def qVec (q0 : FVec Ideal S1x8x16384x128 .f32) (q1 : FVec Ideal S1x8x16384x64 .f32) : FVec Ideal S8x16384x256 .bf16 :=
  truncf .bf16 (concatenate S8x16384x256 2
    [⟨S8x16384x128, mulf (shapeCast S8x16384x128 q0 shapeCasts_S1x8x16384x128_S8x16384x128)
        (broadcastInDim S8x16384x128 ![] bcast_S_S8x16384x128 sVec)⟩,
     ⟨S8x16384x64, mulf (shapeCast S8x16384x64 q1 shapeCasts_S1x8x16384x64_S8x16384x64)
        (broadcastInDim S8x16384x64 ![] bcast_S_S8x16384x64 sVec)⟩,
     ⟨S8x16384x64, broadcastInDim S8x16384x64 ![] bcast_S_S8x16384x64 (constant S_ .f32 0x00000000#32)⟩]
    concatenates_S8x16384x128_S8x16384x64_S8x16384x64_S8x16384x256_d2) bitsLt_bf16_f32

/-- The keys as the kernel takes them. -/
def kVec (k0 : FVec Ideal S1x8x16384x128 .f32) (k1 : FVec Ideal S1x16384x64 .f32) : FVec Ideal S8x16384x256 .bf16 :=
  truncf .bf16 (concatenate S8x16384x256 2
    [⟨S8x16384x128, shapeCast S8x16384x128 k0 shapeCasts_S1x8x16384x128_S8x16384x128⟩,
     ⟨S8x16384x64, broadcastInDim S8x16384x64 ![0, 1, 2] bcast_S1x16384x64_S8x16384x64_0_1_2 k1⟩,
     ⟨S8x16384x64, broadcastInDim S8x16384x64 ![] bcast_S_S8x16384x64 (constant S_ .f32 0x00000000#32)⟩]
    concatenates_S8x16384x128_S8x16384x64_S8x16384x64_S8x16384x256_d2) bitsLt_bf16_f32

/-- The values as the kernel takes them. -/
def vVec (vv : FVec Ideal S1x8x16384x128 .f32) : FVec Ideal S8x128x16384 .bf16 :=
  truncf .bf16 (transpose S8x128x16384 [0, 2, 1] (shapeCast S8x16384x128 vv shapeCasts_S1x8x16384x128_S8x16384x128)
    transposes_S8x16384x128_S8x128x16384_0_2_1) bitsLt_bf16_f32

variable (m : (ℓ : Loc nD τ sig) → Buf (Elt Ideal) ℓ)

/-- The queries the kernel is launched on. -/
theorem V_q (c : Dev nD) : V m c main_v10 = qVec (m ((c : Thread nD τ).loc main_arg0)) (m ((c : Thread nD τ).loc main_arg1)) := by
  simp only [V, hostOps0]
  after_results_simp <;> rfl

/-- The keys the kernel is launched on. -/
theorem V_k (c : Dev nD) : V m c main_v14 = kVec (m ((c : Thread nD τ).loc main_arg2)) (m ((c : Thread nD τ).loc main_arg3)) := by
  simp only [V, hostOps0]
  after_results_simp <;> rfl

/-- The values the kernel is launched on. -/
theorem V_v (c : Dev nD) : V m c main_v17 = vVec (m ((c : Thread nD τ).loc main_arg4)) := by
  simp only [V, hostOps0]
  after_results_simp <;> rfl

variable (q0 : FVec Ideal S1x8x16384x128 .f32) (q1 : FVec Ideal S1x8x16384x64 .f32) (k0 : FVec Ideal S1x8x16384x128 .f32)
  (k1 : FVec Ideal S1x16384x64 .f32) (vv : FVec Ideal S1x8x16384x128 .f32)

/-- The launched queries' first 128 columns: the unrotated part times the scale over log 2. -/
theorem qVec_0 (h : Fin 8) (b : Fin 16384) (d : Fin 128) :
    qVec q0 q1 (ix3 h b ⟨d.val, by omega⟩) = q0 (ix4 0 h b d) * ((rr / Real.log 2 : ℝ) : EReal) := by
  rw [← scale_coe]
  pointwise [qVec, sVec]

/-- The launched queries' next 64 columns: the rotated part times the same. -/
theorem qVec_1 (h : Fin 8) (b : Fin 16384) (d : Fin 64) :
    qVec q0 q1 (ix3 h b ⟨128 + d.val, by omega⟩) = q1 (ix4 0 h b d) * ((rr / Real.log 2 : ℝ) : EReal) := by
  rw [← scale_coe]
  pointwise [qVec, sVec]

/-- The launched keys' first 128 columns: the unrotated part. -/
theorem kVec_0 (h : Fin 8) (b : Fin 16384) (d : Fin 128) : kVec k0 k1 (ix3 h b ⟨d.val, by omega⟩) = k0 (ix4 0 h b d) := by
  pointwise [kVec]

/-- The launched keys' next 64 columns: the rotated part. -/
theorem kVec_1 (h : Fin 8) (b : Fin 16384) (d : Fin 64) :
    kVec k0 k1 (ix3 h b ⟨128 + d.val, by omega⟩) = k1 (ix3 0 b d) := by
  pointwise [kVec]

/-- The launched keys' last 64 columns are zero. -/
theorem kVec_2 (h : Fin 8) (b : Fin 16384) (d : Fin 64) : kVec k0 k1 (ix3 h b ⟨192 + d.val, by omega⟩) = 0 := by
  pointwise [kVec]
  rw [dif_neg (by omega), dif_neg (by omega)]

/-- The launched values are transposed. -/
theorem vVec_at (h : Fin 8) (d : Fin 128) (n : Fin 16384) : vVec vv (ix3 h d n) = vv (ix4 0 h n d) := by
  pointwise [vVec]

end Cert.Mla

end
-- ==== Proof.MlaTile.lean ====
/- One step of the online softmax as the attention body computes it, operation by operation, on blocks of 512 keys by
   1024 queries, and by the last 512 queries of these: each operation of the step on the running maximum, sum and
   weighted sum after `n` blocks gives the corresponding quantity after `n + 1`. `s b k` is the (masked) score of query
   `b` and key `k`, `v d k` entry `d` of key `k`'s value. -/
module

public import proofs.«01_k».proof.Proof.Online
public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.Mla

open Cert.KernelIdeal Cert.KernelIdeal.Gen Cert.Online
open Idealize.ShloMosaic

/-- Block `n` of the values, transposed. -/
def VT (v : Fin 128 → ℕ → EReal) (n : ℕ) : FVec Ideal S128x512 .bf16 := fun y => v (y 0) (512 * n + (y 1).val)

/-- The pattern of minus infinity reads `⊥`. -/
theorem ofBits_neg_inf : Ideal.ofBits FTy.f32 4286578688#32 = ⊥ := by
  first | rfl | decide | simp

section
variable (s : Fin 1024 → ℕ → EReal) (v : Fin 128 → ℕ → EReal) (n : ℕ)

/-- Block `n` of the scores. -/
def SM : FVec Ideal S512x1024 .f32 := fun y => s (y 1) (512 * n + (y 0).val)
/-- The running maxima after `n` blocks, -/
def M1 : FVec Ideal S1x1024 .f32 := fun y => mx (s (y 1)) (512 * n)
/-- the running sums, -/
def L1 : FVec Ideal S1x1024 .f32 := fun y => ls (s (y 1)) (512 * n)
/-- and the running weighted sums. -/
def A2 : FVec Ideal S128x1024 .f32 := fun y => av (s (y 1)) (v (y 0)) (512 * n)
/-- The factor that rescales from the maxima after `n` blocks to those after `n + 1`. -/
def AL : FVec Ideal S1x1024 .f32 := fun y => Ideal.exp2 (mx (s (y 1)) (512 * n) - mx (s (y 1)) (512 * (n + 1)))
/-- Block `n`'s exponentials, less the maxima after it. -/
def PP : FVec Ideal S512x1024 .f32 :=
  fun y => Ideal.exp2 (s (y 1) (512 * n + (y 0).val) - mx (s (y 1)) (512 * (n + 1)))

/-- The new maxima. -/
theorem max_step :
    maximumf (M1 s n) (shapeCast S1x1024 (multiReduction .maximumf [0] S1024 (SM s n) 0xFF800000#32
      reduces_S512x1024_S1024 (.inl rfl) rfl) shapeCasts_S1024_S1x1024) = M1 s (n + 1) := by
  funext y
  pointwise [M1, SM]
  rw [show Ideal.ofBits FTy.f32 4286578688#32 = ⊥ from ofBits_neg_inf, fold_max]
  exact mx_step (s (y 1)) (512 * n)

/-- The rescaling factor. -/
theorem alpha_eq : exp2 (subf (M1 s n) (M1 s (n + 1))) = AL s n := by
  funext y
  pointwise [M1, AL]
  rfl

/-- The block's exponentials. -/
theorem p_eq :
    exp2 (subf (SM s n) (broadcastTo S512x1024 (M1 s (n + 1)) broadcasts_S1x1024_S512x1024)) = PP s n := by
  funext y
  pointwise [M1, SM, PP]
  rfl

/-- The new sums. -/
theorem sum_step :
    addf (mulf (AL s n) (L1 s n)) (shapeCast S1x1024 (multiReduction .add [0] S1024 (PP s n) 0x00000000#32
      reduces_S512x1024_S1024 (.inl rfl) rfl) shapeCasts_S1024_S1x1024) = L1 s (n + 1) := by
  funext y
  pointwise [AL, L1, PP]
  exact ls_step (s (y 1)) (512 * n)

/-- The new weighted sums. -/
theorem acc_step :
    addf (mulf (broadcastTo S128x1024 (AL s n) broadcasts_S1x1024_S128x1024) (A2 s v n))
      (matmul dot_S128x512_S512x1024_S128x1024_1_0_0_1_n_n none (VT v n) (truncf .bf16 (PP s n) bitsLt_bf16_f32)
        (constant S128x1024 .f32 0x00000000#32)) = A2 s v (n + 1) := by
  funext y
  pointwise [AL, A2, PP, VT]
  exact av_step (s (y 1)) (v (y 0)) (512 * n)

end

/-! The same for the last 512 queries. -/

section
variable (s : Fin 512 → ℕ → EReal) (v : Fin 128 → ℕ → EReal) (n : ℕ)

/-- Block `n` of the scores. -/
def SMh : FVec Ideal S512x512 .f32 := fun y => s (y 1) (512 * n + (y 0).val)
/-- The running maxima after `n` blocks, -/
def M1h : FVec Ideal S1x512 .f32 := fun y => mx (s (y 1)) (512 * n)
/-- the running sums, -/
def L1h : FVec Ideal S1x512 .f32 := fun y => ls (s (y 1)) (512 * n)
/-- and the running weighted sums. -/
def A2h : FVec Ideal S128x512 .f32 := fun y => av (s (y 1)) (v (y 0)) (512 * n)
/-- The factor that rescales from the maxima after `n` blocks to those after `n + 1`. -/
def ALh : FVec Ideal S1x512 .f32 := fun y => Ideal.exp2 (mx (s (y 1)) (512 * n) - mx (s (y 1)) (512 * (n + 1)))
/-- Block `n`'s exponentials, less the maxima after it. -/
def PPh : FVec Ideal S512x512 .f32 :=
  fun y => Ideal.exp2 (s (y 1) (512 * n + (y 0).val) - mx (s (y 1)) (512 * (n + 1)))

/-- The new maxima. -/
theorem max_step_half :
    maximumf (M1h s n) (shapeCast S1x512 (multiReduction .maximumf [0] S512 (SMh s n) 0xFF800000#32
      reduces_S512x512_S512 (.inl rfl) rfl) shapeCasts_S512_S1x512) = M1h s (n + 1) := by
  funext y
  pointwise [M1h, SMh]
  rw [show Ideal.ofBits FTy.f32 4286578688#32 = ⊥ from ofBits_neg_inf, fold_max]
  exact mx_step (s (y 1)) (512 * n)

/-- The rescaling factor. -/
theorem alpha_eq_half : exp2 (subf (M1h s n) (M1h s (n + 1))) = ALh s n := by
  funext y
  pointwise [M1h, ALh]
  rfl

/-- The block's exponentials. -/
theorem p_eq_half :
    exp2 (subf (SMh s n) (broadcastTo S512x512 (M1h s (n + 1)) broadcasts_S1x512_S512x512)) = PPh s n := by
  funext y
  pointwise [M1h, SMh, PPh]
  rfl

/-- The new sums. -/
theorem sum_step_half :
    addf (mulf (ALh s n) (L1h s n)) (shapeCast S1x512 (multiReduction .add [0] S512 (PPh s n) 0x00000000#32
      reduces_S512x512_S512 (.inl rfl) rfl) shapeCasts_S512_S1x512) = L1h s (n + 1) := by
  funext y
  pointwise [ALh, L1h, PPh]
  exact ls_step (s (y 1)) (512 * n)

/-- The new weighted sums. -/
theorem acc_step_half :
    addf (mulf (broadcastTo S128x512 (ALh s n) broadcasts_S1x512_S128x512) (A2h s v n))
      (matmul dot_S128x512_S512x512_S128x512_1_0_0_1_n_n none (VT v n) (truncf .bf16 (PPh s n) bitsLt_bf16_f32)
        (constant S128x512 .f32 0x00000000#32)) = A2h s v (n + 1) := by
  funext y
  pointwise [ALh, A2h, PPh, VT]
  exact av_step (s (y 1)) (v (y 0)) (512 * n)

end

section
variable (s : Fin 1024 → ℕ → EReal) (v : Fin 128 → ℕ → EReal) (n : ℕ)

/-- The block of scores as one head's slice of the scratch that holds it, -/
def S3 : Vec Ideal S1x512x1024 .f32 := fun y => s (y 2) (512 * n + (y 1).val)
/-- the maxima, -/
def M3 : Vec Ideal S1x1x1024 .f32 := fun y => mx (s (y 2)) (512 * n)
/-- the sums, -/
def L3 : Vec Ideal S1x1x1024 .f32 := fun y => ls (s (y 2)) (512 * n)
/-- the weighted sums, -/
def A3 : Vec Ideal S1x128x1024 .f32 := fun y => av (s (y 2)) (v (y 1)) (512 * n)
/-- and one head's slice of the block of values. -/
def V3 : Vec Ideal S1x128x512 .bf16 := fun y => v (y 1) (512 * n + (y 2).val)

/-- A head's scores without the leading axis; -/
theorem cast_S3 : shapeCast (α := Ideal .f32) S512x1024 (S3 s n) shapeCasts_S1x512x1024_S512x1024 = SM s n := by
  funext y; pointwise [S3, SM]
/-- its maxima; -/
theorem cast_M3 : shapeCast (α := Ideal .f32) S1x1024 (M3 s n) shapeCasts_S1x1x1024_S1x1024 = M1 s n := by
  funext y; pointwise [M3, M1]
/-- its sums of weights; -/
theorem cast_L3 : shapeCast (α := Ideal .f32) S1x1024 (L3 s n) shapeCasts_S1x1x1024_S1x1024 = L1 s n := by
  funext y; pointwise [L3, L1]
/-- its weighted sums; -/
theorem cast_A3 : shapeCast (α := Ideal .f32) S128x1024 (A3 s v n) shapeCasts_S1x128x1024_S128x1024 = A2 s v n := by
  funext y; pointwise [A3, A2]
/-- its values. -/
theorem cast_V3 : shapeCast (α := Ideal .bf16) S128x512 (V3 v n) shapeCasts_S1x128x512_S128x512 = VT v n := by
  funext y; pointwise [V3, VT]
/-- The scores with the leading axis again; -/
theorem cast_SM : shapeCast (α := Ideal .f32) S1x512x1024 (SM s n) shapeCasts_S512x1024_S1x512x1024 = S3 s n := by
  funext y; pointwise [S3, SM]
/-- the maxima; -/
theorem cast_M1 : shapeCast (α := Ideal .f32) S1x1x1024 (M1 s n) shapeCasts_S1x1024_S1x1x1024 = M3 s n := by
  funext y; pointwise [M3, M1]
/-- the sums of weights; -/
theorem cast_L1 : shapeCast (α := Ideal .f32) S1x1x1024 (L1 s n) shapeCasts_S1x1024_S1x1x1024 = L3 s n := by
  funext y; pointwise [L3, L1]
/-- the weighted sums. -/
theorem cast_A2 : shapeCast (α := Ideal .f32) S1x128x1024 (A2 s v n) shapeCasts_S128x1024_S1x128x1024 = A3 s v n := by
  funext y; pointwise [A3, A2]

end

section
variable (x1 : Vec Ideal S2x16384x256 .bf16) (q : Vec Ideal S2x1024x256 .bf16) (x2 : Vec Ideal S2x128x16384 .bf16)
variable (h : Fin 2)

/-- Entry `d` of key `k` of head `h`. -/
def kx (k : ℕ) (d : Fin 256) : EReal := if hk : k < 16384 then x1 (ix3 h ⟨k, hk⟩ d) else 0
/-- Entry `d` of key `k`'s value, of head `h`. -/
def vx (d : Fin 128) (k : ℕ) : EReal := if hk : k < 16384 then x2 (ix3 h d ⟨k, hk⟩) else 0
/-- The score of query `b` and key `k` of head `h`. -/
def sc (b : Fin 1024) (k : ℕ) : EReal := ∑ d : Fin 256, kx x1 h k d * q (ix3 h b d)
/-- Block `n` of the keys of head `h`. -/
def K3 (n : ℕ) : Vec Ideal S1x512x256 .bf16 := fun y => kx x1 h (512 * n + (y 1).val) (y 2)
/-- The queries of head `h`, transposed. -/
def Q3 : Vec Ideal S1x256x1024 .bf16 := fun y => q (ix3 h (y 2) (y 1))
/-- The last 512 queries of head `h`, transposed. -/
def Q3h : Vec Ideal S1x256x512 .bf16 :=
  fun y => q (ix3 h ⟨512 + (y 2).val, by have := (y 2).isLt; simp only [S1x256x512] at this; simp at this; omega⟩ (y 1))

/-- The scores of a block of keys. -/
theorem scores_eq (n : ℕ) :
    matmul dot_S512x256_S256x1024_S512x1024_1_0_0_1_n_n (φ₁ := .bf16) (φ₂ := .bf16) none
      (shapeCast (α := Ideal .bf16) S512x256 (K3 x1 h n) shapeCasts_S1x512x256_S512x256)
      (shapeCast (α := Ideal .bf16) S256x1024 (Q3 q h) shapeCasts_S1x256x1024_S256x1024) (constant S512x1024 .f32 0x00000000#32)
      = SM (sc x1 q h) n := by
  funext y
  pointwise [K3, Q3, SM, sc]

/-- The scores of a block of keys and the last 512 queries. -/
theorem scores_half_eq (n : ℕ) :
    matmul dot_S512x256_S256x512_S512x512_1_0_0_1_n_n (φ₁ := .bf16) (φ₂ := .bf16) none
      (shapeCast (α := Ideal .bf16) S512x256 (K3 x1 h n) shapeCasts_S1x512x256_S512x256)
      (shapeCast (α := Ideal .bf16) S256x512 (Q3h q h) shapeCasts_S1x256x512_S256x512) (constant S512x512 .f32 0x00000000#32)
      = SMh (fun b => sc x1 q h ⟨512 + b.val, by omega⟩) n := by
  funext y
  pointwise [K3, Q3h, SMh, sc]

end

end Cert.Mla

end
-- ==== Proof.MlaBuf.lean ====
/- The attention body's buffers while it runs, as functions of the scores and values of both heads, and what its loads
   read of them and leave of its stores. -/
module

public import proofs.«01_k».proof.Proof.MlaTile
public import Idealize.ShloMosaic.Lib.Pipeline.ReadBack

@[expose] public section

set_option maxRecDepth 16384

noncomputable section

namespace Cert.Mla

open Cert.KernelIdeal Cert.KernelIdeal.Gen Cert.Online
open Idealize.ShloMosaic

/-! ### Loads and stores in general -/

section
variable {sig : RefSig} {κ : Kind} {sp : Space} {s : Shape} {e : EltTy} {Val : EltTy → Type}

/-- What was stored last is read back. -/
theorem readAt_same (v : View sig κ sp s e) (f : v.ty.Contents Val) (r : Rect s) (w : r.shape.Idx → Val e)
    (L : List (View.Piece Val s e)) : v.readAt Val r.toLoadRect (v.writes Val f (⟨r, w⟩ :: L)) = w := by
  rw [View.readAt_eq_ld]
  funext y
  exact View.read_writes_cons_emb v f r w L y

/-- A store to elsewhere doesn't matter. -/
theorem readAt_skip (v : View sig κ sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) := by
  funext y
  rw [View.readAt_apply, View.readAt_apply]
  have hy : B.idx y ∉ Finset.univ.map r.emb := by
    rw [Rect.map_emb_univ]; exact LoadRect.idx_not_mem_of_disj h y
  exact View.read_slice_write_of_not_mem r _ _ _ hy

end

/-- An entry of a loaded rectangle, by its position. -/
theorem ld_at {s : Shape} {α : Type} (X : s.Idx → α) (off size : Fin s.rank → ℕ) (inb)
    (y : (Rect.unit off size inb).shape.Idx) (z : s.Idx) (h : ∀ a, (z a).val = off a + (y a).val) :
    X ((Rect.unit off size inb).toLoadRect.idx y) = X z :=
  congrArg X (funext fun a => Fin.ext ((Idealize.ShloMosaic.Rect.idx_unit_val off size inb y a).trans (h a).symm))

section
variable (s : Fin 2 → Fin 1024 → ℕ → EReal) (v : Fin 2 → Fin 128 → ℕ → EReal) (n : ℕ)

/-- Block `n` of both heads' scores, -/
def SB : Vec Ideal S2x512x1024 .f32 := fun y => s (y 0) (y 2) (512 * n + (y 1).val)
/-- both heads' maxima after `n` blocks, -/
def MB : Vec Ideal S2x1x1024 .f32 := fun y => mx (s (y 0) (y 2)) (512 * n)
/-- their sums, -/
def LB : Vec Ideal S2x1x1024 .f32 := fun y => ls (s (y 0) (y 2)) (512 * n)
/-- and their weighted sums. -/
def AB : Vec Ideal S2x128x1024 .f32 := fun y => av (s (y 0) (y 2)) (v (y 0) (y 1)) (512 * n)
/-- Both heads' queries, transposed. -/
def QB (q : Vec Ideal S2x1024x256 .bf16) : Vec Ideal S2x256x1024 .bf16 := fun y => q (ix3 (y 0) (y 2) (y 1))

section
variable (q : Vec Ideal S2x1024x256 .bf16)
variable (arg7 : Memref sig .tc .vmem S2x512x1024 .f32) (harg7 : arg7.IsWhole)

/-- Head 0's part of it is read by a load of that head. -/
theorem ld_SB0 (inb) : View.readAt (Elt Ideal) arg7.view (Rect.unit (s := S2x512x1024) ![0, 0, 0] S1x512x1024.size inb).toLoadRect
    (harg7.unread (SB s n)) = S3 (s 0) n := by
  rw [View.readAt_eq_ld, harg7.read_unread]
  funext y
  have h0 : (y 0).val = 0 := by have := (y 0).isLt; exact Nat.lt_one_iff.mp this
  refine (ld_at (SB s n) _ _ inb y (ix3 0 (y 1) (y 2)) ?_).trans rfl
  intro a; fin_cases a
  · exact congrArg (0 + ·) h0.symm
  · exact (Nat.zero_add _).symm
  · exact (Nat.zero_add _).symm

/-- Head 1's part of it is read by a load of that head. -/
theorem ld_SB1 (inb) : View.readAt (Elt Ideal) arg7.view (Rect.unit (s := S2x512x1024) ![1, 0, 0] S1x512x1024.size inb).toLoadRect
    (harg7.unread (SB s n)) = S3 (s 1) n := by
  rw [View.readAt_eq_ld, harg7.read_unread]
  funext y
  have h0 : (y 0).val = 0 := by have := (y 0).isLt; exact Nat.lt_one_iff.mp this
  refine (ld_at (SB s n) _ _ inb y (ix3 1 (y 1) (y 2)) ?_).trans rfl
  intro a; fin_cases a
  · exact congrArg (1 + ·) h0.symm
  · exact (Nat.zero_add _).symm
  · exact (Nat.zero_add _).symm

/-- Contents both of whose heads' parts are these are it. -/
theorem eq_SB (f : arg7.view.ty.Contents (Elt Ideal)) (inb0 inb1)
    (h0 : View.readAt (Elt Ideal) arg7.view (Rect.unit (s := S2x512x1024) ![0, 0, 0] S1x512x1024.size inb0).toLoadRect f = S3 (s 0) n)
    (h1 : View.readAt (Elt Ideal) arg7.view (Rect.unit (s := S2x512x1024) ![1, 0, 0] S1x512x1024.size inb1).toLoadRect f = S3 (s 1) n) :
    View.read (Elt Ideal) arg7.view f = SB s n := by
  funext y
  rw [View.readAt_eq_ld] at h0 h1
  have hy : y = ix3 (y 0) (y 1) (y 2) := by funext a; fin_cases a <;> rfl
  obtain h | h : y 0 = (0 : Fin 2) ∨ y 0 = (1 : Fin 2) := by
    have : (y 0).val < 2 := (y 0).isLt
    rcases Nat.lt_succ_iff_lt_or_eq.mp this with h | h
    · exact .inl (Fin.ext (Nat.lt_one_iff.mp h))
    · exact .inr (Fin.ext h)
  · rw [hy, h]
    have := congrFun h0 (ix3 0 (y 1) (y 2))
    refine (ld_at (View.read (Elt Ideal) arg7.view f) _ _ inb0 _ (ix3 0 (y 1) (y 2)) ?_).symm.trans (this.trans rfl)
    intro a; fin_cases a
    · rfl
    · exact (Nat.zero_add _).symm
    · exact (Nat.zero_add _).symm
  · rw [hy, h]
    have := congrFun h1 (ix3 0 (y 1) (y 2))
    refine (ld_at (View.read (Elt Ideal) arg7.view f) _ _ inb1 _ (ix3 1 (y 1) (y 2)) ?_).symm.trans (this.trans rfl)
    intro a; fin_cases a
    · rfl
    · exact (Nat.zero_add _).symm
    · exact (Nat.zero_add _).symm

end

section
variable (q : Vec Ideal S2x1024x256 .bf16)
variable (arg9 : Memref sig .tc .vmem S2x1x1024 .f32) (harg9 : arg9.IsWhole)

/-- Head 0's part of it is read by a load of that head. -/
theorem ld_MB0 (inb) : View.readAt (Elt Ideal) arg9.view (Rect.unit (s := S2x1x1024) ![0, 0, 0] S1x1x1024.size inb).toLoadRect
    (harg9.unread (MB s n)) = M3 (s 0) n := by
  rw [View.readAt_eq_ld, harg9.read_unread]
  funext y
  have h0 : (y 0).val = 0 := by have := (y 0).isLt; exact Nat.lt_one_iff.mp this
  refine (ld_at (MB s n) _ _ inb y (ix3 0 (y 1) (y 2)) ?_).trans rfl
  intro a; fin_cases a
  · exact congrArg (0 + ·) h0.symm
  · exact (Nat.zero_add _).symm
  · exact (Nat.zero_add _).symm

/-- Head 1's part of it is read by a load of that head. -/
theorem ld_MB1 (inb) : View.readAt (Elt Ideal) arg9.view (Rect.unit (s := S2x1x1024) ![1, 0, 0] S1x1x1024.size inb).toLoadRect
    (harg9.unread (MB s n)) = M3 (s 1) n := by
  rw [View.readAt_eq_ld, harg9.read_unread]
  funext y
  have h0 : (y 0).val = 0 := by have := (y 0).isLt; exact Nat.lt_one_iff.mp this
  refine (ld_at (MB s n) _ _ inb y (ix3 1 (y 1) (y 2)) ?_).trans rfl
  intro a; fin_cases a
  · exact congrArg (1 + ·) h0.symm
  · exact (Nat.zero_add _).symm
  · exact (Nat.zero_add _).symm

/-- Contents both of whose heads' parts are these are it. -/
theorem eq_MB (f : arg9.view.ty.Contents (Elt Ideal)) (inb0 inb1)
    (h0 : View.readAt (Elt Ideal) arg9.view (Rect.unit (s := S2x1x1024) ![0, 0, 0] S1x1x1024.size inb0).toLoadRect f = M3 (s 0) n)
    (h1 : View.readAt (Elt Ideal) arg9.view (Rect.unit (s := S2x1x1024) ![1, 0, 0] S1x1x1024.size inb1).toLoadRect f = M3 (s 1) n) :
    View.read (Elt Ideal) arg9.view f = MB s n := by
  funext y
  rw [View.readAt_eq_ld] at h0 h1
  have hy : y = ix3 (y 0) (y 1) (y 2) := by funext a; fin_cases a <;> rfl
  obtain h | h : y 0 = (0 : Fin 2) ∨ y 0 = (1 : Fin 2) := by
    have : (y 0).val < 2 := (y 0).isLt
    rcases Nat.lt_succ_iff_lt_or_eq.mp this with h | h
    · exact .inl (Fin.ext (Nat.lt_one_iff.mp h))
    · exact .inr (Fin.ext h)
  · rw [hy, h]
    have := congrFun h0 (ix3 0 (y 1) (y 2))
    refine (ld_at (View.read (Elt Ideal) arg9.view f) _ _ inb0 _ (ix3 0 (y 1) (y 2)) ?_).symm.trans (this.trans rfl)
    intro a; fin_cases a
    · rfl
    · exact (Nat.zero_add _).symm
    · exact (Nat.zero_add _).symm
  · rw [hy, h]
    have := congrFun h1 (ix3 0 (y 1) (y 2))
    refine (ld_at (View.read (Elt Ideal) arg9.view f) _ _ inb1 _ (ix3 1 (y 1) (y 2)) ?_).symm.trans (this.trans rfl)
    intro a; fin_cases a
    · rfl
    · exact (Nat.zero_add _).symm
    · exact (Nat.zero_add _).symm

end

section
variable (q : Vec Ideal S2x1024x256 .bf16)
variable (arg10 : Memref sig .tc .vmem S2x1x1024 .f32) (harg10 : arg10.IsWhole)

/-- Head 0's part of it is read by a load of that head. -/
theorem ld_LB0 (inb) : View.readAt (Elt Ideal) arg10.view (Rect.unit (s := S2x1x1024) ![0, 0, 0] S1x1x1024.size inb).toLoadRect
    (harg10.unread (LB s n)) = L3 (s 0) n := by
  rw [View.readAt_eq_ld, harg10.read_unread]
  funext y
  have h0 : (y 0).val = 0 := by have := (y 0).isLt; exact Nat.lt_one_iff.mp this
  refine (ld_at (LB s n) _ _ inb y (ix3 0 (y 1) (y 2)) ?_).trans rfl
  intro a; fin_cases a
  · exact congrArg (0 + ·) h0.symm
  · exact (Nat.zero_add _).symm
  · exact (Nat.zero_add _).symm

/-- Head 1's part of it is read by a load of that head. -/
theorem ld_LB1 (inb) : View.readAt (Elt Ideal) arg10.view (Rect.unit (s := S2x1x1024) ![1, 0, 0] S1x1x1024.size inb).toLoadRect
    (harg10.unread (LB s n)) = L3 (s 1) n := by
  rw [View.readAt_eq_ld, harg10.read_unread]
  funext y
  have h0 : (y 0).val = 0 := by have := (y 0).isLt; exact Nat.lt_one_iff.mp this
  refine (ld_at (LB s n) _ _ inb y (ix3 1 (y 1) (y 2)) ?_).trans rfl
  intro a; fin_cases a
  · exact congrArg (1 + ·) h0.symm
  · exact (Nat.zero_add _).symm
  · exact (Nat.zero_add _).symm

/-- Contents both of whose heads' parts are these are it. -/
theorem eq_LB (f : arg10.view.ty.Contents (Elt Ideal)) (inb0 inb1)
    (h0 : View.readAt (Elt Ideal) arg10.view (Rect.unit (s := S2x1x1024) ![0, 0, 0] S1x1x1024.size inb0).toLoadRect f = L3 (s 0) n)
    (h1 : View.readAt (Elt Ideal) arg10.view (Rect.unit (s := S2x1x1024) ![1, 0, 0] S1x1x1024.size inb1).toLoadRect f = L3 (s 1) n) :
    View.read (Elt Ideal) arg10.view f = LB s n := by
  funext y
  rw [View.readAt_eq_ld] at h0 h1
  have hy : y = ix3 (y 0) (y 1) (y 2) := by funext a; fin_cases a <;> rfl
  obtain h | h : y 0 = (0 : Fin 2) ∨ y 0 = (1 : Fin 2) := by
    have : (y 0).val < 2 := (y 0).isLt
    rcases Nat.lt_succ_iff_lt_or_eq.mp this with h | h
    · exact .inl (Fin.ext (Nat.lt_one_iff.mp h))
    · exact .inr (Fin.ext h)
  · rw [hy, h]
    have := congrFun h0 (ix3 0 (y 1) (y 2))
    refine (ld_at (View.read (Elt Ideal) arg10.view f) _ _ inb0 _ (ix3 0 (y 1) (y 2)) ?_).symm.trans (this.trans rfl)
    intro a; fin_cases a
    · rfl
    · exact (Nat.zero_add _).symm
    · exact (Nat.zero_add _).symm
  · rw [hy, h]
    have := congrFun h1 (ix3 0 (y 1) (y 2))
    refine (ld_at (View.read (Elt Ideal) arg10.view f) _ _ inb1 _ (ix3 1 (y 1) (y 2)) ?_).symm.trans (this.trans rfl)
    intro a; fin_cases a
    · rfl
    · exact (Nat.zero_add _).symm
    · exact (Nat.zero_add _).symm

end

section
variable (q : Vec Ideal S2x1024x256 .bf16)
variable (arg11 : Memref sig .tc .vmem S2x128x1024 .f32) (harg11 : arg11.IsWhole)

/-- Head 0's part of it is read by a load of that head. -/
theorem ld_AB0 (inb) : View.readAt (Elt Ideal) arg11.view (Rect.unit (s := S2x128x1024) ![0, 0, 0] S1x128x1024.size inb).toLoadRect
    (harg11.unread (AB s v n)) = A3 (s 0) (v 0) n := by
  rw [View.readAt_eq_ld, harg11.read_unread]
  funext y
  have h0 : (y 0).val = 0 := by have := (y 0).isLt; exact Nat.lt_one_iff.mp this
  refine (ld_at (AB s v n) _ _ inb y (ix3 0 (y 1) (y 2)) ?_).trans rfl
  intro a; fin_cases a
  · exact congrArg (0 + ·) h0.symm
  · exact (Nat.zero_add _).symm
  · exact (Nat.zero_add _).symm

/-- Head 1's part of it is read by a load of that head. -/
theorem ld_AB1 (inb) : View.readAt (Elt Ideal) arg11.view (Rect.unit (s := S2x128x1024) ![1, 0, 0] S1x128x1024.size inb).toLoadRect
    (harg11.unread (AB s v n)) = A3 (s 1) (v 1) n := by
  rw [View.readAt_eq_ld, harg11.read_unread]
  funext y
  have h0 : (y 0).val = 0 := by have := (y 0).isLt; exact Nat.lt_one_iff.mp this
  refine (ld_at (AB s v n) _ _ inb y (ix3 1 (y 1) (y 2)) ?_).trans rfl
  intro a; fin_cases a
  · exact congrArg (1 + ·) h0.symm
  · exact (Nat.zero_add _).symm
  · exact (Nat.zero_add _).symm

/-- Contents both of whose heads' parts are these are it. -/
theorem eq_AB (f : arg11.view.ty.Contents (Elt Ideal)) (inb0 inb1)
    (h0 : View.readAt (Elt Ideal) arg11.view (Rect.unit (s := S2x128x1024) ![0, 0, 0] S1x128x1024.size inb0).toLoadRect f = A3 (s 0) (v 0) n)
    (h1 : View.readAt (Elt Ideal) arg11.view (Rect.unit (s := S2x128x1024) ![1, 0, 0] S1x128x1024.size inb1).toLoadRect f = A3 (s 1) (v 1) n) :
    View.read (Elt Ideal) arg11.view f = AB s v n := by
  funext y
  rw [View.readAt_eq_ld] at h0 h1
  have hy : y = ix3 (y 0) (y 1) (y 2) := by funext a; fin_cases a <;> rfl
  obtain h | h : y 0 = (0 : Fin 2) ∨ y 0 = (1 : Fin 2) := by
    have : (y 0).val < 2 := (y 0).isLt
    rcases Nat.lt_succ_iff_lt_or_eq.mp this with h | h
    · exact .inl (Fin.ext (Nat.lt_one_iff.mp h))
    · exact .inr (Fin.ext h)
  · rw [hy, h]
    have := congrFun h0 (ix3 0 (y 1) (y 2))
    refine (ld_at (View.read (Elt Ideal) arg11.view f) _ _ inb0 _ (ix3 0 (y 1) (y 2)) ?_).symm.trans (this.trans rfl)
    intro a; fin_cases a
    · rfl
    · exact (Nat.zero_add _).symm
    · exact (Nat.zero_add _).symm
  · rw [hy, h]
    have := congrFun h1 (ix3 0 (y 1) (y 2))
    refine (ld_at (View.read (Elt Ideal) arg11.view f) _ _ inb1 _ (ix3 1 (y 1) (y 2)) ?_).symm.trans (this.trans rfl)
    intro a; fin_cases a
    · rfl
    · exact (Nat.zero_add _).symm
    · exact (Nat.zero_add _).symm

end

section
variable (q : Vec Ideal S2x1024x256 .bf16)
variable (arg6 : Memref sig .tc .vmem S2x256x1024 .bf16) (harg6 : arg6.IsWhole)

/-- Head 0's part of it is read by a load of that head. -/
theorem ld_QB0 (inb) : View.readAt (Elt Ideal) arg6.view (Rect.unit (s := S2x256x1024) ![0, 0, 0] S1x256x1024.size inb).toLoadRect
    (harg6.unread (QB q)) = Q3 q 0 := by
  rw [View.readAt_eq_ld, harg6.read_unread]
  funext y
  have h0 : (y 0).val = 0 := by have := (y 0).isLt; exact Nat.lt_one_iff.mp this
  refine (ld_at (QB q) _ _ inb y (ix3 0 (y 1) (y 2)) ?_).trans rfl
  intro a; fin_cases a
  · exact congrArg (0 + ·) h0.symm
  · exact (Nat.zero_add _).symm
  · exact (Nat.zero_add _).symm

/-- Head 1's part of it is read by a load of that head. -/
theorem ld_QB1 (inb) : View.readAt (Elt Ideal) arg6.view (Rect.unit (s := S2x256x1024) ![1, 0, 0] S1x256x1024.size inb).toLoadRect
    (harg6.unread (QB q)) = Q3 q 1 := by
  rw [View.readAt_eq_ld, harg6.read_unread]
  funext y
  have h0 : (y 0).val = 0 := by have := (y 0).isLt; exact Nat.lt_one_iff.mp this
  refine (ld_at (QB q) _ _ inb y (ix3 1 (y 1) (y 2)) ?_).trans rfl
  intro a; fin_cases a
  · exact congrArg (1 + ·) h0.symm
  · exact (Nat.zero_add _).symm
  · exact (Nat.zero_add _).symm

/-- Contents both of whose heads' parts are these are it. -/
theorem eq_QB (f : arg6.view.ty.Contents (Elt Ideal)) (inb0 inb1)
    (h0 : View.readAt (Elt Ideal) arg6.view (Rect.unit (s := S2x256x1024) ![0, 0, 0] S1x256x1024.size inb0).toLoadRect f = Q3 q 0)
    (h1 : View.readAt (Elt Ideal) arg6.view (Rect.unit (s := S2x256x1024) ![1, 0, 0] S1x256x1024.size inb1).toLoadRect f = Q3 q 1) :
    View.read (Elt Ideal) arg6.view f = QB q := by
  funext y
  rw [View.readAt_eq_ld] at h0 h1
  have hy : y = ix3 (y 0) (y 1) (y 2) := by funext a; fin_cases a <;> rfl
  obtain h | h : y 0 = (0 : Fin 2) ∨ y 0 = (1 : Fin 2) := by
    have : (y 0).val < 2 := (y 0).isLt
    rcases Nat.lt_succ_iff_lt_or_eq.mp this with h | h
    · exact .inl (Fin.ext (Nat.lt_one_iff.mp h))
    · exact .inr (Fin.ext h)
  · rw [hy, h]
    have := congrFun h0 (ix3 0 (y 1) (y 2))
    refine (ld_at (View.read (Elt Ideal) arg6.view f) _ _ inb0 _ (ix3 0 (y 1) (y 2)) ?_).symm.trans (this.trans rfl)
    intro a; fin_cases a
    · rfl
    · exact (Nat.zero_add _).symm
    · exact (Nat.zero_add _).symm
  · rw [hy, h]
    have := congrFun h1 (ix3 0 (y 1) (y 2))
    refine (ld_at (View.read (Elt Ideal) arg6.view f) _ _ inb1 _ (ix3 1 (y 1) (y 2)) ?_).symm.trans (this.trans rfl)
    intro a; fin_cases a
    · rfl
    · exact (Nat.zero_add _).symm
    · exact (Nat.zero_add _).symm

end

end

/-! A head's part is not touched by the stores to the other head's. -/

/-- A store to the second head's scores is not seen by a read of the first head's, all of it stored before. -/
theorem readCov_skip_SB1 (arg : View sig .tc .vmem S2x512x1024 .f32) (inb inb') (w) (L : List (View.Piece (Elt Ideal) S2x512x1024 .f32)) :
    arg.readCov (⟨Rect.unit (s := S2x512x1024) ![1, 0, 0] S1x512x1024.size inb, w⟩ :: L) (Rect.unit (s := S2x512x1024) ![0, 0, 0] S1x512x1024.size inb').toLoadRect
      = arg.readCov L (Rect.unit (s := S2x512x1024) ![0, 0, 0] S1x512x1024.size inb').toLoadRect :=
  View.readCov_skip _ _ _ _ _ (by rfl)

/-- A store to the second head's scores is not seen by a read of the first head's, whatever the buffer held. -/
theorem readAt_skip_SB1 (arg : View sig .tc .vmem S2x512x1024 .f32) (f : arg.ty.Contents (Elt Ideal)) (inb inb') (w) (L : List (View.Piece (Elt Ideal) S2x512x1024 .f32)) :
    arg.readAt (Elt Ideal) (Rect.unit (s := S2x512x1024) ![0, 0, 0] S1x512x1024.size inb').toLoadRect (arg.writes (Elt Ideal) f (⟨Rect.unit (s := S2x512x1024) ![1, 0, 0] S1x512x1024.size inb, w⟩ :: L))
      = arg.readAt (Elt Ideal) (Rect.unit (s := S2x512x1024) ![0, 0, 0] S1x512x1024.size inb').toLoadRect (arg.writes (Elt Ideal) f L) :=
  readAt_skip _ _ _ _ _ _ (by rfl)

/-- A store to the first head's scores is not seen by a read of the second head's, all of it stored before. -/
theorem readCov_skip_SB0 (arg : View sig .tc .vmem S2x512x1024 .f32) (inb inb') (w) (L : List (View.Piece (Elt Ideal) S2x512x1024 .f32)) :
    arg.readCov (⟨Rect.unit (s := S2x512x1024) ![0, 0, 0] S1x512x1024.size inb, w⟩ :: L) (Rect.unit (s := S2x512x1024) ![1, 0, 0] S1x512x1024.size inb').toLoadRect
      = arg.readCov L (Rect.unit (s := S2x512x1024) ![1, 0, 0] S1x512x1024.size inb').toLoadRect :=
  View.readCov_skip _ _ _ _ _ (by rfl)

/-- A store to the first head's scores is not seen by a read of the second head's, whatever the buffer held. -/
theorem readAt_skip_SB0 (arg : View sig .tc .vmem S2x512x1024 .f32) (f : arg.ty.Contents (Elt Ideal)) (inb inb') (w) (L : List (View.Piece (Elt Ideal) S2x512x1024 .f32)) :
    arg.readAt (Elt Ideal) (Rect.unit (s := S2x512x1024) ![1, 0, 0] S1x512x1024.size inb').toLoadRect (arg.writes (Elt Ideal) f (⟨Rect.unit (s := S2x512x1024) ![0, 0, 0] S1x512x1024.size inb, w⟩ :: L))
      = arg.readAt (Elt Ideal) (Rect.unit (s := S2x512x1024) ![1, 0, 0] S1x512x1024.size inb').toLoadRect (arg.writes (Elt Ideal) f L) :=
  readAt_skip _ _ _ _ _ _ (by rfl)

/-- A store to the second head's maxima is not seen by a read of the first head's, all of it stored before. -/
theorem readCov_skip_MB1 (arg : View sig .tc .vmem S2x1x1024 .f32) (inb inb') (w) (L : List (View.Piece (Elt Ideal) S2x1x1024 .f32)) :
    arg.readCov (⟨Rect.unit (s := S2x1x1024) ![1, 0, 0] S1x1x1024.size inb, w⟩ :: L) (Rect.unit (s := S2x1x1024) ![0, 0, 0] S1x1x1024.size inb').toLoadRect
      = arg.readCov L (Rect.unit (s := S2x1x1024) ![0, 0, 0] S1x1x1024.size inb').toLoadRect :=
  View.readCov_skip _ _ _ _ _ (by rfl)

/-- A store to the second head's maxima is not seen by a read of the first head's, whatever the buffer held. -/
theorem readAt_skip_MB1 (arg : View sig .tc .vmem S2x1x1024 .f32) (f : arg.ty.Contents (Elt Ideal)) (inb inb') (w) (L : List (View.Piece (Elt Ideal) S2x1x1024 .f32)) :
    arg.readAt (Elt Ideal) (Rect.unit (s := S2x1x1024) ![0, 0, 0] S1x1x1024.size inb').toLoadRect (arg.writes (Elt Ideal) f (⟨Rect.unit (s := S2x1x1024) ![1, 0, 0] S1x1x1024.size inb, w⟩ :: L))
      = arg.readAt (Elt Ideal) (Rect.unit (s := S2x1x1024) ![0, 0, 0] S1x1x1024.size inb').toLoadRect (arg.writes (Elt Ideal) f L) :=
  readAt_skip _ _ _ _ _ _ (by rfl)

/-- A store to the first head's maxima is not seen by a read of the second head's, all of it stored before. -/
theorem readCov_skip_MB0 (arg : View sig .tc .vmem S2x1x1024 .f32) (inb inb') (w) (L : List (View.Piece (Elt Ideal) S2x1x1024 .f32)) :
    arg.readCov (⟨Rect.unit (s := S2x1x1024) ![0, 0, 0] S1x1x1024.size inb, w⟩ :: L) (Rect.unit (s := S2x1x1024) ![1, 0, 0] S1x1x1024.size inb').toLoadRect
      = arg.readCov L (Rect.unit (s := S2x1x1024) ![1, 0, 0] S1x1x1024.size inb').toLoadRect :=
  View.readCov_skip _ _ _ _ _ (by rfl)

/-- A store to the first head's maxima is not seen by a read of the second head's, whatever the buffer held. -/
theorem readAt_skip_MB0 (arg : View sig .tc .vmem S2x1x1024 .f32) (f : arg.ty.Contents (Elt Ideal)) (inb inb') (w) (L : List (View.Piece (Elt Ideal) S2x1x1024 .f32)) :
    arg.readAt (Elt Ideal) (Rect.unit (s := S2x1x1024) ![1, 0, 0] S1x1x1024.size inb').toLoadRect (arg.writes (Elt Ideal) f (⟨Rect.unit (s := S2x1x1024) ![0, 0, 0] S1x1x1024.size inb, w⟩ :: L))
      = arg.readAt (Elt Ideal) (Rect.unit (s := S2x1x1024) ![1, 0, 0] S1x1x1024.size inb').toLoadRect (arg.writes (Elt Ideal) f L) :=
  readAt_skip _ _ _ _ _ _ (by rfl)

/-- A store to the second head's sums of weights is not seen by a read of the first head's, all of it stored before. -/
theorem readCov_skip_LB1 (arg : View sig .tc .vmem S2x1x1024 .f32) (inb inb') (w) (L : List (View.Piece (Elt Ideal) S2x1x1024 .f32)) :
    arg.readCov (⟨Rect.unit (s := S2x1x1024) ![1, 0, 0] S1x1x1024.size inb, w⟩ :: L) (Rect.unit (s := S2x1x1024) ![0, 0, 0] S1x1x1024.size inb').toLoadRect
      = arg.readCov L (Rect.unit (s := S2x1x1024) ![0, 0, 0] S1x1x1024.size inb').toLoadRect :=
  View.readCov_skip _ _ _ _ _ (by rfl)

/-- A store to the second head's sums of weights is not seen by a read of the first head's, whatever the buffer held. -/
theorem readAt_skip_LB1 (arg : View sig .tc .vmem S2x1x1024 .f32) (f : arg.ty.Contents (Elt Ideal)) (inb inb') (w) (L : List (View.Piece (Elt Ideal) S2x1x1024 .f32)) :
    arg.readAt (Elt Ideal) (Rect.unit (s := S2x1x1024) ![0, 0, 0] S1x1x1024.size inb').toLoadRect (arg.writes (Elt Ideal) f (⟨Rect.unit (s := S2x1x1024) ![1, 0, 0] S1x1x1024.size inb, w⟩ :: L))
      = arg.readAt (Elt Ideal) (Rect.unit (s := S2x1x1024) ![0, 0, 0] S1x1x1024.size inb').toLoadRect (arg.writes (Elt Ideal) f L) :=
  readAt_skip _ _ _ _ _ _ (by rfl)

/-- A store to the first head's sums of weights is not seen by a read of the second head's, all of it stored before. -/
theorem readCov_skip_LB0 (arg : View sig .tc .vmem S2x1x1024 .f32) (inb inb') (w) (L : List (View.Piece (Elt Ideal) S2x1x1024 .f32)) :
    arg.readCov (⟨Rect.unit (s := S2x1x1024) ![0, 0, 0] S1x1x1024.size inb, w⟩ :: L) (Rect.unit (s := S2x1x1024) ![1, 0, 0] S1x1x1024.size inb').toLoadRect
      = arg.readCov L (Rect.unit (s := S2x1x1024) ![1, 0, 0] S1x1x1024.size inb').toLoadRect :=
  View.readCov_skip _ _ _ _ _ (by rfl)

/-- A store to the first head's sums of weights is not seen by a read of the second head's, whatever the buffer held. -/
theorem readAt_skip_LB0 (arg : View sig .tc .vmem S2x1x1024 .f32) (f : arg.ty.Contents (Elt Ideal)) (inb inb') (w) (L : List (View.Piece (Elt Ideal) S2x1x1024 .f32)) :
    arg.readAt (Elt Ideal) (Rect.unit (s := S2x1x1024) ![1, 0, 0] S1x1x1024.size inb').toLoadRect (arg.writes (Elt Ideal) f (⟨Rect.unit (s := S2x1x1024) ![0, 0, 0] S1x1x1024.size inb, w⟩ :: L))
      = arg.readAt (Elt Ideal) (Rect.unit (s := S2x1x1024) ![1, 0, 0] S1x1x1024.size inb').toLoadRect (arg.writes (Elt Ideal) f L) :=
  readAt_skip _ _ _ _ _ _ (by rfl)

/-- A store to the second head's weighted sums is not seen by a read of the first head's, all of it stored before. -/
theorem readCov_skip_AB1 (arg : View sig .tc .vmem S2x128x1024 .f32) (inb inb') (w) (L : List (View.Piece (Elt Ideal) S2x128x1024 .f32)) :
    arg.readCov (⟨Rect.unit (s := S2x128x1024) ![1, 0, 0] S1x128x1024.size inb, w⟩ :: L) (Rect.unit (s := S2x128x1024) ![0, 0, 0] S1x128x1024.size inb').toLoadRect
      = arg.readCov L (Rect.unit (s := S2x128x1024) ![0, 0, 0] S1x128x1024.size inb').toLoadRect :=
  View.readCov_skip _ _ _ _ _ (by rfl)

/-- A store to the second head's weighted sums is not seen by a read of the first head's, whatever the buffer held. -/
theorem readAt_skip_AB1 (arg : View sig .tc .vmem S2x128x1024 .f32) (f : arg.ty.Contents (Elt Ideal)) (inb inb') (w) (L : List (View.Piece (Elt Ideal) S2x128x1024 .f32)) :
    arg.readAt (Elt Ideal) (Rect.unit (s := S2x128x1024) ![0, 0, 0] S1x128x1024.size inb').toLoadRect (arg.writes (Elt Ideal) f (⟨Rect.unit (s := S2x128x1024) ![1, 0, 0] S1x128x1024.size inb, w⟩ :: L))
      = arg.readAt (Elt Ideal) (Rect.unit (s := S2x128x1024) ![0, 0, 0] S1x128x1024.size inb').toLoadRect (arg.writes (Elt Ideal) f L) :=
  readAt_skip _ _ _ _ _ _ (by rfl)

/-- A store to the first head's weighted sums is not seen by a read of the second head's, all of it stored before. -/
theorem readCov_skip_AB0 (arg : View sig .tc .vmem S2x128x1024 .f32) (inb inb') (w) (L : List (View.Piece (Elt Ideal) S2x128x1024 .f32)) :
    arg.readCov (⟨Rect.unit (s := S2x128x1024) ![0, 0, 0] S1x128x1024.size inb, w⟩ :: L) (Rect.unit (s := S2x128x1024) ![1, 0, 0] S1x128x1024.size inb').toLoadRect
      = arg.readCov L (Rect.unit (s := S2x128x1024) ![1, 0, 0] S1x128x1024.size inb').toLoadRect :=
  View.readCov_skip _ _ _ _ _ (by rfl)

/-- A store to the first head's weighted sums is not seen by a read of the second head's, whatever the buffer held. -/
theorem readAt_skip_AB0 (arg : View sig .tc .vmem S2x128x1024 .f32) (f : arg.ty.Contents (Elt Ideal)) (inb inb') (w) (L : List (View.Piece (Elt Ideal) S2x128x1024 .f32)) :
    arg.readAt (Elt Ideal) (Rect.unit (s := S2x128x1024) ![1, 0, 0] S1x128x1024.size inb').toLoadRect (arg.writes (Elt Ideal) f (⟨Rect.unit (s := S2x128x1024) ![0, 0, 0] S1x128x1024.size inb, w⟩ :: L))
      = arg.readAt (Elt Ideal) (Rect.unit (s := S2x128x1024) ![1, 0, 0] S1x128x1024.size inb').toLoadRect (arg.writes (Elt Ideal) f L) :=
  readAt_skip _ _ _ _ _ _ (by rfl)

section
variable (x1 : Vec Ideal S2x16384x256 .bf16) (x2 : Vec Ideal S2x128x16384 .bf16) (h : Fin 2) (n : ℕ)
variable (arg3 : Memref sig .tc .vmem S2x16384x256 .bf16) (harg3 : arg3.IsWhole)
variable (arg4 : Memref sig .tc .vmem S2x128x16384 .bf16) (harg4 : arg4.IsWhole)

/-- A load of block `n` of the keys. -/
theorem ld_K (off : Fin 3 → ℕ) (inb) (hoff : off = ![h.val, 512 * n, 0]) :
    View.readAt (Elt Ideal) arg3.view (Rect.unit (s := S2x16384x256) off S1x512x256.size inb).toLoadRect (harg3.unread x1)
      = K3 x1 h n := by
  subst hoff
  rw [View.readAt_eq_ld, harg3.read_unread]
  funext y
  have h0 : (y 0).val = 0 := by have := (y 0).isLt; exact Nat.lt_one_iff.mp this
  have h1 : (y 1).val < 512 := (y 1).isLt
  have hn : 512 * n + 512 ≤ 16384 := inb 1
  have hk : 512 * n + (y 1).val < 16384 := by omega
  refine (ld_at x1 _ _ inb y (ix3 h ⟨512 * n + (y 1).val, hk⟩ (y 2)) ?_).trans (show _ = if hk : _ then _ else _ from (dif_pos (c := 512 * n + (y 1).val < 16384) hk).symm)
  intro a; fin_cases a
  · exact congrArg (h.val + ·) h0.symm
  · rfl
  · exact (Nat.zero_add _).symm

/-- A load of block `n` of the values. -/
theorem ld_V (off : Fin 3 → ℕ) (inb) (hoff : off = ![h.val, 0, 512 * n]) :
    View.readAt (Elt Ideal) arg4.view (Rect.unit (s := S2x128x16384) off S1x128x512.size inb).toLoadRect (harg4.unread x2)
      = V3 (vx x2 h) n := by
  subst hoff
  rw [View.readAt_eq_ld, harg4.read_unread]
  funext y
  have h0 : (y 0).val = 0 := by have := (y 0).isLt; exact Nat.lt_one_iff.mp this
  have h1 : (y 2).val < 512 := (y 2).isLt
  have hn : 512 * n + 512 ≤ 16384 := inb 2
  have hk : 512 * n + (y 2).val < 16384 := by omega
  refine (ld_at x2 _ _ inb y (ix3 h (y 1) ⟨512 * n + (y 2).val, hk⟩) ?_).trans (show _ = if hk : _ then _ else _ from (dif_pos (c := 512 * n + (y 2).val < 16384) hk).symm)
  intro a; fin_cases a
  · exact congrArg (h.val + ·) h0.symm
  · exact (Nat.zero_add _).symm
  · rfl

end

end Cert.Mla

end
-- ==== Proof.MlaOff.lean ====
/- The block offsets the attention body computes, as numbers: trip `k` of its loop takes the key blocks `4 k` to
   `4 k + 3`, and what follows the loop takes the blocks next to the diagonal. -/
module

public import proofs.«01_k».proof.Proof.Gen.KernelIdeal.Skeleton

@[expose] public section

set_option maxRecDepth 65536

noncomputable section

namespace Cert.Mla

open Cert.KernelIdeal Cert.KernelIdeal.Gen
open Idealize.ShloMosaic

/-- The loop over four blocks runs half as often as there are 1024-key tiles before the diagonal one. -/
theorem trips1 : ∀ i : grid0.Coords, (k0_t1_loop i).trips = (i 1).val / 2 := by decide +kernel
/-- The second loop is never entered. -/
theorem trips2 : ∀ i : grid0.Coords, (k0_t2_loop i).trips = 0 := by decide +kernel
/-- The two blocks after the loop are taken where the number of tiles is odd. -/
theorem odd_iff : ∀ i : grid0.Coords, k0_cond1 i = 1#1 ↔ (i 1).val % 2 = 1 := by decide +kernel

/-- Where a read of the first head's keys starts in a trip. -/
theorem off1_01 : ∀ (i : grid0.Coords) (k : Fin (k0_t1_loop i).trips),
    k0_off1 i k 0#32 1#32 = ![0, 512 * (4 * k.val + 1), 0] := by decide +kernel
/-- Where a read of the first head's keys starts in a trip. -/
theorem off1_02 : ∀ (i : grid0.Coords) (k : Fin (k0_t1_loop i).trips),
    k0_off1 i k 0#32 2#32 = ![0, 512 * (4 * k.val + 2), 0] := by decide +kernel
/-- Where a read of the first head's keys starts in a trip. -/
theorem off1_11 : ∀ (i : grid0.Coords) (k : Fin (k0_t1_loop i).trips),
    k0_off1 i k 1#32 1#32 = ![0, 512 * (4 * k.val + 3), 0] := by decide +kernel
/-- Where a read of the first head's keys starts in a trip. -/
theorem off1_12 : ∀ (i : grid0.Coords) (k : Fin (k0_t1_loop i).trips),
    k0_off1 i k 1#32 2#32 = ![0, 512 * (4 * k.val + 4), 0] := by decide +kernel
/-- Where a read of the second head's keys starts in a trip. -/
theorem off4_01 : ∀ (i : grid0.Coords) (k : Fin (k0_t1_loop i).trips),
    k0_off4 i k 0#32 1#32 = ![1, 512 * (4 * k.val + 1), 0] := by decide +kernel
/-- Where a read of the second head's keys starts in a trip. -/
theorem off4_02 : ∀ (i : grid0.Coords) (k : Fin (k0_t1_loop i).trips),
    k0_off4 i k 0#32 2#32 = ![1, 512 * (4 * k.val + 2), 0] := by decide +kernel
/-- Where a read of the second head's keys starts in a trip. -/
theorem off4_11 : ∀ (i : grid0.Coords) (k : Fin (k0_t1_loop i).trips),
    k0_off4 i k 1#32 1#32 = ![1, 512 * (4 * k.val + 3), 0] := by decide +kernel
/-- Where a read of the second head's keys starts in a trip. -/
theorem off4_12 : ∀ (i : grid0.Coords) (k : Fin (k0_t1_loop i).trips),
    k0_off4 i k 1#32 2#32 = ![1, 512 * (4 * k.val + 4), 0] := by decide +kernel
/-- Where a read of the first head's values starts in a trip. -/
theorem off2_0 : ∀ (i : grid0.Coords) (k : Fin (k0_t1_loop i).trips),
    k0_off2 i k 0#32 = ![0, 0, 512 * (4 * k.val)] := by decide +kernel
/-- Where a read of the first head's values starts in a trip. -/
theorem off2_1 : ∀ (i : grid0.Coords) (k : Fin (k0_t1_loop i).trips),
    k0_off2 i k 1#32 = ![0, 0, 512 * (4 * k.val + 2)] := by decide +kernel
/-- Where a read of the first head's values starts in a trip. -/
theorem off3_0 : ∀ (i : grid0.Coords) (k : Fin (k0_t1_loop i).trips),
    k0_off3 i k 0#32 = ![0, 0, 512 * (4 * k.val + 1)] := by decide +kernel
/-- Where a read of the first head's values starts in a trip. -/
theorem off3_1 : ∀ (i : grid0.Coords) (k : Fin (k0_t1_loop i).trips),
    k0_off3 i k 1#32 = ![0, 0, 512 * (4 * k.val + 3)] := by decide +kernel
/-- Where a read of the second head's values starts in a trip. -/
theorem off5_0 : ∀ (i : grid0.Coords) (k : Fin (k0_t1_loop i).trips),
    k0_off5 i k 0#32 = ![1, 0, 512 * (4 * k.val)] := by decide +kernel
/-- Where a read of the second head's values starts in a trip. -/
theorem off5_1 : ∀ (i : grid0.Coords) (k : Fin (k0_t1_loop i).trips),
    k0_off5 i k 1#32 = ![1, 0, 512 * (4 * k.val + 2)] := by decide +kernel
/-- Where a read of the second head's values starts in a trip. -/
theorem off6_0 : ∀ (i : grid0.Coords) (k : Fin (k0_t1_loop i).trips),
    k0_off6 i k 0#32 = ![1, 0, 512 * (4 * k.val + 1)] := by decide +kernel
/-- Where a read of the second head's values starts in a trip. -/
theorem off6_1 : ∀ (i : grid0.Coords) (k : Fin (k0_t1_loop i).trips),
    k0_off6 i k 1#32 = ![1, 0, 512 * (4 * k.val + 3)] := by decide +kernel
/-- Where a read of the first head's keys starts in the two blocks after the loop. -/
theorem off13_1 : ∀ i : grid0.Coords, (i 1).val % 2 = 1 →
    k0_off13 i 1#32 = ![0, 512 * (4 * ((i 1).val / 2) + 1), 0] := by decide +kernel
/-- Where a read of the first head's keys starts in the two blocks after the loop. -/
theorem off13_2 : ∀ i : grid0.Coords, (i 1).val % 2 = 1 →
    k0_off13 i 2#32 = ![0, 512 * (4 * ((i 1).val / 2) + 2), 0] := by decide +kernel
/-- Where a read of the second head's keys starts in the two blocks after the loop. -/
theorem off16_1 : ∀ i : grid0.Coords, (i 1).val % 2 = 1 →
    k0_off16 i 1#32 = ![1, 512 * (4 * ((i 1).val / 2) + 1), 0] := by decide +kernel
/-- Where a read of the second head's keys starts in the two blocks after the loop. -/
theorem off16_2 : ∀ i : grid0.Coords, (i 1).val % 2 = 1 →
    k0_off16 i 2#32 = ![1, 512 * (4 * ((i 1).val / 2) + 2), 0] := by decide +kernel
/-- Where a read of the first head's values starts in the two blocks after the loop. -/
theorem off14_ : ∀ i : grid0.Coords, (i 1).val % 2 = 1 →
    k0_off14 i = ![0, 0, 512 * (4 * ((i 1).val / 2))] := by decide +kernel
/-- Where a read of the first head's values starts in the two blocks after the loop. -/
theorem off15_ : ∀ i : grid0.Coords, (i 1).val % 2 = 1 →
    k0_off15 i = ![0, 0, 512 * (4 * ((i 1).val / 2) + 1)] := by decide +kernel
/-- Where a read of the second head's values starts in the two blocks after the loop. -/
theorem off17_ : ∀ i : grid0.Coords, (i 1).val % 2 = 1 →
    k0_off17 i = ![1, 0, 512 * (4 * ((i 1).val / 2))] := by decide +kernel
/-- Where a read of the second head's values starts in the two blocks after the loop. -/
theorem off18_ : ∀ i : grid0.Coords, (i 1).val % 2 = 1 →
    k0_off18 i = ![1, 0, 512 * (4 * ((i 1).val / 2) + 1)] := by decide +kernel
/-- Where a read of the first head's values starts at the diagonal. -/
theorem off19_ : ∀ i : grid0.Coords, k0_off19 i = ![0, 0, 512 * (2 * (i 1).val)] := by decide +kernel
/-- Where a read of the first head's keys starts at the diagonal. -/
theorem off20_ : ∀ i : grid0.Coords, k0_off20 i = ![0, 512 * (2 * (i 1).val + 1), 0] := by decide +kernel
/-- Where a read of the first head's values starts at the diagonal. -/
theorem off21_ : ∀ i : grid0.Coords, k0_off21 i = ![0, 0, 512 * (2 * (i 1).val + 1)] := by decide +kernel
/-- Where a read of the second head's values starts at the diagonal. -/
theorem off22_ : ∀ i : grid0.Coords, k0_off22 i = ![1, 0, 512 * (2 * (i 1).val)] := by decide +kernel
/-- Where a read of the second head's keys starts at the diagonal. -/
theorem off23_ : ∀ i : grid0.Coords, k0_off23 i = ![1, 512 * (2 * (i 1).val + 1), 0] := by decide +kernel
/-- Where a read of the second head's values starts at the diagonal. -/
theorem off24_ : ∀ i : grid0.Coords, k0_off24 i = ![1, 0, 512 * (2 * (i 1).val + 1)] := by decide +kernel

end Cert.Mla

end
-- ==== Proof.MlaTrip.lean ====
/- One trip of the attention's loop over the keys: two tiles of 1024 keys, four blocks of 512, folded into the running
   maximum, sum of weights and weighted sums of both heads. -/
module

public import proofs.«01_k».proof.Proof.MlaBuf
public import proofs.«01_k».proof.Proof.MlaOff
public import proofs.«01_k».proof.Proof.Gen.KernelIdeal.Points
public import Idealize.ShloMosaic.Lib.Pipeline.FrameBody
public import Idealize.ShloMosaic.Lib.Pipeline.ValueKit
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 2000000 in
/-- A trip takes the running state after `4 * k` key blocks to the state after four more. -/
theorem trip (c : Dev nD) (i : grid0.Coords)
    (arg2 : Memref sig .tc .vmem S2x1024x256 .bf16) (harg2 : arg2.IsWhole)
    (arg3 : Memref sig .tc .vmem S2x16384x256 .bf16) (harg3 : arg3.IsWhole)
    (arg4 : Memref sig .tc .vmem S2x128x16384 .bf16) (harg4 : arg4.IsWhole)
    (arg5 : Memref sig .tc .vmem S1024x256 .bf16) (harg5 : arg5.IsWhole)
    (arg6 : Memref sig .tc .vmem S2x256x1024 .bf16) (harg6 : arg6.IsWhole)
    (arg7 : Memref sig .tc .vmem S2x512x1024 .f32) (harg7 : arg7.IsWhole)
    (arg8 : Memref sig .tc .vmem S2x512x1024 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x1024 .f32) (harg11 : arg11.IsWhole)
    (v3 : IVec S1x1024 32) (v81 : BitVec 32) (v82 : BitVec 32) (v96 : BitVec 1)
    (x1 : Vec Ideal S2x16384x256 .bf16) (x2 : Vec Ideal S2x128x16384 .bf16)
    (q : Vec Ideal S2x1024x256 .bf16)
    (k : Fin (k0_t1_loop i).trips) (E : Set ℕ) :
    (iprop(owns (c : Thread nD τ) arg3 fullShare x1 ∗ owns (c : Thread nD τ) arg4 fullShare x2
        ∗ owns (c : Thread nD τ) arg6 fullShare (QB q) ∗ owns (c : Thread nD τ) arg7 fullShare (SB (sc x1 q) (4 * k.val))
        ∗ (∃ d, owns (c : Thread nD τ) arg8 fullShare d) ∗ owns (c : Thread nD τ) arg9 fullShare (MB (sc x1 q) (4 * k.val))
        ∗ owns (c : Thread nD τ) arg10 fullShare (LB (sc x1 q) (4 * k.val)) ∗ owns (c : Thread nD τ) arg11 fullShare (AB (sc x1 q) (vx x2) (4 * k.val))) : sProp 𝕄)
      ⊢ wp frame (wpE (defs₀ (F := Ideal)) Variants.none c none) E
          (k0_t1_body (F := Ideal) i arg2 harg2 arg3 harg3 arg4 harg4 arg5 harg5 arg6 harg6 arg7 harg7 arg8 harg8
            arg9 harg9 arg10 harg10 arg11 harg11 v3 v81 v82 v96 k PUnit.unit)
          (fun _ => iprop(owns (c : Thread nD τ) arg3 fullShare x1 ∗ owns (c : Thread nD τ) arg4 fullShare x2
            ∗ owns (c : Thread nD τ) arg6 fullShare (QB q) ∗ owns (c : Thread nD τ) arg7 fullShare (SB (sc x1 q) (4 * k.val + 4))
            ∗ (∃ d, owns (c : Thread nD τ) arg8 fullShare d) ∗ owns (c : Thread nD τ) arg9 fullShare (MB (sc x1 q) (4 * k.val + 4))
            ∗ owns (c : Thread nD τ) arg10 fullShare (LB (sc x1 q) (4 * k.val + 4))
            ∗ owns (c : Thread nD τ) arg11 fullShare (AB (sc x1 q) (vx x2) (4 * k.val + 4)))) := by
  unfold k0_t1_body
  unfold owns
  iintro ⟨⟨%f3, %hf3, H3⟩, ⟨%f4, %hf4, H4⟩, ⟨%f6, %hf6, H6⟩, ⟨%f7, %hf7, H7⟩, ⟨%d8, %f8, %hf8, H8⟩, ⟨%f9, %hf9, H9⟩, ⟨%f10, %hf10, H10⟩, ⟨%f11, %hf11, H11⟩⟩
  obtain rfl := harg3.eq_unread hf3; obtain rfl := harg4.eq_unread hf4; obtain rfl := harg6.eq_unread hf6
  obtain rfl := harg7.eq_unread hf7; obtain rfl := harg9.eq_unread hf9; obtain rfl := harg10.eq_unread hf10
  obtain rfl := harg11.eq_unread hf11
  sl_exec
  sl_step
  isplitl [H3]
  · iexists _; isplitr; swap; · iexact H3
    ipureintro; exact harg3.read_unread x1
  isplitl [H4]
  · iexists _; isplitr; swap; · iexact H4
    ipureintro; exact harg4.read_unread x2
  isplitl [H6]
  · iexists _; isplitr; swap; · iexact H6
    ipureintro; exact harg6.read_unread (QB q)
  isplitl [H7] <;> [skip; (isplitl [H8] <;> [skip; (isplitl [H9] <;> [skip; (isplitl [H10] <;> [skip; skip])])])]
  rotate_left
  · iexists _, _; isplitr; swap; · iexact H8
    ipureintro; rfl
  rotate_right
  all_goals (iexists _; isplitr; swap; iassumption; ipureintro)
  · refine eq_SB _ _ arg7 _ (by decide) (by decide) ?_ ?_
    all_goals
      iterate 12 sl_unfold_run_names
      simp (maxSteps := 1000000) (proj := false) (decide := true) only [
        ↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1,
        View.writes_nil,
        ld_K x1 0 _ _ _ _ _ (off1_01 i k), ld_K x1 0 _ _ _ _ _ (off1_02 i k), ld_K x1 0 _ _ _ _ _ (off1_11 i k), ld_K x1 0 _ _ _ _ _ (off1_12 i k),
        ld_K x1 1 _ _ _ _ _ (off4_01 i k), ld_K x1 1 _ _ _ _ _ (off4_02 i k), ld_K x1 1 _ _ _ _ _ (off4_11 i k), ld_K x1 1 _ _ _ _ _ (off4_12 i k),
        ld_V x2 0 _ _ _ _ _ (off2_0 i k), ld_V x2 0 _ _ _ _ _ (off3_0 i k), ld_V x2 0 _ _ _ _ _ (off2_1 i k), ld_V x2 0 _ _ _ _ _ (off3_1 i k),
        ld_V x2 1 _ _ _ _ _ (off5_0 i k), ld_V x2 1 _ _ _ _ _ (off6_0 i k), ld_V x2 1 _ _ _ _ _ (off5_1 i k), ld_V x2 1 _ _ _ _ _ (off6_1 i k),
        ld_QB0, ld_QB1, ld_SB0, ld_SB1, ld_MB0, ld_MB1, ld_LB0, ld_LB1, ld_AB0, ld_AB1, k0_pay213, k0_pay214, k0_pay215, k0_pay216,
        cast_S3, cast_M3, cast_L3, cast_A3, cast_V3, cast_SM, cast_M1, cast_L1, cast_A2, scores_eq,
        max_step, alpha_eq, p_eq, sum_step, acc_step, Nat.add_assoc, Nat.reduceAdd]
  · refine eq_MB _ _ arg9 _ (by decide) (by decide) ?_ ?_
    all_goals
      iterate 12 sl_unfold_run_names
      simp (maxSteps := 1000000) (proj := false) (decide := true) only [
        ↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1,
        View.writes_nil,
        ld_K x1 0 _ _ _ _ _ (off1_01 i k), ld_K x1 0 _ _ _ _ _ (off1_02 i k), ld_K x1 0 _ _ _ _ _ (off1_11 i k), ld_K x1 0 _ _ _ _ _ (off1_12 i k),
        ld_K x1 1 _ _ _ _ _ (off4_01 i k), ld_K x1 1 _ _ _ _ _ (off4_02 i k), ld_K x1 1 _ _ _ _ _ (off4_11 i k), ld_K x1 1 _ _ _ _ _ (off4_12 i k),
        ld_V x2 0 _ _ _ _ _ (off2_0 i k), ld_V x2 0 _ _ _ _ _ (off3_0 i k), ld_V x2 0 _ _ _ _ _ (off2_1 i k), ld_V x2 0 _ _ _ _ _ (off3_1 i k),
        ld_V x2 1 _ _ _ _ _ (off5_0 i k), ld_V x2 1 _ _ _ _ _ (off6_0 i k), ld_V x2 1 _ _ _ _ _ (off5_1 i k), ld_V x2 1 _ _ _ _ _ (off6_1 i k),
        ld_QB0, ld_QB1, ld_SB0, ld_SB1, ld_MB0, ld_MB1, ld_LB0, ld_LB1, ld_AB0, ld_AB1, k0_pay213, k0_pay214, k0_pay215, k0_pay216,
        cast_S3, cast_M3, cast_L3, cast_A3, cast_V3, cast_SM, cast_M1, cast_L1, cast_A2, scores_eq,
        max_step, alpha_eq, p_eq, sum_step, acc_step, Nat.add_assoc, Nat.reduceAdd]
  · refine eq_LB _ _ arg10 _ (by decide) (by decide) ?_ ?_
    all_goals
      iterate 12 sl_unfold_run_names
      simp (maxSteps := 1000000) (proj := false) (decide := true) only [
        ↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1,
        View.writes_nil,
        ld_K x1 0 _ _ _ _ _ (off1_01 i k), ld_K x1 0 _ _ _ _ _ (off1_02 i k), ld_K x1 0 _ _ _ _ _ (off1_11 i k), ld_K x1 0 _ _ _ _ _ (off1_12 i k),
        ld_K x1 1 _ _ _ _ _ (off4_01 i k), ld_K x1 1 _ _ _ _ _ (off4_02 i k), ld_K x1 1 _ _ _ _ _ (off4_11 i k), ld_K x1 1 _ _ _ _ _ (off4_12 i k),
        ld_V x2 0 _ _ _ _ _ (off2_0 i k), ld_V x2 0 _ _ _ _ _ (off3_0 i k), ld_V x2 0 _ _ _ _ _ (off2_1 i k), ld_V x2 0 _ _ _ _ _ (off3_1 i k),
        ld_V x2 1 _ _ _ _ _ (off5_0 i k), ld_V x2 1 _ _ _ _ _ (off6_0 i k), ld_V x2 1 _ _ _ _ _ (off5_1 i k), ld_V x2 1 _ _ _ _ _ (off6_1 i k),
        ld_QB0, ld_QB1, ld_SB0, ld_SB1, ld_MB0, ld_MB1, ld_LB0, ld_LB1, ld_AB0, ld_AB1, k0_pay213, k0_pay214, k0_pay215, k0_pay216,
        cast_S3, cast_M3, cast_L3, cast_A3, cast_V3, cast_SM, cast_M1, cast_L1, cast_A2, scores_eq,
        max_step, alpha_eq, p_eq, sum_step, acc_step, Nat.add_assoc, Nat.reduceAdd]
  · refine eq_AB _ _ _ arg11 _ (by decide) (by decide) ?_ ?_
    all_goals
      iterate 12 sl_unfold_run_names
      simp (maxSteps := 1000000) (proj := false) (decide := true) only [
        ↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1,
        View.writes_nil,
        ld_K x1 0 _ _ _ _ _ (off1_01 i k), ld_K x1 0 _ _ _ _ _ (off1_02 i k), ld_K x1 0 _ _ _ _ _ (off1_11 i k), ld_K x1 0 _ _ _ _ _ (off1_12 i k),
        ld_K x1 1 _ _ _ _ _ (off4_01 i k), ld_K x1 1 _ _ _ _ _ (off4_02 i k), ld_K x1 1 _ _ _ _ _ (off4_11 i k), ld_K x1 1 _ _ _ _ _ (off4_12 i k),
        ld_V x2 0 _ _ _ _ _ (off2_0 i k), ld_V x2 0 _ _ _ _ _ (off3_0 i k), ld_V x2 0 _ _ _ _ _ (off2_1 i k), ld_V x2 0 _ _ _ _ _ (off3_1 i k),
        ld_V x2 1 _ _ _ _ _ (off5_0 i k), ld_V x2 1 _ _ _ _ _ (off6_0 i k), ld_V x2 1 _ _ _ _ _ (off5_1 i k), ld_V x2 1 _ _ _ _ _ (off6_1 i k),
        ld_QB0, ld_QB1, ld_SB0, ld_SB1, ld_MB0, ld_MB1, ld_LB0, ld_LB1, ld_AB0, ld_AB1, k0_pay213, k0_pay214, k0_pay215, k0_pay216,
        cast_S3, cast_M3, cast_L3, cast_A3, cast_V3, cast_SM, cast_M1, cast_L1, cast_A2, scores_eq,
        max_step, alpha_eq, p_eq, sum_step, acc_step, Nat.add_assoc, Nat.reduceAdd]

end Cert.Mla

end
-- ==== Proof.MlaBlocks.lean ====
/- The attention's key blocks before the diagonal: the loop of trips and the two blocks left over where the number of
   tiles is odd. -/
module

public import proofs.«01_k».proof.Proof.MlaTrip
public import proofs.«01_k».proof.Proof.Gen.KernelIdeal.Points
public import Idealize.ShloMosaic.Lib.Pipeline.FrameBody
public import Idealize.ShloMosaic.Lib.Pipeline.ValueKit
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- Before trip `k` the first `4 * k` blocks of keys are done. -/
@[sl_loop, instance_reducible] def tripInv (c : Dev nD) (E : Set ℕ) (i : grid0.Coords)
    (arg2 : Memref sig .tc .vmem S2x1024x256 .bf16) (harg2 : arg2.IsWhole)
    (arg3 : Memref sig .tc .vmem S2x16384x256 .bf16) (harg3 : arg3.IsWhole)
    (arg4 : Memref sig .tc .vmem S2x128x16384 .bf16) (harg4 : arg4.IsWhole)
    (arg5 : Memref sig .tc .vmem S1024x256 .bf16) (harg5 : arg5.IsWhole)
    (arg6 : Memref sig .tc .vmem S2x256x1024 .bf16) (harg6 : arg6.IsWhole)
    (arg7 : Memref sig .tc .vmem S2x512x1024 .f32) (harg7 : arg7.IsWhole)
    (arg8 : Memref sig .tc .vmem S2x512x1024 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x1024 .f32) (harg11 : arg11.IsWhole)
    (v3 : IVec S1x1024 32) (v81 : BitVec 32) (v82 : BitVec 32) (v96 : BitVec 1)
    (x1 : Vec Ideal S2x16384x256 .bf16) (x2 : Vec Ideal S2x128x16384 .bf16)
    (q : Vec Ideal S2x1024x256 .bf16) :
    LoopInv (M := 𝕄) Idealize.ShloMosaic.frame (wpE (defs₀ (F := Ideal)) Variants.none (c : Thread nD τ) none) E
      (k0_t1_loop i).lb (k0_t1_loop i).ub (k0_t1_loop i).st (k0_t1_ok i) ()
      (k0_t1_body (F := Ideal) i arg2 harg2 arg3 harg3 arg4 harg4 arg5 harg5 arg6 harg6 arg7 harg7 arg8 harg8 arg9 harg9 arg10 harg10 arg11 harg11 v3 v81 v82 v96) where
  inv k _ := iprop((arg3.view.loc (c : Thread nD τ) ↦[arg3.view.set]{fullShare} harg3.unread x1)
    ∗ (arg4.view.loc (c : Thread nD τ) ↦[arg4.view.set]{fullShare} harg4.unread x2)
    ∗ (arg6.view.loc (c : Thread nD τ) ↦[arg6.view.set]{fullShare} harg6.unread (QB q))
    ∗ (∃ f, (arg7.view.loc (c : Thread nD τ) ↦[arg7.view.set]{fullShare} f) ∗ ⌜f = harg7.unread (SB (sc x1 q) (4 * k))⌝)
    ∗ (∃ f, (arg8.view.loc (c : Thread nD τ) ↦[arg8.view.set]{fullShare} f))
    ∗ (∃ f, (arg9.view.loc (c : Thread nD τ) ↦[arg9.view.set]{fullShare} f) ∗ ⌜f = harg9.unread (MB (sc x1 q) (4 * k))⌝)
    ∗ (∃ f, (arg10.view.loc (c : Thread nD τ) ↦[arg10.view.set]{fullShare} f) ∗ ⌜f = harg10.unread (LB (sc x1 q) (4 * k))⌝)
    ∗ (∃ f, (arg11.view.loc (c : Thread nD τ) ↦[arg11.view.set]{fullShare} f) ∗ ⌜f = harg11.unread (AB (sc x1 q) (vx x2) (4 * k))⌝))
  step k acc := by
    iintro ⟨H3, H4, H6, ⟨%f7, H7, %h7⟩, ⟨%f8, H8⟩, ⟨%f9, H9, %h9⟩, ⟨%f10, H10, %h10⟩, ⟨%f11, H11, %h11⟩⟩
    subst h7 h9 h10 h11
    iapply (wp_wand_r Idealize.ShloMosaic.frame (wpE (defs₀ (F := Ideal)) Variants.none (c : Thread nD τ) none) E)
    isplitl [H3 H4 H6 H7 H8 H9 H10 H11]
    · iapply (trip c i arg2 harg2 arg3 harg3 arg4 harg4 arg5 harg5 arg6 harg6 arg7 harg7 arg8 harg8 arg9 harg9 arg10 harg10 arg11 harg11 v3 v81 v82 v96 x1 x2 q k E)
      unfold owns
      isplitl [H3]; · iexists _; isplitr; swap; iexact H3; ipureintro; exact harg3.read_unread x1
      isplitl [H4]; · iexists _; isplitr; swap; iexact H4; ipureintro; exact harg4.read_unread x2
      isplitl [H6]; · iexists _; isplitr; swap; iexact H6; ipureintro; exact harg6.read_unread _
      isplitl [H7]; · iexists _; isplitr; swap; iexact H7; ipureintro; exact harg7.read_unread _
      isplitl [H8]; · iexists _, _; isplitr; swap; iexact H8; ipureintro; rfl
      isplitl [H9]; · iexists _; isplitr; swap; iexact H9; ipureintro; exact harg9.read_unread _
      isplitl [H10]; · iexists _; isplitr; swap; iexact H10; ipureintro; exact harg10.read_unread _
      iexists _; isplitr; swap; iexact H11; ipureintro; exact harg11.read_unread _
    · unfold owns
      iintro %_ ⟨⟨%f3, %hf3, H3⟩, ⟨%f4, %hf4, H4⟩, ⟨%f6, %hf6, H6⟩, ⟨%f7, %hf7, H7⟩, ⟨%d8, %f8, %hf8, H8⟩, ⟨%f9, %hf9, H9⟩, ⟨%f10, %hf10, H10⟩, ⟨%f11, %hf11, H11⟩⟩
      obtain rfl := harg3.eq_unread hf3; obtain rfl := harg4.eq_unread hf4; obtain rfl := harg6.eq_unread hf6
      isplitl [H3]; · iexact H3
      isplitl [H4]; · iexact H4
      isplitl [H6]; · iexact H6
      isplitl [H7]; · iexists _; isplitl [H7]; iexact H7; ipureintro; exact harg7.eq_unread hf7
      isplitl [H8]; · iexists _; iexact H8
      isplitl [H9]; · iexists _; isplitl [H9]; iexact H9; ipureintro; exact harg9.eq_unread hf9
      isplitl [H10]; · iexists _; isplitl [H10]; iexact H10; ipureintro; exact harg10.eq_unread hf10
      iexists _; isplitl [H11]; iexact H11; ipureintro; exact harg11.eq_unread hf11

set_option maxHeartbeats 2000000 in
/-- The loop over the tiles before the diagonal, and the two tiles left over where their number isn't a multiple of four:
    it goes from no blocks done to `2 * i` blocks, `i` the query tile's number. -/
theorem blocks (c : Dev nD) (E : Set ℕ) (i : grid0.Coords)
    (arg2 : Memref sig .tc .vmem S2x1024x256 .bf16) (harg2 : arg2.IsWhole)
    (arg3 : Memref sig .tc .vmem S2x16384x256 .bf16) (harg3 : arg3.IsWhole)
    (arg4 : Memref sig .tc .vmem S2x128x16384 .bf16) (harg4 : arg4.IsWhole)
    (arg5 : Memref sig .tc .vmem S1024x256 .bf16) (harg5 : arg5.IsWhole)
    (arg6 : Memref sig .tc .vmem S2x256x1024 .bf16) (harg6 : arg6.IsWhole)
    (arg7 : Memref sig .tc .vmem S2x512x1024 .f32) (harg7 : arg7.IsWhole)
    (arg8 : Memref sig .tc .vmem S2x512x1024 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x1024 .f32) (harg11 : arg11.IsWhole)
    (v3 : IVec S1x1024 32) (v81 : BitVec 32) (v82 : BitVec 32) (v96 : BitVec 1)
    (x1 : Vec Ideal S2x16384x256 .bf16) (x2 : Vec Ideal S2x128x16384 .bf16)
    (q : Vec Ideal S2x1024x256 .bf16) :
    (iprop(owns (c : Thread nD τ) arg3 fullShare x1 ∗ owns (c : Thread nD τ) arg4 fullShare x2
      ∗ owns (c : Thread nD τ) arg6 fullShare (QB q) ∗ owns (c : Thread nD τ) arg7 fullShare (SB (sc x1 q) (0))
      ∗ (∃ d, owns (c : Thread nD τ) arg8 fullShare d) ∗ owns (c : Thread nD τ) arg9 fullShare (MB (sc x1 q) (0))
      ∗ owns (c : Thread nD τ) arg10 fullShare (LB (sc x1 q) (0))
      ∗ owns (c : Thread nD τ) arg11 fullShare (AB (sc x1 q) (vx x2) (0))) : sProp 𝕄)
      ⊢ wp frame (wpE (defs₀ (F := Ideal)) Variants.none c none) E
          (k0_part34 (F := Ideal) i arg2 harg2 arg3 harg3 arg4 harg4 arg5 harg5 arg6 harg6 arg7 harg7 arg8 harg8 arg9 harg9 arg10 harg10 arg11 harg11 v3 v81 v82 v96)
          (fun r => iprop(owns (c : Thread nD τ) arg3 fullShare x1 ∗ owns (c : Thread nD τ) arg4 fullShare x2
      ∗ owns (c : Thread nD τ) arg6 fullShare (QB q) ∗ owns (c : Thread nD τ) arg7 fullShare (SB (sc x1 q) (2 * (i 1).val))
      ∗ (∃ d, owns (c : Thread nD τ) arg8 fullShare d) ∗ owns (c : Thread nD τ) arg9 fullShare (MB (sc x1 q) (2 * (i 1).val))
      ∗ owns (c : Thread nD τ) arg10 fullShare (LB (sc x1 q) (2 * (i 1).val))
      ∗ owns (c : Thread nD τ) arg11 fullShare (AB (sc x1 q) (vx x2) (2 * (i 1).val))
            ∗ ⌜r.1 = Scalar.muli 2#32 v81⌝ ∗ ⌜r.2.1 = SM (sc x1 q 0) (2 * (i 1).val)⌝ ∗ ⌜r.2.2.1 = k0_pay224 v3 v81⌝
            ∗ ⌜r.2.2.2 = Named.named (F := Ideal) κ "mask" 0xF149F2CA#32⌝)) := by
  have htr : (k0_t2_loop i).trips = 0 := trips2 i
  rw [k0_part34_eq_skeleton]
  unfold k0_part34_skel
  unfold owns
  iintro ⟨⟨%f3, %hf3, H3⟩, ⟨%f4, %hf4, H4⟩, ⟨%f6, %hf6, H6⟩, ⟨%f7, %hf7, H7⟩, ⟨%d8, %f8, %hf8, H8⟩, ⟨%f9, %hf9, H9⟩, ⟨%f10, %hf10, H10⟩, ⟨%f11, %hf11, H11⟩⟩
  obtain rfl := harg3.eq_unread hf3; obtain rfl := harg4.eq_unread hf4; obtain rfl := harg6.eq_unread hf6
  obtain rfl := harg7.eq_unread hf7; obtain rfl := harg9.eq_unread hf9; obtain rfl := harg10.eq_unread hf10
  obtain rfl := harg11.eq_unread hf11
  have ht : Scf.trips (k0_t1_loop i).lb (k0_t1_loop i).ub (k0_t1_loop i).st = (i 1).val / 2 := trips1 i
  by_cases hc : k0_cond1 i = 1#1
  · have hodd := (odd_iff i).mp hc
    have h4 : 2 * (i 1).val = 4 * ((i 1).val / 2) + 2 := by omega
    rw [h4]
    sl_exec (disch := first | sl_exact hc)
    sl_step
    isplitl [H3]
    · iexists _; isplitr; swap; · iexact H3
      ipureintro; exact harg3.read_unread x1
    isplitl [H4]
    · iexists _; isplitr; swap; · iexact H4
      ipureintro; exact harg4.read_unread x2
    isplitl [H6]
    · iexists _; isplitr; swap; · iexact H6
      ipureintro; exact harg6.read_unread (QB q)
    isplitl [H7] <;> [skip; (isplitl [H8] <;> [skip; (isplitl [H9] <;> [skip; (isplitl [H10] <;> [skip; (isplitl [H11] <;> [skip; skip])])])])]
    rotate_left
    · iexists _, _; isplitr; swap; · iexact H8
      ipureintro; rfl
    rotate_right
    on_goal 5 => (isplit; ipureintro; rfl)
    on_goal 5 => (isplit <;> [skip; (isplit; ipureintro; rfl; ipureintro; rfl)])
    on_goal 5 => ipureintro
    on_goal 1 => (iexists _; isplitr; swap; iassumption; ipureintro)
    on_goal 2 => (iexists _; isplitr; swap; iassumption; ipureintro)
    on_goal 3 => (iexists _; isplitr; swap; iassumption; ipureintro)
    on_goal 4 => (iexists _; isplitr; swap; iassumption; ipureintro)
    · refine eq_SB _ _ arg7 _ (by decide) (by decide) ?_ ?_
      all_goals
        iterate 12 sl_unfold_run_names
        simp (maxSteps := 1000000) (proj := false) (decide := true) only [
          ↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1,
          View.writes_nil, ht,
          ld_K x1 0 _ _ _ _ _ (off13_1 i hodd), ld_K x1 0 _ _ _ _ _ (off13_2 i hodd), ld_K x1 1 _ _ _ _ _ (off16_1 i hodd), ld_K x1 1 _ _ _ _ _ (off16_2 i hodd),
          ld_V x2 0 _ _ _ _ _ (off14_ i hodd), ld_V x2 0 _ _ _ _ _ (off15_ i hodd), ld_V x2 1 _ _ _ _ _ (off17_ i hodd), ld_V x2 1 _ _ _ _ _ (off18_ i hodd),
          ld_QB0, ld_QB1, ld_SB0, ld_SB1, ld_MB0, ld_MB1, ld_LB0, ld_LB1, ld_AB0, ld_AB1, k0_pay221, k0_pay222, k0_pay223,
          cast_S3, cast_M3, cast_L3, cast_A3, cast_V3, cast_SM, cast_M1, cast_L1, cast_A2, scores_eq,
          max_step, alpha_eq, p_eq, sum_step, acc_step, Nat.add_assoc, Nat.reduceAdd]
    · refine eq_MB _ _ arg9 _ (by decide) (by decide) ?_ ?_
      all_goals
        iterate 12 sl_unfold_run_names
        simp (maxSteps := 1000000) (proj := false) (decide := true) only [
          ↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1,
          View.writes_nil, ht,
          ld_K x1 0 _ _ _ _ _ (off13_1 i hodd), ld_K x1 0 _ _ _ _ _ (off13_2 i hodd), ld_K x1 1 _ _ _ _ _ (off16_1 i hodd), ld_K x1 1 _ _ _ _ _ (off16_2 i hodd),
          ld_V x2 0 _ _ _ _ _ (off14_ i hodd), ld_V x2 0 _ _ _ _ _ (off15_ i hodd), ld_V x2 1 _ _ _ _ _ (off17_ i hodd), ld_V x2 1 _ _ _ _ _ (off18_ i hodd),
          ld_QB0, ld_QB1, ld_SB0, ld_SB1, ld_MB0, ld_MB1, ld_LB0, ld_LB1, ld_AB0, ld_AB1, k0_pay221, k0_pay222, k0_pay223,
          cast_S3, cast_M3, cast_L3, cast_A3, cast_V3, cast_SM, cast_M1, cast_L1, cast_A2, scores_eq,
          max_step, alpha_eq, p_eq, sum_step, acc_step, Nat.add_assoc, Nat.reduceAdd]
    · refine eq_LB _ _ arg10 _ (by decide) (by decide) ?_ ?_
      all_goals
        iterate 12 sl_unfold_run_names
        simp (maxSteps := 1000000) (proj := false) (decide := true) only [
          ↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1,
          View.writes_nil, ht,
          ld_K x1 0 _ _ _ _ _ (off13_1 i hodd), ld_K x1 0 _ _ _ _ _ (off13_2 i hodd), ld_K x1 1 _ _ _ _ _ (off16_1 i hodd), ld_K x1 1 _ _ _ _ _ (off16_2 i hodd),
          ld_V x2 0 _ _ _ _ _ (off14_ i hodd), ld_V x2 0 _ _ _ _ _ (off15_ i hodd), ld_V x2 1 _ _ _ _ _ (off17_ i hodd), ld_V x2 1 _ _ _ _ _ (off18_ i hodd),
          ld_QB0, ld_QB1, ld_SB0, ld_SB1, ld_MB0, ld_MB1, ld_LB0, ld_LB1, ld_AB0, ld_AB1, k0_pay221, k0_pay222, k0_pay223,
          cast_S3, cast_M3, cast_L3, cast_A3, cast_V3, cast_SM, cast_M1, cast_L1, cast_A2, scores_eq,
          max_step, alpha_eq, p_eq, sum_step, acc_step, Nat.add_assoc, Nat.reduceAdd]
    · refine eq_AB _ _ _ arg11 _ (by decide) (by decide) ?_ ?_
      all_goals
        iterate 12 sl_unfold_run_names
        simp (maxSteps := 1000000) (proj := false) (decide := true) only [
          ↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1,
          View.writes_nil, ht,
          ld_K x1 0 _ _ _ _ _ (off13_1 i hodd), ld_K x1 0 _ _ _ _ _ (off13_2 i hodd), ld_K x1 1 _ _ _ _ _ (off16_1 i hodd), ld_K x1 1 _ _ _ _ _ (off16_2 i hodd),
          ld_V x2 0 _ _ _ _ _ (off14_ i hodd), ld_V x2 0 _ _ _ _ _ (off15_ i hodd), ld_V x2 1 _ _ _ _ _ (off17_ i hodd), ld_V x2 1 _ _ _ _ _ (off18_ i hodd),
          ld_QB0, ld_QB1, ld_SB0, ld_SB1, ld_MB0, ld_MB1, ld_LB0, ld_LB1, ld_AB0, ld_AB1, k0_pay221, k0_pay222, k0_pay223,
          cast_S3, cast_M3, cast_L3, cast_A3, cast_V3, cast_SM, cast_M1, cast_L1, cast_A2, scores_eq,
          max_step, alpha_eq, p_eq, sum_step, acc_step, Nat.add_assoc, Nat.reduceAdd]
    · skip
      all_goals
        iterate 12 sl_unfold_run_names
        simp (maxSteps := 1000000) (proj := false) (decide := true) only [
          ↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1,
          View.writes_nil, ht,
          ld_K x1 0 _ _ _ _ _ (off13_1 i hodd), ld_K x1 0 _ _ _ _ _ (off13_2 i hodd), ld_K x1 1 _ _ _ _ _ (off16_1 i hodd), ld_K x1 1 _ _ _ _ _ (off16_2 i hodd),
          ld_V x2 0 _ _ _ _ _ (off14_ i hodd), ld_V x2 0 _ _ _ _ _ (off15_ i hodd), ld_V x2 1 _ _ _ _ _ (off17_ i hodd), ld_V x2 1 _ _ _ _ _ (off18_ i hodd),
          ld_QB0, ld_QB1, ld_SB0, ld_SB1, ld_MB0, ld_MB1, ld_LB0, ld_LB1, ld_AB0, ld_AB1, k0_pay221, k0_pay222, k0_pay223,
          cast_S3, cast_M3, cast_L3, cast_A3, cast_V3, cast_SM, cast_M1, cast_L1, cast_A2, scores_eq,
          max_step, alpha_eq, p_eq, sum_step, acc_step, Nat.add_assoc, Nat.reduceAdd]
  · have heven : (i 1).val % 2 ≠ 1 := fun h => hc ((odd_iff i).mpr h)
    have h4 : 2 * (i 1).val = 4 * ((i 1).val / 2) := by omega
    rw [h4]
    sl_exec (disch := first | sl_exact hc)
    sl_step
    isplitl [H3]
    · iexists _; isplitr; swap; · iexact H3
      ipureintro; exact harg3.read_unread x1
    isplitl [H4]
    · iexists _; isplitr; swap; · iexact H4
      ipureintro; exact harg4.read_unread x2
    isplitl [H6]
    · iexists _; isplitr; swap; · iexact H6
      ipureintro; exact harg6.read_unread (QB q)
    isplitl [H7] <;> [skip; (isplitl [H8] <;> [skip; (isplitl [H9] <;> [skip; (isplitl [H10] <;> [skip; (isplitl [H11] <;> [skip; skip])])])])]
    rotate_left
    · iexists _, _; isplitr; swap; · iexact H8
      ipureintro; rfl
    rotate_right
    on_goal 5 => (isplit; ipureintro; rfl)
    on_goal 5 => (isplit <;> [skip; (isplit; ipureintro; rfl; ipureintro; rfl)])
    on_goal 5 => ipureintro
    on_goal 1 => (iexists _; isplitr; swap; iassumption; ipureintro)
    on_goal 2 => (iexists _; isplitr; swap; iassumption; ipureintro)
    on_goal 3 => (iexists _; isplitr; swap; iassumption; ipureintro)
    on_goal 4 => (iexists _; isplitr; swap; iassumption; ipureintro)
    · refine eq_SB _ _ arg7 _ (by decide) (by decide) ?_ ?_
      all_goals
        iterate 3 sl_unfold_run_names
        simp (proj := false) only [ht, ld_SB0, ld_SB1, ld_MB0, ld_MB1, ld_LB0, ld_LB1, ld_AB0, ld_AB1, k0_pay223, cast_S3]
    · refine eq_MB _ _ arg9 _ (by decide) (by decide) ?_ ?_
      all_goals
        iterate 3 sl_unfold_run_names
        simp (proj := false) only [ht, ld_SB0, ld_SB1, ld_MB0, ld_MB1, ld_LB0, ld_LB1, ld_AB0, ld_AB1, k0_pay223, cast_S3]
    · refine eq_LB _ _ arg10 _ (by decide) (by decide) ?_ ?_
      all_goals
        iterate 3 sl_unfold_run_names
        simp (proj := false) only [ht, ld_SB0, ld_SB1, ld_MB0, ld_MB1, ld_LB0, ld_LB1, ld_AB0, ld_AB1, k0_pay223, cast_S3]
    · refine eq_AB _ _ _ arg11 _ (by decide) (by decide) ?_ ?_
      all_goals
        iterate 3 sl_unfold_run_names
        simp (proj := false) only [ht, ld_SB0, ld_SB1, ld_MB0, ld_MB1, ld_LB0, ld_LB1, ld_AB0, ld_AB1, k0_pay223, cast_S3]
    · skip
      all_goals
        iterate 3 sl_unfold_run_names
        simp (proj := false) only [ht, ld_SB0, ld_SB1, ld_MB0, ld_MB1, ld_LB0, ld_LB1, ld_AB0, ld_AB1, k0_pay223, cast_S3]

end Cert.Mla

end
-- ==== Proof.MlaMask.lean ====
/- The masked tiles of the attention body: which scores the causal mask keeps. -/
module

public import proofs.«01_k».proof.Proof.MlaBuf
public import proofs.«01_k».proof.Proof.Gen.KernelIdeal.Skeleton
public import Idealize.ShloMosaic.Lib.WordCmp

@[expose] public section

set_option maxRecDepth 16384

noncomputable section

namespace Cert.Mla

open Cert.KernelIdeal Cert.KernelIdeal.Gen Cert.Online
open Idealize.ShloMosaic

/-- Query `b` of tile `t` sees the keys up to its own place. -/
def ms (t : ℕ) (s : Fin 1024 → ℕ → EReal) (b : Fin 1024) (n : ℕ) : EReal := if n ≤ 1024 * t + b.val then s b n else ⊥

/-- The mask's constant names minus infinity. -/
theorem named_mask : Named.named (F := Ideal) (φ := .f32) κ "mask" 0xF149F2CA#32 = (⊥ : EReal) := by
  rfl

/-- A comparison of two places, each a block's start and an offset. -/
theorem sle_select (a b : ℕ) (x y : EReal) (ha : a < 2 ^ 31) (hb : b < 2 ^ 31) :
    Scalar.select (IntOp.cmpi CmpIPredicate.sle (BitVec.ofNat 32 a) (BitVec.ofNat 32 b)) x y = if a ≤ b then x else y := by
  rw [WordCmp.cmpi_sle_ofNat ha hb]
  by_cases h : a ≤ b <;> simp [h, Scalar.select]

/-- The query tile's number is less than 16. -/
theorem tile_lt (i : grid0.Coords) : (i 1).val < 16 := (i 1).isLt

/-- The mask on the first of the diagonal's two blocks. -/
theorem mask_full (i : grid0.Coords) (s : Fin 1024 → ℕ → EReal) :
    k0_pay225 (F := Ideal) (SM s (2 * (i 1).val)) (k0_pay224 (k0_pay201 i) (BitVec.ofNat 32 (i 1).val))
      (Named.named (F := Ideal) (φ := .f32) κ "mask" 0xF149F2CA#32) = SM (ms (i 1).val s) (2 * (i 1).val) := by
  have hi := tile_lt i
  funext y
  have h0 : (y 0).val < 512 := (y 0).isLt
  have h1 : (y 1).val < 1024 := (y 1).isLt
  pointwise [k0_pay225, k0_pay224, k0_pay201, SM, ms]
  rw [show IntOp.addi (Scalar.muli (Scalar.muli (2#32) (BitVec.ofNat 32 (i 1).val)) 512#32) (BitVec.ofNat 32 (y 0).val)
      = BitVec.ofNat 32 (512 * (2 * (i 1).val) + (y 0).val) from by
        simp only [Scalar.muli, IntOp.muli, IntOp.addi, BitVec.ofNat_mul, BitVec.ofNat_add]; simp only [BitVec.mul_comm _ 512#32, BitVec.mul_comm _ 1024#32],
    show IntOp.addi (Scalar.muli (BitVec.ofNat 32 (i 1).val) 1024#32) (BitVec.ofNat 32 (y 1).val)
      = BitVec.ofNat 32 (1024 * (i 1).val + (y 1).val) from by
        simp only [Scalar.muli, IntOp.muli, IntOp.addi, BitVec.ofNat_mul, BitVec.ofNat_add]; simp only [BitVec.mul_comm _ 512#32, BitVec.mul_comm _ 1024#32],
    sle_select _ _ _ _ (by omega) (by omega), named_mask]

/-- The same as the second head's code writes it. -/
theorem mask_full_1 (i : grid0.Coords) (s : Fin 1024 → ℕ → EReal) :
    k0_pay242 (F := Ideal) (k0_pay201 i) (Scalar.muli 2#32 (BitVec.ofNat 32 (i 1).val)) (S3 s (2 * (i 1).val))
      = SM (ms (i 1).val s) (2 * (i 1).val) := by
  rw [← mask_full]; unfold k0_pay242; rw [cast_S3]; rfl

/-- The mask on the second of the diagonal's two blocks, which only the later half of the queries sees. -/
theorem mask_half (i : grid0.Coords) (x1 : Vec Ideal S2x16384x256 .bf16) (q : Vec Ideal S2x1024x256 .bf16) (h : Fin 2) :
    k0_pay233 (F := Ideal) (k0_pay201 i) (Scalar.muli 2#32 (BitVec.ofNat 32 (i 1).val)) (K3 x1 h (2 * (i 1).val + 1)) (Q3h q h)
      = SMh (fun b => ms (i 1).val (sc x1 q h) ⟨512 + b.val, by omega⟩) (2 * (i 1).val + 1) := by
  have hi := tile_lt i
  unfold k0_pay233
  simp only [scores_half_eq]
  funext y
  have h0 : (y 0).val < 512 := (y 0).isLt
  have h1 : (y 1).val < 512 := (y 1).isLt
  pointwise [k0_pay201, SMh, ms]
  rw [show IntOp.addi (Scalar.muli (Scalar.addi (Scalar.muli (2#32) (BitVec.ofNat 32 (i 1).val)) 1#32) 512#32) (BitVec.ofNat 32 (y 0).val)
      = BitVec.ofNat 32 (512 * (2 * (i 1).val + 1) + (y 0).val) from by
        simp only [Scalar.muli, Scalar.addi, IntOp.muli, IntOp.addi, BitVec.ofNat_mul, BitVec.ofNat_add]
        simp only [BitVec.mul_comm _ 512#32],
    show IntOp.addi (Scalar.muli (BitVec.ofNat 32 (i 1).val) 1024#32) (BitVec.ofNat 32 (512 + (y 1).val))
      = BitVec.ofNat 32 (1024 * (i 1).val + (512 + (y 1).val)) from by
        simp only [Scalar.muli, IntOp.muli, IntOp.addi, BitVec.ofNat_mul, BitVec.ofNat_add]
        simp only [BitVec.mul_comm _ 1024#32],
    sle_select _ _ _ _ (by omega) (by omega), named_mask]

/-- The same as the second head's code writes it. -/
theorem mask_half_1 (i : grid0.Coords) (x1 : Vec Ideal S2x16384x256 .bf16) (q : Vec Ideal S2x1024x256 .bf16) (h : Fin 2) :
    k0_pay251 (F := Ideal) (k0_pay201 i) (Scalar.muli 2#32 (BitVec.ofNat 32 (i 1).val)) (K3 x1 h (2 * (i 1).val + 1)) (Q3h q h)
      = SMh (fun b => ms (i 1).val (sc x1 q h) ⟨512 + b.val, by omega⟩) (2 * (i 1).val + 1) := mask_half i x1 q h

/-! ### What the body starts from -/

/-- One head's queries. -/
def X3 (q : Vec Ideal S2x1024x256 .bf16) (h : Fin 2) : Vec Ideal S1x1024x256 .bf16 := fun y => q (ix3 h (y 1) (y 2))

/-- The first head's queries are transposed. -/
theorem pay202_eq (q : Vec Ideal S2x1024x256 .bf16) (h : Fin 2) : k0_pay202 (F := Ideal) (X3 q h) = Q3 q h := by
  funext y
  pointwise [k0_pay202, X3, Q3]

/-- The second head's queries are transposed. -/
theorem pay203_eq (q : Vec Ideal S2x1024x256 .bf16) (h : Fin 2) : k0_pay203 (F := Ideal) (X3 q h) = Q3 q h := pay202_eq q h

section
variable (s : Fin 1024 → ℕ → EReal) (v : Fin 128 → ℕ → EReal)
/-- The maxima start at minus infinity, the maximum of no score. -/
theorem M3_zero : M3 s 0 = k0_pay204 (F := Ideal) := by
  funext y
  pointwise [k0_pay204, M3]
  rw [named_mask]; rfl
/-- The sums of weights start at zero. -/
theorem L3_zero : L3 s 0 = k0_pay205 (F := Ideal) := by
  funext y
  pointwise [k0_pay205, L3, ls]
  exact Finset.sum_empty
/-- The weighted sums start at zero. -/
theorem A3_zero : A3 s v 0 = k0_pay211 (F := Ideal) := by
  funext y
  pointwise [k0_pay211, A3, av]
  exact Finset.sum_empty
end
/-- The first head's queries, read. -/
theorem ld_X3_0 (q : Vec Ideal S2x1024x256 .bf16) (arg2 : Memref sig .tc .vmem S2x1024x256 .bf16) (harg2 : arg2.IsWhole) (inb) :
    View.readAt (Elt Ideal) arg2.view (Rect.unit (s := S2x1024x256) ![0, 0, 0] S1x1024x256.size inb).toLoadRect (harg2.unread q)
      = X3 q 0 := by
  rw [View.readAt_eq_ld, harg2.read_unread]
  funext y
  have h0 : (y 0).val = 0 := by have := (y 0).isLt; exact Nat.lt_one_iff.mp this
  refine (ld_at q _ _ inb y (ix3 0 (y 1) (y 2)) ?_).trans rfl
  intro a; fin_cases a
  · exact congrArg (0 + ·) h0.symm
  · exact (Nat.zero_add _).symm
  · exact (Nat.zero_add _).symm
/-- The second head's queries, read. -/
theorem ld_X3_1 (q : Vec Ideal S2x1024x256 .bf16) (arg2 : Memref sig .tc .vmem S2x1024x256 .bf16) (harg2 : arg2.IsWhole) (inb) :
    View.readAt (Elt Ideal) arg2.view (Rect.unit (s := S2x1024x256) ![1, 0, 0] S1x1024x256.size inb).toLoadRect (harg2.unread q)
      = X3 q 1 := by
  rw [View.readAt_eq_ld, harg2.read_unread]
  funext y
  have h0 : (y 0).val = 0 := by have := (y 0).isLt; exact Nat.lt_one_iff.mp this
  refine (ld_at q _ _ inb y (ix3 1 (y 1) (y 2)) ?_).trans rfl
  intro a; fin_cases a
  · exact congrArg (1 + ·) h0.symm
  · exact (Nat.zero_add _).symm
  · exact (Nat.zero_add _).symm

/-! ### Before the diagonal the mask keeps every score -/

/-- The mask changes no maximum before the diagonal, -/
theorem mx_ms (t : ℕ) (s : Fin 1024 → ℕ → EReal) (b : Fin 1024) : mx (ms t s b) (512 * (2 * t)) = mx (s b) (512 * (2 * t)) := by
  unfold mx
  refine Finset.sup_congr rfl fun n hn => ?_
  have := Finset.mem_range.mp hn
  exact if_pos (by omega)
/-- no sum of weights -/
theorem ls_ms (t : ℕ) (s : Fin 1024 → ℕ → EReal) (b : Fin 1024) : ls (ms t s b) (512 * (2 * t)) = ls (s b) (512 * (2 * t)) := by
  unfold ls
  rw [mx_ms]
  refine Finset.sum_congr rfl fun n hn => ?_
  have := Finset.mem_range.mp hn
  rw [show ms t s b n = s b n from if_pos (by omega)]
/-- and no weighted sum. -/
theorem av_ms (t : ℕ) (s : Fin 1024 → ℕ → EReal) (v : ℕ → EReal) (b : Fin 1024) :
    av (ms t s b) v (512 * (2 * t)) = av (s b) v (512 * (2 * t)) := by
  unfold av
  rw [mx_ms]
  refine Finset.sum_congr rfl fun n hn => ?_
  have := Finset.mem_range.mp hn
  rw [show ms t s b n = s b n from if_pos (by omega)]

section
variable (t : ℕ) (s : Fin 2 → Fin 1024 → ℕ → EReal) (v : Fin 2 → Fin 128 → ℕ → EReal)
/-- So it is for the buffer of maxima, -/
theorem MB_ms : MB s (2 * t) = MB (fun h => ms t (s h)) (2 * t) := by funext y; exact (mx_ms t _ _).symm
/-- of sums of weights -/
theorem LB_ms : LB s (2 * t) = LB (fun h => ms t (s h)) (2 * t) := by funext y; exact (ls_ms t _ _).symm
/-- and of weighted sums. -/
theorem AB_ms : AB s v (2 * t) = AB (fun h => ms t (s h)) v (2 * t) := by funext y; exact (av_ms t _ _ _).symm
end

/-! ### The scores past the diagonal -/

/-- The first half of the queries doesn't see the diagonal's second block; -/
theorem ms_lo (t : ℕ) (s : Fin 1024 → ℕ → EReal) (b : Fin 1024) (hb : b.val < 512) (n : ℕ) (hn : 512 * (2 * t + 1) ≤ n) :
    ms t s b n = ⊥ := if_neg (by omega)
/-- none of them sees a later one. -/
theorem ms_hi (t : ℕ) (s : Fin 1024 → ℕ → EReal) (b : Fin 1024) (n : ℕ) (hn : 512 * (2 * t + 2) ≤ n) :
    ms t s b n = ⊥ := if_neg (by have := b.isLt; omega)

/-- The second head's maxima start as the first's; -/
theorem pay209_eq : k0_pay209 (F := Ideal) = k0_pay204 := rfl
/-- so do its sums of weights -/
theorem pay210_eq : k0_pay210 (F := Ideal) = k0_pay205 := rfl
/-- and the first head's weighted sums as the second's. -/
theorem pay207_eq : k0_pay207 (F := Ideal) k0_pay206 = k0_pay211 := rfl

end Cert.Mla

end
-- ==== Proof.MlaHalf.lean ====
/- The diagonal's second block: only the last 512 queries of a tile see it, and the kernel updates only their columns. -/
module

public import proofs.«01_k».proof.Proof.MlaMask
public import proofs.«01_k».proof.Proof.MlaOff
public import Idealize.ShloMosaic.Lib.Pipeline.FrameBody
public import Idealize.ShloMosaic.Lib.Pipeline.ReadBack

@[expose] public section

set_option maxRecDepth 16384

noncomputable section

namespace Cert.Mla

open Cert.KernelIdeal Cert.KernelIdeal.Gen Cert.Online
open Idealize.ShloMosaic

/-- Column `b` of the last 512. -/
abbrev hi (b : Fin 512) : Fin 1024 := ⟨512 + b.val, by omega⟩

/-- One head's sums with the last 512 columns replaced, -/
def patchL (u : Vec Ideal S1x1x1024 .f32) (w : FVec Ideal S1x512 .f32) : Vec Ideal S1x1x1024 .f32 := fun y =>
  if hy : 512 ≤ (y 2).val then w (ix2 0 ⟨(y 2).val - 512, by have h : (y 2).val < 1024 := (y 2).isLt; omega⟩) else u y
/-- and its weighted sums likewise. -/
def patchA (u : Vec Ideal S1x128x1024 .f32) (w : FVec Ideal S128x512 .f32) : Vec Ideal S1x128x1024 .f32 := fun y =>
  if hy : 512 ≤ (y 2).val then w (ix2 (y 1) ⟨(y 2).val - 512, by have h : (y 2).val < 1024 := (y 2).isLt; omega⟩) else u y

section
variable (t : ℕ) (s : Fin 1024 → ℕ → EReal) (v : Fin 128 → ℕ → EReal)

/-- The first 512 queries don't see the block, so that nothing is lost by updating the last ones only. -/
theorem patchL_eq : patchL (L3 (ms t s) (2 * t + 1)) (L1h (fun b => ms t s (hi b)) (2 * t + 2)) = L3 (ms t s) (2 * t + 2) := by
  funext y
  unfold patchL L3 L1h
  split
  · rename_i hy
    have e : hi ⟨(y 2).val - 512, by have h : (y 2).val < 1024 := (y 2).isLt; omega⟩ = y 2 := Fin.ext (by show 512 + ((y 2).val - 512) = _; omega)
    exact congrArg (fun b => ls (ms t s b) (512 * (2 * t + 2))) e
  · rename_i hy
    exact (ls_masked _ (by omega) fun n h1 _ => ms_lo t s _ (by omega) n h1).symm
/-- The same of the weighted sums. -/
theorem patchA_eq : patchA (A3 (ms t s) v (2 * t + 1)) (A2h (fun b => ms t s (hi b)) v (2 * t + 2)) = A3 (ms t s) v (2 * t + 2) := by
  funext y
  unfold patchA A3 A2h
  split
  · rename_i hy
    have e : hi ⟨(y 2).val - 512, by have h : (y 2).val < 1024 := (y 2).isLt; omega⟩ = y 2 := Fin.ext (by show 512 + ((y 2).val - 512) = _; omega)
    exact congrArg (fun b => av (ms t s b) (v (y 1)) (512 * (2 * t + 2))) e
  · rename_i hy
    exact (av_masked _ _ (by omega) fun n h1 _ => ms_lo t s _ (by omega) n h1).symm
end

/-- The last 512 columns of one head's slice. -/
def tailL (w : Vec Ideal S1x1x1024 .f32) : FVec Ideal S1x512 .f32 := fun y => w (ix3 0 0 (hi (y 1)))
/-- The same of the weighted sums. -/
def tailA (w : Vec Ideal S1x128x1024 .f32) : FVec Ideal S128x512 .f32 := fun y => w (ix3 0 (y 0) (hi (y 1)))

section
variable (s : Fin 1024 → ℕ → EReal) (v : Fin 128 → ℕ → EReal) (n : ℕ)
/-- The last 512 columns of the maxima. -/
theorem tail_M3 : tailL (M3 s n) = M1h (fun b => s (hi b)) n := rfl
/-- The last 512 columns of the sums. -/
theorem tail_L3 : tailL (L3 s n) = L1h (fun b => s (hi b)) n := rfl
/-- The last 512 columns of the weighted sums. -/
theorem tail_A3 : tailA (A3 s v n) = A2h (fun b => s (hi b)) v n := rfl
end

/-- A reshape to the same shape changes nothing. -/
theorem cast_same_L (w : FVec Ideal S1x512 .f32) : shapeCast (α := Ideal .f32) S1x512 w shapeCasts_S1x512_S1x512 = w := by
  funext y; pointwise
/-- A reshape to the same shape changes nothing. -/
theorem cast_same_A (w : FVec Ideal S128x512 .f32) : shapeCast (α := Ideal .f32) S128x512 w shapeCasts_S128x512_S128x512 = w := by
  funext y; pointwise

/-- The mask on the first of the diagonal's two blocks, as the first head's code writes it. -/
theorem mask_full' (i : grid0.Coords) (s : Fin 1024 → ℕ → EReal) :
    select (k0_pay224 (k0_pay201 i) (BitVec.ofNat 32 (i 1).val)) (SM s (2 * (i 1).val))
      (broadcast S512x1024 (Named.named (F := Ideal) (φ := .f32) κ "mask" 0xF149F2CA#32)) = SM (ms (i 1).val s) (2 * (i 1).val) :=
  mask_full i s

/-- One head's result. -/
def O1 (s : Fin 1024 → ℕ → EReal) (v : Fin 128 → ℕ → EReal) (n : ℕ) : FVec Ideal S1024x128 .bf16 :=
  fun y => av (s (y 0)) (v (y 1)) (512 * n) * Ideal.div 1 (ls (s (y 0)) (512 * n))
/-- The first head's division gives its result. -/
theorem pay259_eq (s : Fin 1024 → ℕ → EReal) (v : Fin 128 → ℕ → EReal) (n : ℕ) : k0_pay259 (A3 s v n) (L3 s n) = O1 s v n := by
  funext y
  pointwise [k0_pay259, A3, L3, O1]
/-- The second head's division gives its result. -/
theorem pay260_eq (s : Fin 1024 → ℕ → EReal) (v : Fin 128 → ℕ → EReal) (n : ℕ) : k0_pay260 (A3 s v n) (L3 s n) = O1 s v n :=
  pay259_eq s v n

/-- The division, the transposition and the cast give a result. -/
theorem out_eq (s : Fin 1024 → ℕ → EReal) (v : Fin 128 → ℕ → EReal) (n : ℕ) (h1 h2 h3) :
    truncf .bf16 (transpose S1024x128 [1, 0]
      (mulf (A2 s v n) (broadcastTo S128x1024 (divf (broadcast S1x1024 (FloatOps.ofBits (F := Ideal) FTy.f32 1065353216#32)) (L1 s n)) h1)) h2) h3
      = O1 s v n := by
  funext y
  pointwise [A2, L1, O1]

/-! ### Loads and stores of the last 512 columns -/

/-- The last 512 columns of the first head's sums of weights, read after all of them were stored. -/
theorem half_load_L0 (arg : View sig .tc .vmem S2x1x1024 .f32) (inb inb' inb2 h0 hs hst hR) (w) (L : List (View.Piece (Elt Ideal) S2x1x1024 .f32)) :
    LoadRect.valAlong (lr := (Rect.unit (s := S1x1024) ![0, 512] S1x512.size inb2).toLoadRect) (s₀ := (Rect.unit (s := S2x1x1024) ![0, 0, 0] S1x1x1024.size inb').toLoadRect.shape) (LR := LoadRect.consLift (n := 2) (d := ![1, 1024]) (Rect.unit (s := S1x1024) ![0, 512] S1x512.size inb2).toLoadRect (![1, 1, 1024] : Fin 3 → ℕ) h0 hs) hR (arg.readCov (⟨(Rect.unit (s := S2x1x1024) ![0, 0, 0] S1x1x1024.size inb), w⟩ :: L) ((Rect.unit (s := S2x1x1024) ![0, 0, 0] S1x1x1024.size inb').withinL (LoadRect.consLift (n := 2) (d := ![1, 1024]) (Rect.unit (s := S1x1024) ![0, 512] S1x512.size inb2).toLoadRect (![1, 1, 1024] : Fin 3 → ℕ) h0 hs) hst))
      = tailL w := by
  funext y
  have hy : Shape.reshapeEquiv hR y = Fin.cons ⟨0, Nat.one_pos⟩ y := Shape.reshapeEquiv_cons_one (d := S1x512.size) _ _
  show arg.readCov (⟨(Rect.unit (s := S2x1x1024) ![0, 0, 0] S1x1x1024.size inb), w⟩ :: L) ((Rect.unit (s := S2x1x1024) ![0, 0, 0] S1x1x1024.size inb').withinL (LoadRect.consLift (n := 2) (d := ![1, 1024]) (Rect.unit (s := S1x1024) ![0, 512] S1x512.size inb2).toLoadRect (![1, 1, 1024] : Fin 3 → ℕ) h0 hs) hst) (Shape.reshapeEquiv hR y) = _
  rw [View.readCov_eq_canon', hy]
  have e : ((Rect.unit (s := S2x1x1024) ![0, 0, 0] S1x1x1024.size inb').withinL (LoadRect.consLift (n := 2) (d := ![1, 1024]) (Rect.unit (s := S1x1024) ![0, 512] S1x512.size inb2).toLoadRect (![1, 1, 1024] : Fin 3 → ℕ) h0 hs) hst).idx (Fin.cons ⟨0, Nat.one_pos⟩ y) = (Rect.unit (s := S2x1x1024) ![0, 0, 0] S1x1x1024.size inb).emb (ix3 0 0 (hi (y 1))) := by
    funext a
    apply Fin.ext
    rw [LoadRect.idx_apply, Rect.emb_apply]
    fin_cases a
    · rfl
    · exact congrArg (fun n => 0 + 0 + 1 * n) (Nat.lt_one_iff.mp (y 0).isLt)
    · show 0 + 512 + 1 * (y 1).val = 0 + 1 * (512 + (y 1).val)
      omega
  exact (congrArg (View.canon (⟨(Rect.unit (s := S2x1x1024) ![0, 0, 0] S1x1x1024.size inb), w⟩ :: L)) e).trans (View.canon_cons_emb _ _ _ _)
/-- The first head's sums of weights read after a store to their last 512 columns: old columns, then new ones. -/
theorem half_patch_L0 (arg : View sig .tc .vmem S2x1x1024 .f32) (inb inb' inb3 inb2 h0 hs hst hR) (u) (w : FVec Ideal S1x512 .f32) (L : List (View.Piece (Elt Ideal) S2x1x1024 .f32)) :
    arg.readCov (⟨(Rect.within (Rect.unit (s := S2x1x1024) ![0, 0, 0] S1x1x1024.size inb') (Rect.consLift (n := 2) (d := ![1, 1024]) (Rect.unit (s := S1x1024) ![0, 512] S1x512.size inb2) (![1, 1, 1024] : Fin 3 → ℕ) h0 hs) hst), Rect.payAlong (s₀ := (Rect.unit (s := S2x1x1024) ![0, 0, 0] S1x1x1024.size inb').shape) (r := (Rect.unit (s := S1x1024) ![0, 512] S1x512.size inb2)) (R := Rect.consLift (n := 2) (d := ![1, 1024]) (Rect.unit (s := S1x1024) ![0, 512] S1x512.size inb2) (![1, 1, 1024] : Fin 3 → ℕ) h0 hs) hR w⟩ :: ⟨(Rect.unit (s := S2x1x1024) ![0, 0, 0] S1x1x1024.size inb), u⟩ :: L) (Rect.unit (s := S2x1x1024) ![0, 0, 0] S1x1x1024.size inb3).toLoadRect
      = patchL u w := by
  rw [View.readCov_eq_canon']
  funext y
  show View.canon (⟨(Rect.within (Rect.unit (s := S2x1x1024) ![0, 0, 0] S1x1x1024.size inb') (Rect.consLift (n := 2) (d := ![1, 1024]) (Rect.unit (s := S1x1024) ![0, 512] S1x512.size inb2) (![1, 1, 1024] : Fin 3 → ℕ) h0 hs) hst), Rect.payAlong (s₀ := (Rect.unit (s := S2x1x1024) ![0, 0, 0] S1x1x1024.size inb').shape) (r := (Rect.unit (s := S1x1024) ![0, 512] S1x512.size inb2)) (R := Rect.consLift (n := 2) (d := ![1, 1024]) (Rect.unit (s := S1x1024) ![0, 512] S1x512.size inb2) (![1, 1, 1024] : Fin 3 → ℕ) h0 hs) hR w⟩ :: ⟨(Rect.unit (s := S2x1x1024) ![0, 0, 0] S1x1x1024.size inb), u⟩ :: L) ((Rect.unit (s := S2x1x1024) ![0, 0, 0] S1x1x1024.size inb3).emb y) = _
  unfold patchL
  split
  · rename_i hy
    have hb : (y 2).val - 512 < 512 := by have h : (y 2).val < 1024 := (y 2).isLt; omega
    have e : (Rect.unit (s := S2x1x1024) ![0, 0, 0] S1x1x1024.size inb3).emb y = (Rect.within (Rect.unit (s := S2x1x1024) ![0, 0, 0] S1x1x1024.size inb') (Rect.consLift (n := 2) (d := ![1, 1024]) (Rect.unit (s := S1x1024) ![0, 512] S1x512.size inb2) (![1, 1, 1024] : Fin 3 → ℕ) h0 hs) hst).emb (Fin.cons ⟨0, Nat.one_pos⟩ ((ix2 0 ⟨(y 2).val - 512, hb⟩) : S1x512.Idx)) := by
      funext a
      apply Fin.ext
      rw [Rect.emb_apply, Rect.emb_apply]
      fin_cases a
      · have h1 : (y 0).val < 1 := (y 0).isLt
        show 0 + 1 * (y 0).val = 0 + 0 + 1 * 0
        omega
      · have h1 : (y 1).val < 1 := (y 1).isLt
        show 0 + 1 * (y 1).val = 0 + 0 + 1 * 0
        omega
      · show 0 + 1 * (y 2).val = 0 + 512 + 1 * ((y 2).val - 512)
        omega
    refine (congrArg _ e).trans ((View.canon_cons_emb _ _ _ _).trans ?_)
    exact Rect.payAlong_consLift (n := 2) (d := ![1, 1024]) (Rect.unit (s := S1x1024) ![0, 512] S1x512.size inb2) (![1, 1, 1024] : Fin 3 → ℕ) h0 hs w hR _ _ fun _ => rfl
  · rename_i hy
    have hn : (Rect.unit (s := S2x1x1024) ![0, 0, 0] S1x1x1024.size inb3).emb y ∉ (Rect.within (Rect.unit (s := S2x1x1024) ![0, 0, 0] S1x1x1024.size inb') (Rect.consLift (n := 2) (d := ![1, 1024]) (Rect.unit (s := S1x1024) ![0, 512] S1x512.size inb2) (![1, 1, 1024] : Fin 3 → ℕ) h0 hs) hst).set := by
      intro hm
      obtain ⟨j, _, hj⟩ := (LoadRect.mem_set _).mp hm 2
      have hv : ((Rect.unit (s := S2x1x1024) ![0, 0, 0] S1x1x1024.size inb3).emb y 2).val = 0 + 1 * (y 2).val := Rect.emb_apply _ _ _
      have h2 : 0 + 1 * (y 2).val = 0 + 512 + 1 * j := hv.symm.trans hj
      omega
    refine (View.canon_cons_of_not_mem (Val := Elt Ideal) (e := .f32) ⟨(Rect.within (Rect.unit (s := S2x1x1024) ![0, 0, 0] S1x1x1024.size inb') (Rect.consLift (n := 2) (d := ![1, 1024]) (Rect.unit (s := S1x1024) ![0, 512] S1x512.size inb2) (![1, 1, 1024] : Fin 3 → ℕ) h0 hs) hst), Rect.payAlong (s₀ := (Rect.unit (s := S2x1x1024) ![0, 0, 0] S1x1x1024.size inb').shape) (r := (Rect.unit (s := S1x1024) ![0, 512] S1x512.size inb2)) (R := Rect.consLift (n := 2) (d := ![1, 1024]) (Rect.unit (s := S1x1024) ![0, 512] S1x512.size inb2) (![1, 1, 1024] : Fin 3 → ℕ) h0 hs) hR w⟩ _ hn).trans ?_
    exact View.canon_cons_emb (Rect.unit (s := S2x1x1024) ![0, 0, 0] S1x1x1024.size inb) u L y
/-- That store is not seen by a read of the second head's sums of weights. -/
theorem half_skip_L0 (arg : View sig .tc .vmem S2x1x1024 .f32) (inb inb' inb2 h0 hs hst hR) (w : FVec Ideal S1x512 .f32) (L : List (View.Piece (Elt Ideal) S2x1x1024 .f32)) :
    arg.readCov (⟨(Rect.within (Rect.unit (s := S2x1x1024) ![0, 0, 0] S1x1x1024.size inb') (Rect.consLift (n := 2) (d := ![1, 1024]) (Rect.unit (s := S1x1024) ![0, 512] S1x512.size inb2) (![1, 1, 1024] : Fin 3 → ℕ) h0 hs) hst), Rect.payAlong (s₀ := (Rect.unit (s := S2x1x1024) ![0, 0, 0] S1x1x1024.size inb').shape) (r := (Rect.unit (s := S1x1024) ![0, 512] S1x512.size inb2)) (R := Rect.consLift (n := 2) (d := ![1, 1024]) (Rect.unit (s := S1x1024) ![0, 512] S1x512.size inb2) (![1, 1, 1024] : Fin 3 → ℕ) h0 hs) hR w⟩ :: L) (Rect.unit (s := S2x1x1024) ![1, 0, 0] S1x1x1024.size inb).toLoadRect = arg.readCov L (Rect.unit (s := S2x1x1024) ![1, 0, 0] S1x1x1024.size inb).toLoadRect :=
  View.readCov_skip _ _ _ _ _ (by rfl)
/-- The same, whatever the buffer held before. -/
theorem half_skipAt_L0 (arg : View sig .tc .vmem S2x1x1024 .f32) (f : arg.ty.Contents (Elt Ideal)) (inb inb' inb2 h0 hs hst hR) (w : FVec Ideal S1x512 .f32) (L : List (View.Piece (Elt Ideal) S2x1x1024 .f32)) :
    arg.readAt (Elt Ideal) (Rect.unit (s := S2x1x1024) ![1, 0, 0] S1x1x1024.size inb).toLoadRect (arg.writes (Elt Ideal) f (⟨(Rect.within (Rect.unit (s := S2x1x1024) ![0, 0, 0] S1x1x1024.size inb') (Rect.consLift (n := 2) (d := ![1, 1024]) (Rect.unit (s := S1x1024) ![0, 512] S1x512.size inb2) (![1, 1, 1024] : Fin 3 → ℕ) h0 hs) hst), Rect.payAlong (s₀ := (Rect.unit (s := S2x1x1024) ![0, 0, 0] S1x1x1024.size inb').shape) (r := (Rect.unit (s := S1x1024) ![0, 512] S1x512.size inb2)) (R := Rect.consLift (n := 2) (d := ![1, 1024]) (Rect.unit (s := S1x1024) ![0, 512] S1x512.size inb2) (![1, 1, 1024] : Fin 3 → ℕ) h0 hs) hR w⟩ :: L)) = arg.readAt (Elt Ideal) (Rect.unit (s := S2x1x1024) ![1, 0, 0] S1x1x1024.size inb).toLoadRect (arg.writes (Elt Ideal) f L) :=
  readAt_skip _ _ _ _ _ _ (by rfl)

/-- The last 512 columns of the second head's sums of weights, read after all of them were stored. -/
theorem half_load_L1 (arg : View sig .tc .vmem S2x1x1024 .f32) (inb inb' inb2 h0 hs hst hR) (w) (L : List (View.Piece (Elt Ideal) S2x1x1024 .f32)) :
    LoadRect.valAlong (lr := (Rect.unit (s := S1x1024) ![0, 512] S1x512.size inb2).toLoadRect) (s₀ := (Rect.unit (s := S2x1x1024) ![1, 0, 0] S1x1x1024.size inb').toLoadRect.shape) (LR := LoadRect.consLift (n := 2) (d := ![1, 1024]) (Rect.unit (s := S1x1024) ![0, 512] S1x512.size inb2).toLoadRect (![1, 1, 1024] : Fin 3 → ℕ) h0 hs) hR (arg.readCov (⟨(Rect.unit (s := S2x1x1024) ![1, 0, 0] S1x1x1024.size inb), w⟩ :: L) ((Rect.unit (s := S2x1x1024) ![1, 0, 0] S1x1x1024.size inb').withinL (LoadRect.consLift (n := 2) (d := ![1, 1024]) (Rect.unit (s := S1x1024) ![0, 512] S1x512.size inb2).toLoadRect (![1, 1, 1024] : Fin 3 → ℕ) h0 hs) hst))
      = tailL w := by
  funext y
  have hy : Shape.reshapeEquiv hR y = Fin.cons ⟨0, Nat.one_pos⟩ y := Shape.reshapeEquiv_cons_one (d := S1x512.size) _ _
  show arg.readCov (⟨(Rect.unit (s := S2x1x1024) ![1, 0, 0] S1x1x1024.size inb), w⟩ :: L) ((Rect.unit (s := S2x1x1024) ![1, 0, 0] S1x1x1024.size inb').withinL (LoadRect.consLift (n := 2) (d := ![1, 1024]) (Rect.unit (s := S1x1024) ![0, 512] S1x512.size inb2).toLoadRect (![1, 1, 1024] : Fin 3 → ℕ) h0 hs) hst) (Shape.reshapeEquiv hR y) = _
  rw [View.readCov_eq_canon', hy]
  have e : ((Rect.unit (s := S2x1x1024) ![1, 0, 0] S1x1x1024.size inb').withinL (LoadRect.consLift (n := 2) (d := ![1, 1024]) (Rect.unit (s := S1x1024) ![0, 512] S1x512.size inb2).toLoadRect (![1, 1, 1024] : Fin 3 → ℕ) h0 hs) hst).idx (Fin.cons ⟨0, Nat.one_pos⟩ y) = (Rect.unit (s := S2x1x1024) ![1, 0, 0] S1x1x1024.size inb).emb (ix3 0 0 (hi (y 1))) := by
    funext a
    apply Fin.ext
    rw [LoadRect.idx_apply, Rect.emb_apply]
    fin_cases a
    · rfl
    · exact congrArg (fun n => 0 + 0 + 1 * n) (Nat.lt_one_iff.mp (y 0).isLt)
    · show 0 + 512 + 1 * (y 1).val = 0 + 1 * (512 + (y 1).val)
      omega
  exact (congrArg (View.canon (⟨(Rect.unit (s := S2x1x1024) ![1, 0, 0] S1x1x1024.size inb), w⟩ :: L)) e).trans (View.canon_cons_emb _ _ _ _)
/-- The second head's sums of weights read after a store to their last 512 columns: old columns, then new ones. -/
theorem half_patch_L1 (arg : View sig .tc .vmem S2x1x1024 .f32) (inb inb' inb3 inb2 h0 hs hst hR) (u) (w : FVec Ideal S1x512 .f32) (L : List (View.Piece (Elt Ideal) S2x1x1024 .f32)) :
    arg.readCov (⟨(Rect.within (Rect.unit (s := S2x1x1024) ![1, 0, 0] S1x1x1024.size inb') (Rect.consLift (n := 2) (d := ![1, 1024]) (Rect.unit (s := S1x1024) ![0, 512] S1x512.size inb2) (![1, 1, 1024] : Fin 3 → ℕ) h0 hs) hst), Rect.payAlong (s₀ := (Rect.unit (s := S2x1x1024) ![1, 0, 0] S1x1x1024.size inb').shape) (r := (Rect.unit (s := S1x1024) ![0, 512] S1x512.size inb2)) (R := Rect.consLift (n := 2) (d := ![1, 1024]) (Rect.unit (s := S1x1024) ![0, 512] S1x512.size inb2) (![1, 1, 1024] : Fin 3 → ℕ) h0 hs) hR w⟩ :: ⟨(Rect.unit (s := S2x1x1024) ![1, 0, 0] S1x1x1024.size inb), u⟩ :: L) (Rect.unit (s := S2x1x1024) ![1, 0, 0] S1x1x1024.size inb3).toLoadRect
      = patchL u w := by
  rw [View.readCov_eq_canon']
  funext y
  show View.canon (⟨(Rect.within (Rect.unit (s := S2x1x1024) ![1, 0, 0] S1x1x1024.size inb') (Rect.consLift (n := 2) (d := ![1, 1024]) (Rect.unit (s := S1x1024) ![0, 512] S1x512.size inb2) (![1, 1, 1024] : Fin 3 → ℕ) h0 hs) hst), Rect.payAlong (s₀ := (Rect.unit (s := S2x1x1024) ![1, 0, 0] S1x1x1024.size inb').shape) (r := (Rect.unit (s := S1x1024) ![0, 512] S1x512.size inb2)) (R := Rect.consLift (n := 2) (d := ![1, 1024]) (Rect.unit (s := S1x1024) ![0, 512] S1x512.size inb2) (![1, 1, 1024] : Fin 3 → ℕ) h0 hs) hR w⟩ :: ⟨(Rect.unit (s := S2x1x1024) ![1, 0, 0] S1x1x1024.size inb), u⟩ :: L) ((Rect.unit (s := S2x1x1024) ![1, 0, 0] S1x1x1024.size inb3).emb y) = _
  unfold patchL
  split
  · rename_i hy
    have hb : (y 2).val - 512 < 512 := by have h : (y 2).val < 1024 := (y 2).isLt; omega
    have e : (Rect.unit (s := S2x1x1024) ![1, 0, 0] S1x1x1024.size inb3).emb y = (Rect.within (Rect.unit (s := S2x1x1024) ![1, 0, 0] S1x1x1024.size inb') (Rect.consLift (n := 2) (d := ![1, 1024]) (Rect.unit (s := S1x1024) ![0, 512] S1x512.size inb2) (![1, 1, 1024] : Fin 3 → ℕ) h0 hs) hst).emb (Fin.cons ⟨0, Nat.one_pos⟩ ((ix2 0 ⟨(y 2).val - 512, hb⟩) : S1x512.Idx)) := by
      funext a
      apply Fin.ext
      rw [Rect.emb_apply, Rect.emb_apply]
      fin_cases a
      · have h1 : (y 0).val < 1 := (y 0).isLt
        show 1 + 1 * (y 0).val = 1 + 0 + 1 * 0
        omega
      · have h1 : (y 1).val < 1 := (y 1).isLt
        show 0 + 1 * (y 1).val = 0 + 0 + 1 * 0
        omega
      · show 0 + 1 * (y 2).val = 0 + 512 + 1 * ((y 2).val - 512)
        omega
    refine (congrArg _ e).trans ((View.canon_cons_emb _ _ _ _).trans ?_)
    exact Rect.payAlong_consLift (n := 2) (d := ![1, 1024]) (Rect.unit (s := S1x1024) ![0, 512] S1x512.size inb2) (![1, 1, 1024] : Fin 3 → ℕ) h0 hs w hR _ _ fun _ => rfl
  · rename_i hy
    have hn : (Rect.unit (s := S2x1x1024) ![1, 0, 0] S1x1x1024.size inb3).emb y ∉ (Rect.within (Rect.unit (s := S2x1x1024) ![1, 0, 0] S1x1x1024.size inb') (Rect.consLift (n := 2) (d := ![1, 1024]) (Rect.unit (s := S1x1024) ![0, 512] S1x512.size inb2) (![1, 1, 1024] : Fin 3 → ℕ) h0 hs) hst).set := by
      intro hm
      obtain ⟨j, _, hj⟩ := (LoadRect.mem_set _).mp hm 2
      have hv : ((Rect.unit (s := S2x1x1024) ![1, 0, 0] S1x1x1024.size inb3).emb y 2).val = 0 + 1 * (y 2).val := Rect.emb_apply _ _ _
      have h2 : 0 + 1 * (y 2).val = 0 + 512 + 1 * j := hv.symm.trans hj
      omega
    refine (View.canon_cons_of_not_mem (Val := Elt Ideal) (e := .f32) ⟨(Rect.within (Rect.unit (s := S2x1x1024) ![1, 0, 0] S1x1x1024.size inb') (Rect.consLift (n := 2) (d := ![1, 1024]) (Rect.unit (s := S1x1024) ![0, 512] S1x512.size inb2) (![1, 1, 1024] : Fin 3 → ℕ) h0 hs) hst), Rect.payAlong (s₀ := (Rect.unit (s := S2x1x1024) ![1, 0, 0] S1x1x1024.size inb').shape) (r := (Rect.unit (s := S1x1024) ![0, 512] S1x512.size inb2)) (R := Rect.consLift (n := 2) (d := ![1, 1024]) (Rect.unit (s := S1x1024) ![0, 512] S1x512.size inb2) (![1, 1, 1024] : Fin 3 → ℕ) h0 hs) hR w⟩ _ hn).trans ?_
    exact View.canon_cons_emb (Rect.unit (s := S2x1x1024) ![1, 0, 0] S1x1x1024.size inb) u L y
/-- That store is not seen by a read of the first head's sums of weights. -/
theorem half_skip_L1 (arg : View sig .tc .vmem S2x1x1024 .f32) (inb inb' inb2 h0 hs hst hR) (w : FVec Ideal S1x512 .f32) (L : List (View.Piece (Elt Ideal) S2x1x1024 .f32)) :
    arg.readCov (⟨(Rect.within (Rect.unit (s := S2x1x1024) ![1, 0, 0] S1x1x1024.size inb') (Rect.consLift (n := 2) (d := ![1, 1024]) (Rect.unit (s := S1x1024) ![0, 512] S1x512.size inb2) (![1, 1, 1024] : Fin 3 → ℕ) h0 hs) hst), Rect.payAlong (s₀ := (Rect.unit (s := S2x1x1024) ![1, 0, 0] S1x1x1024.size inb').shape) (r := (Rect.unit (s := S1x1024) ![0, 512] S1x512.size inb2)) (R := Rect.consLift (n := 2) (d := ![1, 1024]) (Rect.unit (s := S1x1024) ![0, 512] S1x512.size inb2) (![1, 1, 1024] : Fin 3 → ℕ) h0 hs) hR w⟩ :: L) (Rect.unit (s := S2x1x1024) ![0, 0, 0] S1x1x1024.size inb).toLoadRect = arg.readCov L (Rect.unit (s := S2x1x1024) ![0, 0, 0] S1x1x1024.size inb).toLoadRect :=
  View.readCov_skip _ _ _ _ _ (by rfl)
/-- The same, whatever the buffer held before. -/
theorem half_skipAt_L1 (arg : View sig .tc .vmem S2x1x1024 .f32) (f : arg.ty.Contents (Elt Ideal)) (inb inb' inb2 h0 hs hst hR) (w : FVec Ideal S1x512 .f32) (L : List (View.Piece (Elt Ideal) S2x1x1024 .f32)) :
    arg.readAt (Elt Ideal) (Rect.unit (s := S2x1x1024) ![0, 0, 0] S1x1x1024.size inb).toLoadRect (arg.writes (Elt Ideal) f (⟨(Rect.within (Rect.unit (s := S2x1x1024) ![1, 0, 0] S1x1x1024.size inb') (Rect.consLift (n := 2) (d := ![1, 1024]) (Rect.unit (s := S1x1024) ![0, 512] S1x512.size inb2) (![1, 1, 1024] : Fin 3 → ℕ) h0 hs) hst), Rect.payAlong (s₀ := (Rect.unit (s := S2x1x1024) ![1, 0, 0] S1x1x1024.size inb').shape) (r := (Rect.unit (s := S1x1024) ![0, 512] S1x512.size inb2)) (R := Rect.consLift (n := 2) (d := ![1, 1024]) (Rect.unit (s := S1x1024) ![0, 512] S1x512.size inb2) (![1, 1, 1024] : Fin 3 → ℕ) h0 hs) hR w⟩ :: L)) = arg.readAt (Elt Ideal) (Rect.unit (s := S2x1x1024) ![0, 0, 0] S1x1x1024.size inb).toLoadRect (arg.writes (Elt Ideal) f L) :=
  readAt_skip _ _ _ _ _ _ (by rfl)

/-- The last 512 columns of the first head's weighted sums, read after all of them were stored. -/
theorem half_load_A0 (arg : View sig .tc .vmem S2x128x1024 .f32) (inb inb' inb2 h0 hs hst hR) (w) (L : List (View.Piece (Elt Ideal) S2x128x1024 .f32)) :
    LoadRect.valAlong (lr := (Rect.unit (s := S128x1024) ![0, 512] S128x512.size inb2).toLoadRect) (s₀ := (Rect.unit (s := S2x128x1024) ![0, 0, 0] S1x128x1024.size inb').toLoadRect.shape) (LR := LoadRect.consLift (n := 2) (d := ![128, 1024]) (Rect.unit (s := S128x1024) ![0, 512] S128x512.size inb2).toLoadRect (![1, 128, 1024] : Fin 3 → ℕ) h0 hs) hR (arg.readCov (⟨(Rect.unit (s := S2x128x1024) ![0, 0, 0] S1x128x1024.size inb), w⟩ :: L) ((Rect.unit (s := S2x128x1024) ![0, 0, 0] S1x128x1024.size inb').withinL (LoadRect.consLift (n := 2) (d := ![128, 1024]) (Rect.unit (s := S128x1024) ![0, 512] S128x512.size inb2).toLoadRect (![1, 128, 1024] : Fin 3 → ℕ) h0 hs) hst))
      = tailA w := by
  funext y
  have hy : Shape.reshapeEquiv hR y = Fin.cons ⟨0, Nat.one_pos⟩ y := Shape.reshapeEquiv_cons_one (d := S128x512.size) _ _
  show arg.readCov (⟨(Rect.unit (s := S2x128x1024) ![0, 0, 0] S1x128x1024.size inb), w⟩ :: L) ((Rect.unit (s := S2x128x1024) ![0, 0, 0] S1x128x1024.size inb').withinL (LoadRect.consLift (n := 2) (d := ![128, 1024]) (Rect.unit (s := S128x1024) ![0, 512] S128x512.size inb2).toLoadRect (![1, 128, 1024] : Fin 3 → ℕ) h0 hs) hst) (Shape.reshapeEquiv hR y) = _
  rw [View.readCov_eq_canon', hy]
  have e : ((Rect.unit (s := S2x128x1024) ![0, 0, 0] S1x128x1024.size inb').withinL (LoadRect.consLift (n := 2) (d := ![128, 1024]) (Rect.unit (s := S128x1024) ![0, 512] S128x512.size inb2).toLoadRect (![1, 128, 1024] : Fin 3 → ℕ) h0 hs) hst).idx (Fin.cons ⟨0, Nat.one_pos⟩ y) = (Rect.unit (s := S2x128x1024) ![0, 0, 0] S1x128x1024.size inb).emb (ix3 0 (y 0) (hi (y 1))) := by
    funext a
    apply Fin.ext
    rw [LoadRect.idx_apply, Rect.emb_apply]
    fin_cases a
    · rfl
    · rfl
    · show 0 + 512 + 1 * (y 1).val = 0 + 1 * (512 + (y 1).val)
      omega
  exact (congrArg (View.canon (⟨(Rect.unit (s := S2x128x1024) ![0, 0, 0] S1x128x1024.size inb), w⟩ :: L)) e).trans (View.canon_cons_emb _ _ _ _)
/-- The first head's weighted sums read after a store to their last 512 columns: old columns, then new ones. -/
theorem half_patch_A0 (arg : View sig .tc .vmem S2x128x1024 .f32) (inb inb' inb3 inb2 h0 hs hst hR) (u) (w : FVec Ideal S128x512 .f32) (L : List (View.Piece (Elt Ideal) S2x128x1024 .f32)) :
    arg.readCov (⟨(Rect.within (Rect.unit (s := S2x128x1024) ![0, 0, 0] S1x128x1024.size inb') (Rect.consLift (n := 2) (d := ![128, 1024]) (Rect.unit (s := S128x1024) ![0, 512] S128x512.size inb2) (![1, 128, 1024] : Fin 3 → ℕ) h0 hs) hst), Rect.payAlong (s₀ := (Rect.unit (s := S2x128x1024) ![0, 0, 0] S1x128x1024.size inb').shape) (r := (Rect.unit (s := S128x1024) ![0, 512] S128x512.size inb2)) (R := Rect.consLift (n := 2) (d := ![128, 1024]) (Rect.unit (s := S128x1024) ![0, 512] S128x512.size inb2) (![1, 128, 1024] : Fin 3 → ℕ) h0 hs) hR w⟩ :: ⟨(Rect.unit (s := S2x128x1024) ![0, 0, 0] S1x128x1024.size inb), u⟩ :: L) (Rect.unit (s := S2x128x1024) ![0, 0, 0] S1x128x1024.size inb3).toLoadRect
      = patchA u w := by
  rw [View.readCov_eq_canon']
  funext y
  show View.canon (⟨(Rect.within (Rect.unit (s := S2x128x1024) ![0, 0, 0] S1x128x1024.size inb') (Rect.consLift (n := 2) (d := ![128, 1024]) (Rect.unit (s := S128x1024) ![0, 512] S128x512.size inb2) (![1, 128, 1024] : Fin 3 → ℕ) h0 hs) hst), Rect.payAlong (s₀ := (Rect.unit (s := S2x128x1024) ![0, 0, 0] S1x128x1024.size inb').shape) (r := (Rect.unit (s := S128x1024) ![0, 512] S128x512.size inb2)) (R := Rect.consLift (n := 2) (d := ![128, 1024]) (Rect.unit (s := S128x1024) ![0, 512] S128x512.size inb2) (![1, 128, 1024] : Fin 3 → ℕ) h0 hs) hR w⟩ :: ⟨(Rect.unit (s := S2x128x1024) ![0, 0, 0] S1x128x1024.size inb), u⟩ :: L) ((Rect.unit (s := S2x128x1024) ![0, 0, 0] S1x128x1024.size inb3).emb y) = _
  unfold patchA
  split
  · rename_i hy
    have hb : (y 2).val - 512 < 512 := by have h : (y 2).val < 1024 := (y 2).isLt; omega
    have e : (Rect.unit (s := S2x128x1024) ![0, 0, 0] S1x128x1024.size inb3).emb y = (Rect.within (Rect.unit (s := S2x128x1024) ![0, 0, 0] S1x128x1024.size inb') (Rect.consLift (n := 2) (d := ![128, 1024]) (Rect.unit (s := S128x1024) ![0, 512] S128x512.size inb2) (![1, 128, 1024] : Fin 3 → ℕ) h0 hs) hst).emb (Fin.cons ⟨0, Nat.one_pos⟩ ((ix2 (y 1) ⟨(y 2).val - 512, hb⟩) : S128x512.Idx)) := by
      funext a
      apply Fin.ext
      rw [Rect.emb_apply, Rect.emb_apply]
      fin_cases a
      · have h1 : (y 0).val < 1 := (y 0).isLt
        show 0 + 1 * (y 0).val = 0 + 0 + 1 * 0
        omega
      · skip
        show 0 + 1 * (y 1).val = 0 + 0 + 1 * (y 1).val
        omega
      · show 0 + 1 * (y 2).val = 0 + 512 + 1 * ((y 2).val - 512)
        omega
    refine (congrArg _ e).trans ((View.canon_cons_emb _ _ _ _).trans ?_)
    exact Rect.payAlong_consLift (n := 2) (d := ![128, 1024]) (Rect.unit (s := S128x1024) ![0, 512] S128x512.size inb2) (![1, 128, 1024] : Fin 3 → ℕ) h0 hs w hR _ _ fun _ => rfl
  · rename_i hy
    have hn : (Rect.unit (s := S2x128x1024) ![0, 0, 0] S1x128x1024.size inb3).emb y ∉ (Rect.within (Rect.unit (s := S2x128x1024) ![0, 0, 0] S1x128x1024.size inb') (Rect.consLift (n := 2) (d := ![128, 1024]) (Rect.unit (s := S128x1024) ![0, 512] S128x512.size inb2) (![1, 128, 1024] : Fin 3 → ℕ) h0 hs) hst).set := by
      intro hm
      obtain ⟨j, _, hj⟩ := (LoadRect.mem_set _).mp hm 2
      have hv : ((Rect.unit (s := S2x128x1024) ![0, 0, 0] S1x128x1024.size inb3).emb y 2).val = 0 + 1 * (y 2).val := Rect.emb_apply _ _ _
      have h2 : 0 + 1 * (y 2).val = 0 + 512 + 1 * j := hv.symm.trans hj
      omega
    refine (View.canon_cons_of_not_mem (Val := Elt Ideal) (e := .f32) ⟨(Rect.within (Rect.unit (s := S2x128x1024) ![0, 0, 0] S1x128x1024.size inb') (Rect.consLift (n := 2) (d := ![128, 1024]) (Rect.unit (s := S128x1024) ![0, 512] S128x512.size inb2) (![1, 128, 1024] : Fin 3 → ℕ) h0 hs) hst), Rect.payAlong (s₀ := (Rect.unit (s := S2x128x1024) ![0, 0, 0] S1x128x1024.size inb').shape) (r := (Rect.unit (s := S128x1024) ![0, 512] S128x512.size inb2)) (R := Rect.consLift (n := 2) (d := ![128, 1024]) (Rect.unit (s := S128x1024) ![0, 512] S128x512.size inb2) (![1, 128, 1024] : Fin 3 → ℕ) h0 hs) hR w⟩ _ hn).trans ?_
    exact View.canon_cons_emb (Rect.unit (s := S2x128x1024) ![0, 0, 0] S1x128x1024.size inb) u L y
/-- That store is not seen by a read of the second head's weighted sums. -/
theorem half_skip_A0 (arg : View sig .tc .vmem S2x128x1024 .f32) (inb inb' inb2 h0 hs hst hR) (w : FVec Ideal S128x512 .f32) (L : List (View.Piece (Elt Ideal) S2x128x1024 .f32)) :
    arg.readCov (⟨(Rect.within (Rect.unit (s := S2x128x1024) ![0, 0, 0] S1x128x1024.size inb') (Rect.consLift (n := 2) (d := ![128, 1024]) (Rect.unit (s := S128x1024) ![0, 512] S128x512.size inb2) (![1, 128, 1024] : Fin 3 → ℕ) h0 hs) hst), Rect.payAlong (s₀ := (Rect.unit (s := S2x128x1024) ![0, 0, 0] S1x128x1024.size inb').shape) (r := (Rect.unit (s := S128x1024) ![0, 512] S128x512.size inb2)) (R := Rect.consLift (n := 2) (d := ![128, 1024]) (Rect.unit (s := S128x1024) ![0, 512] S128x512.size inb2) (![1, 128, 1024] : Fin 3 → ℕ) h0 hs) hR w⟩ :: L) (Rect.unit (s := S2x128x1024) ![1, 0, 0] S1x128x1024.size inb).toLoadRect = arg.readCov L (Rect.unit (s := S2x128x1024) ![1, 0, 0] S1x128x1024.size inb).toLoadRect :=
  View.readCov_skip _ _ _ _ _ (by rfl)
/-- The same, whatever the buffer held before. -/
theorem half_skipAt_A0 (arg : View sig .tc .vmem S2x128x1024 .f32) (f : arg.ty.Contents (Elt Ideal)) (inb inb' inb2 h0 hs hst hR) (w : FVec Ideal S128x512 .f32) (L : List (View.Piece (Elt Ideal) S2x128x1024 .f32)) :
    arg.readAt (Elt Ideal) (Rect.unit (s := S2x128x1024) ![1, 0, 0] S1x128x1024.size inb).toLoadRect (arg.writes (Elt Ideal) f (⟨(Rect.within (Rect.unit (s := S2x128x1024) ![0, 0, 0] S1x128x1024.size inb') (Rect.consLift (n := 2) (d := ![128, 1024]) (Rect.unit (s := S128x1024) ![0, 512] S128x512.size inb2) (![1, 128, 1024] : Fin 3 → ℕ) h0 hs) hst), Rect.payAlong (s₀ := (Rect.unit (s := S2x128x1024) ![0, 0, 0] S1x128x1024.size inb').shape) (r := (Rect.unit (s := S128x1024) ![0, 512] S128x512.size inb2)) (R := Rect.consLift (n := 2) (d := ![128, 1024]) (Rect.unit (s := S128x1024) ![0, 512] S128x512.size inb2) (![1, 128, 1024] : Fin 3 → ℕ) h0 hs) hR w⟩ :: L)) = arg.readAt (Elt Ideal) (Rect.unit (s := S2x128x1024) ![1, 0, 0] S1x128x1024.size inb).toLoadRect (arg.writes (Elt Ideal) f L) :=
  readAt_skip _ _ _ _ _ _ (by rfl)

/-- The last 512 columns of the second head's weighted sums, read after all of them were stored. -/
theorem half_load_A1 (arg : View sig .tc .vmem S2x128x1024 .f32) (inb inb' inb2 h0 hs hst hR) (w) (L : List (View.Piece (Elt Ideal) S2x128x1024 .f32)) :
    LoadRect.valAlong (lr := (Rect.unit (s := S128x1024) ![0, 512] S128x512.size inb2).toLoadRect) (s₀ := (Rect.unit (s := S2x128x1024) ![1, 0, 0] S1x128x1024.size inb').toLoadRect.shape) (LR := LoadRect.consLift (n := 2) (d := ![128, 1024]) (Rect.unit (s := S128x1024) ![0, 512] S128x512.size inb2).toLoadRect (![1, 128, 1024] : Fin 3 → ℕ) h0 hs) hR (arg.readCov (⟨(Rect.unit (s := S2x128x1024) ![1, 0, 0] S1x128x1024.size inb), w⟩ :: L) ((Rect.unit (s := S2x128x1024) ![1, 0, 0] S1x128x1024.size inb').withinL (LoadRect.consLift (n := 2) (d := ![128, 1024]) (Rect.unit (s := S128x1024) ![0, 512] S128x512.size inb2).toLoadRect (![1, 128, 1024] : Fin 3 → ℕ) h0 hs) hst))
      = tailA w := by
  funext y
  have hy : Shape.reshapeEquiv hR y = Fin.cons ⟨0, Nat.one_pos⟩ y := Shape.reshapeEquiv_cons_one (d := S128x512.size) _ _
  show arg.readCov (⟨(Rect.unit (s := S2x128x1024) ![1, 0, 0] S1x128x1024.size inb), w⟩ :: L) ((Rect.unit (s := S2x128x1024) ![1, 0, 0] S1x128x1024.size inb').withinL (LoadRect.consLift (n := 2) (d := ![128, 1024]) (Rect.unit (s := S128x1024) ![0, 512] S128x512.size inb2).toLoadRect (![1, 128, 1024] : Fin 3 → ℕ) h0 hs) hst) (Shape.reshapeEquiv hR y) = _
  rw [View.readCov_eq_canon', hy]
  have e : ((Rect.unit (s := S2x128x1024) ![1, 0, 0] S1x128x1024.size inb').withinL (LoadRect.consLift (n := 2) (d := ![128, 1024]) (Rect.unit (s := S128x1024) ![0, 512] S128x512.size inb2).toLoadRect (![1, 128, 1024] : Fin 3 → ℕ) h0 hs) hst).idx (Fin.cons ⟨0, Nat.one_pos⟩ y) = (Rect.unit (s := S2x128x1024) ![1, 0, 0] S1x128x1024.size inb).emb (ix3 0 (y 0) (hi (y 1))) := by
    funext a
    apply Fin.ext
    rw [LoadRect.idx_apply, Rect.emb_apply]
    fin_cases a
    · rfl
    · rfl
    · show 0 + 512 + 1 * (y 1).val = 0 + 1 * (512 + (y 1).val)
      omega
  exact (congrArg (View.canon (⟨(Rect.unit (s := S2x128x1024) ![1, 0, 0] S1x128x1024.size inb), w⟩ :: L)) e).trans (View.canon_cons_emb _ _ _ _)
/-- The second head's weighted sums read after a store to their last 512 columns: old columns, then new ones. -/
theorem half_patch_A1 (arg : View sig .tc .vmem S2x128x1024 .f32) (inb inb' inb3 inb2 h0 hs hst hR) (u) (w : FVec Ideal S128x512 .f32) (L : List (View.Piece (Elt Ideal) S2x128x1024 .f32)) :
    arg.readCov (⟨(Rect.within (Rect.unit (s := S2x128x1024) ![1, 0, 0] S1x128x1024.size inb') (Rect.consLift (n := 2) (d := ![128, 1024]) (Rect.unit (s := S128x1024) ![0, 512] S128x512.size inb2) (![1, 128, 1024] : Fin 3 → ℕ) h0 hs) hst), Rect.payAlong (s₀ := (Rect.unit (s := S2x128x1024) ![1, 0, 0] S1x128x1024.size inb').shape) (r := (Rect.unit (s := S128x1024) ![0, 512] S128x512.size inb2)) (R := Rect.consLift (n := 2) (d := ![128, 1024]) (Rect.unit (s := S128x1024) ![0, 512] S128x512.size inb2) (![1, 128, 1024] : Fin 3 → ℕ) h0 hs) hR w⟩ :: ⟨(Rect.unit (s := S2x128x1024) ![1, 0, 0] S1x128x1024.size inb), u⟩ :: L) (Rect.unit (s := S2x128x1024) ![1, 0, 0] S1x128x1024.size inb3).toLoadRect
      = patchA u w := by
  rw [View.readCov_eq_canon']
  funext y
  show View.canon (⟨(Rect.within (Rect.unit (s := S2x128x1024) ![1, 0, 0] S1x128x1024.size inb') (Rect.consLift (n := 2) (d := ![128, 1024]) (Rect.unit (s := S128x1024) ![0, 512] S128x512.size inb2) (![1, 128, 1024] : Fin 3 → ℕ) h0 hs) hst), Rect.payAlong (s₀ := (Rect.unit (s := S2x128x1024) ![1, 0, 0] S1x128x1024.size inb').shape) (r := (Rect.unit (s := S128x1024) ![0, 512] S128x512.size inb2)) (R := Rect.consLift (n := 2) (d := ![128, 1024]) (Rect.unit (s := S128x1024) ![0, 512] S128x512.size inb2) (![1, 128, 1024] : Fin 3 → ℕ) h0 hs) hR w⟩ :: ⟨(Rect.unit (s := S2x128x1024) ![1, 0, 0] S1x128x1024.size inb), u⟩ :: L) ((Rect.unit (s := S2x128x1024) ![1, 0, 0] S1x128x1024.size inb3).emb y) = _
  unfold patchA
  split
  · rename_i hy
    have hb : (y 2).val - 512 < 512 := by have h : (y 2).val < 1024 := (y 2).isLt; omega
    have e : (Rect.unit (s := S2x128x1024) ![1, 0, 0] S1x128x1024.size inb3).emb y = (Rect.within (Rect.unit (s := S2x128x1024) ![1, 0, 0] S1x128x1024.size inb') (Rect.consLift (n := 2) (d := ![128, 1024]) (Rect.unit (s := S128x1024) ![0, 512] S128x512.size inb2) (![1, 128, 1024] : Fin 3 → ℕ) h0 hs) hst).emb (Fin.cons ⟨0, Nat.one_pos⟩ ((ix2 (y 1) ⟨(y 2).val - 512, hb⟩) : S128x512.Idx)) := by
      funext a
      apply Fin.ext
      rw [Rect.emb_apply, Rect.emb_apply]
      fin_cases a
      · have h1 : (y 0).val < 1 := (y 0).isLt
        show 1 + 1 * (y 0).val = 1 + 0 + 1 * 0
        omega
      · skip
        show 0 + 1 * (y 1).val = 0 + 0 + 1 * (y 1).val
        omega
      · show 0 + 1 * (y 2).val = 0 + 512 + 1 * ((y 2).val - 512)
        omega
    refine (congrArg _ e).trans ((View.canon_cons_emb _ _ _ _).trans ?_)
    exact Rect.payAlong_consLift (n := 2) (d := ![128, 1024]) (Rect.unit (s := S128x1024) ![0, 512] S128x512.size inb2) (![1, 128, 1024] : Fin 3 → ℕ) h0 hs w hR _ _ fun _ => rfl
  · rename_i hy
    have hn : (Rect.unit (s := S2x128x1024) ![1, 0, 0] S1x128x1024.size inb3).emb y ∉ (Rect.within (Rect.unit (s := S2x128x1024) ![1, 0, 0] S1x128x1024.size inb') (Rect.consLift (n := 2) (d := ![128, 1024]) (Rect.unit (s := S128x1024) ![0, 512] S128x512.size inb2) (![1, 128, 1024] : Fin 3 → ℕ) h0 hs) hst).set := by
      intro hm
      obtain ⟨j, _, hj⟩ := (LoadRect.mem_set _).mp hm 2
      have hv : ((Rect.unit (s := S2x128x1024) ![1, 0, 0] S1x128x1024.size inb3).emb y 2).val = 0 + 1 * (y 2).val := Rect.emb_apply _ _ _
      have h2 : 0 + 1 * (y 2).val = 0 + 512 + 1 * j := hv.symm.trans hj
      omega
    refine (View.canon_cons_of_not_mem (Val := Elt Ideal) (e := .f32) ⟨(Rect.within (Rect.unit (s := S2x128x1024) ![1, 0, 0] S1x128x1024.size inb') (Rect.consLift (n := 2) (d := ![128, 1024]) (Rect.unit (s := S128x1024) ![0, 512] S128x512.size inb2) (![1, 128, 1024] : Fin 3 → ℕ) h0 hs) hst), Rect.payAlong (s₀ := (Rect.unit (s := S2x128x1024) ![1, 0, 0] S1x128x1024.size inb').shape) (r := (Rect.unit (s := S128x1024) ![0, 512] S128x512.size inb2)) (R := Rect.consLift (n := 2) (d := ![128, 1024]) (Rect.unit (s := S128x1024) ![0, 512] S128x512.size inb2) (![1, 128, 1024] : Fin 3 → ℕ) h0 hs) hR w⟩ _ hn).trans ?_
    exact View.canon_cons_emb (Rect.unit (s := S2x128x1024) ![1, 0, 0] S1x128x1024.size inb) u L y
/-- That store is not seen by a read of the first head's weighted sums. -/
theorem half_skip_A1 (arg : View sig .tc .vmem S2x128x1024 .f32) (inb inb' inb2 h0 hs hst hR) (w : FVec Ideal S128x512 .f32) (L : List (View.Piece (Elt Ideal) S2x128x1024 .f32)) :
    arg.readCov (⟨(Rect.within (Rect.unit (s := S2x128x1024) ![1, 0, 0] S1x128x1024.size inb') (Rect.consLift (n := 2) (d := ![128, 1024]) (Rect.unit (s := S128x1024) ![0, 512] S128x512.size inb2) (![1, 128, 1024] : Fin 3 → ℕ) h0 hs) hst), Rect.payAlong (s₀ := (Rect.unit (s := S2x128x1024) ![1, 0, 0] S1x128x1024.size inb').shape) (r := (Rect.unit (s := S128x1024) ![0, 512] S128x512.size inb2)) (R := Rect.consLift (n := 2) (d := ![128, 1024]) (Rect.unit (s := S128x1024) ![0, 512] S128x512.size inb2) (![1, 128, 1024] : Fin 3 → ℕ) h0 hs) hR w⟩ :: L) (Rect.unit (s := S2x128x1024) ![0, 0, 0] S1x128x1024.size inb).toLoadRect = arg.readCov L (Rect.unit (s := S2x128x1024) ![0, 0, 0] S1x128x1024.size inb).toLoadRect :=
  View.readCov_skip _ _ _ _ _ (by rfl)
/-- The same, whatever the buffer held before. -/
theorem half_skipAt_A1 (arg : View sig .tc .vmem S2x128x1024 .f32) (f : arg.ty.Contents (Elt Ideal)) (inb inb' inb2 h0 hs hst hR) (w : FVec Ideal S128x512 .f32) (L : List (View.Piece (Elt Ideal) S2x128x1024 .f32)) :
    arg.readAt (Elt Ideal) (Rect.unit (s := S2x128x1024) ![0, 0, 0] S1x128x1024.size inb).toLoadRect (arg.writes (Elt Ideal) f (⟨(Rect.within (Rect.unit (s := S2x128x1024) ![1, 0, 0] S1x128x1024.size inb') (Rect.consLift (n := 2) (d := ![128, 1024]) (Rect.unit (s := S128x1024) ![0, 512] S128x512.size inb2) (![1, 128, 1024] : Fin 3 → ℕ) h0 hs) hst), Rect.payAlong (s₀ := (Rect.unit (s := S2x128x1024) ![1, 0, 0] S1x128x1024.size inb').shape) (r := (Rect.unit (s := S128x1024) ![0, 512] S128x512.size inb2)) (R := Rect.consLift (n := 2) (d := ![128, 1024]) (Rect.unit (s := S128x1024) ![0, 512] S128x512.size inb2) (![1, 128, 1024] : Fin 3 → ℕ) h0 hs) hR w⟩ :: L)) = arg.readAt (Elt Ideal) (Rect.unit (s := S2x128x1024) ![0, 0, 0] S1x128x1024.size inb).toLoadRect (arg.writes (Elt Ideal) f L) :=
  readAt_skip _ _ _ _ _ _ (by rfl)

/-- The last 512 queries of the first head, read. -/
theorem ld_Q3h_0 (q : Vec Ideal S2x1024x256 .bf16) (arg6 : Memref sig .tc .vmem S2x256x1024 .bf16) (harg6 : arg6.IsWhole) (inb) :
    View.readAt (Elt Ideal) arg6.view (Rect.unit (s := S2x256x1024) ![0, 0, 512] S1x256x512.size inb).toLoadRect (harg6.unread (QB q))
      = Q3h q 0 := by
  rw [View.readAt_eq_ld, harg6.read_unread]
  funext y
  have h0 : (y 0).val = 0 := Nat.lt_one_iff.mp (y 0).isLt
  refine (ld_at (QB q) _ _ inb y (ix3 0 (y 1) (hi (y 2))) ?_).trans rfl
  intro a; fin_cases a
  · exact congrArg (0 + ·) h0.symm
  · exact (Nat.zero_add _).symm
  · rfl

/-- The last 512 queries of the second head, read. -/
theorem ld_Q3h_1 (q : Vec Ideal S2x1024x256 .bf16) (arg6 : Memref sig .tc .vmem S2x256x1024 .bf16) (harg6 : arg6.IsWhole) (inb) :
    View.readAt (Elt Ideal) arg6.view (Rect.unit (s := S2x256x1024) ![1, 0, 512] S1x256x512.size inb).toLoadRect (harg6.unread (QB q))
      = Q3h q 1 := by
  rw [View.readAt_eq_ld, harg6.read_unread]
  funext y
  have h0 : (y 0).val = 0 := Nat.lt_one_iff.mp (y 0).isLt
  refine (ld_at (QB q) _ _ inb y (ix3 1 (y 1) (hi (y 2))) ?_).trans rfl
  intro a; fin_cases a
  · exact congrArg (1 + ·) h0.symm
  · exact (Nat.zero_add _).symm
  · rfl

end Cert.Mla

end
-- ==== Proof.MlaDiag.lean ====
/- The attention's last two key blocks of a grid point, on the diagonal, and the division by the sums of the weights. -/
module

public import proofs.«01_k».proof.Proof.MlaHalf
public import proofs.«01_k».proof.Proof.Gen.KernelIdeal.Points
public import Idealize.ShloMosaic.Lib.Pipeline.FrameBody
public import Idealize.ShloMosaic.Lib.Pipeline.ValueKit
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.Mla

open Cert.KernelIdeal Cert.KernelIdeal.Gen Cert.Online
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What a grid point leaves: head `h`'s weighted sums in columns `128 h …`, divided by the sums of the weights. -/
def OUT (s : Fin 2 → Fin 1024 → ℕ → EReal) (v : Fin 2 → Fin 128 → ℕ → EReal) (n : ℕ) : Vec Ideal S1024x256 .bf16 := fun y =>
  av (s ⟨(y 1).val / 128, Nat.div_lt_of_lt_mul (y 1).isLt⟩ (y 0)) (v ⟨(y 1).val / 128, Nat.div_lt_of_lt_mul (y 1).isLt⟩ ⟨(y 1).val % 128, Nat.mod_lt _ (by decide)⟩) (512 * n)
    * Ideal.div 1 (ls (s ⟨(y 1).val / 128, Nat.div_lt_of_lt_mul (y 1).isLt⟩ (y 0)) (512 * n))

/-- Contents both of whose halves are the two heads' results are it. -/
theorem eq_OUT (s : Fin 2 → Fin 1024 → ℕ → EReal) (v : Fin 2 → Fin 128 → ℕ → EReal) (n : ℕ)
    (arg5 : Memref sig .tc .vmem S1024x256 .bf16) (f : arg5.view.ty.Contents (Elt Ideal)) (inb0 inb1)
    (h0 : View.readAt (Elt Ideal) arg5.view (Rect.unit (s := S1024x256) ![0, 0] S1024x128.size inb0).toLoadRect f = O1 (s 0) (v 0) n)
    (h1 : View.readAt (Elt Ideal) arg5.view (Rect.unit (s := S1024x256) ![0, 128] S1024x128.size inb1).toLoadRect f = O1 (s 1) (v 1) n) :
    View.read (Elt Ideal) arg5.view f = OUT s v n := by
  funext y
  rw [View.readAt_eq_ld] at h0 h1
  have hlt : (y 1).val < 256 := (y 1).isLt
  by_cases h : (y 1).val < 128
  · have e : (⟨(y 1).val / 128, Nat.div_lt_of_lt_mul (y 1).isLt⟩ : Fin 2) = 0 := Fin.ext (by show (y 1).val / 128 = 0; omega)
    have e' : (⟨(y 1).val % 128, Nat.mod_lt _ (by decide)⟩ : Fin 128) = ⟨(y 1).val, h⟩ := Fin.ext (Nat.mod_eq_of_lt h)
    have := congrFun h0 (ix2 (y 0) ⟨(y 1).val, h⟩)
    unfold OUT
    rw [e, e']
    refine (ld_at (View.read (Elt Ideal) arg5.view f) _ _ inb0 _ y ?_).symm.trans (this.trans rfl)
    intro a; fin_cases a
    · exact (Nat.zero_add _).symm
    · exact (Nat.zero_add _).symm
  · have hb : (y 1).val - 128 < 128 := by omega
    have e : (⟨(y 1).val / 128, Nat.div_lt_of_lt_mul (y 1).isLt⟩ : Fin 2) = 1 := Fin.ext (by show (y 1).val / 128 = 1; omega)
    have e' : (⟨(y 1).val % 128, Nat.mod_lt _ (by decide)⟩ : Fin 128) = ⟨(y 1).val - 128, hb⟩ := Fin.ext (by show (y 1).val % 128 = (y 1).val - 128; omega)
    have := congrFun h1 (ix2 (y 0) ⟨(y 1).val - 128, hb⟩)
    unfold OUT
    rw [e, e']
    refine (ld_at (View.read (Elt Ideal) arg5.view f) _ _ inb1 _ y ?_).symm.trans (this.trans rfl)
    intro a; fin_cases a
    · exact (Nat.zero_add _).symm
    · show (y 1).val = 128 + ((y 1).val - 128)
      omega

/-- What a grid point does after the blocks before the diagonal: the diagonal's two blocks and the division. -/
def diagProg (i : grid0.Coords)
    (arg2 : Memref sig .tc .vmem S2x1024x256 .bf16) (harg2 : arg2.IsWhole)
    (arg3 : Memref sig .tc .vmem S2x16384x256 .bf16) (harg3 : arg3.IsWhole)
    (arg4 : Memref sig .tc .vmem S2x128x16384 .bf16) (harg4 : arg4.IsWhole)
    (arg5 : Memref sig .tc .vmem S1024x256 .bf16) (harg5 : arg5.IsWhole)
    (arg6 : Memref sig .tc .vmem S2x256x1024 .bf16) (harg6 : arg6.IsWhole)
    (arg7 : Memref sig .tc .vmem S2x512x1024 .f32) (harg7 : arg7.IsWhole)
    (arg8 : Memref sig .tc .vmem S2x512x1024 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x1024 .f32) (harg11 : arg11.IsWhole)
    (v3 : IVec S1x1024 32) (v109 : BitVec 32) (v111 : FVec Ideal S512x1024 .f32) (v118 : IVec S512x1024 1) (cst_97 : Ideal .f32) :
    Prog (TpuEff nD τ sig (Elt Ideal) Λ₀ .tc) PUnit := do
  let v130 : FVec Ideal S1x1024 .f32 ← k0_part35 i arg2 harg2 arg3 harg3 arg4 harg4 arg5 harg5 arg6 harg6 arg7 harg7 arg8 harg8 arg9 harg9 arg10 harg10 arg11 harg11 v109 v111 v118 cst_97
  let ⟨v177, v183, v189, v190⟩ : Σ' (v177 : FVec Ideal S512x512 .f32) (v183 : FVec Ideal S128x512 .bf16) (v189 : FVec Ideal S1x512 .f32), FVec Ideal S1x512 .f32 ← k0_part36 i arg2 harg2 arg3 harg3 arg4 harg4 arg5 harg5 arg6 harg6 arg7 harg7 arg8 harg8 arg9 harg9 arg10 harg10 arg11 harg11 v3 v109 v130
  k0_part37 i arg2 harg2 arg3 harg3 arg4 harg4 arg5 harg5 arg6 harg6 arg7 harg7 arg8 harg8 arg9 harg9 arg10 harg10 arg11 harg11 v177 v183 v189 v190
  let ⟨v240, v245, v247, v250⟩ : Σ' (v240 : FVec Ideal S128x512 .bf16) (v245 : FVec Ideal S1x1024 .f32) (v247 : FVec Ideal S1x1024 .f32), FVec Ideal S512x1024 .f32 ← k0_part38 i arg2 harg2 arg3 harg3 arg4 harg4 arg5 harg5 arg6 harg6 arg7 harg7 arg8 harg8 arg9 harg9 arg10 harg10 arg11 harg11 v3 v109 v189
  let ⟨v292, v295⟩ : Σ' (v292 : FVec Ideal S512x512 .f32), BitVec 32 ← k0_part39 i arg2 harg2 arg3 harg3 arg4 harg4 arg5 harg5 arg6 harg6 arg7 harg7 arg8 harg8 arg9 harg9 arg10 harg10 arg11 harg11 v3 v109 v240 v245 v247 v250
  let ⟨v304, v329⟩ : Σ' (v304 : FVec Ideal S1x512 .f32), FVec Ideal S128x512 .f32 ← k0_part40 i arg2 harg2 arg3 harg3 arg4 harg4 arg5 harg5 arg6 harg6 arg7 harg7 arg8 harg8 arg9 harg9 arg10 harg10 arg11 harg11 v292 v295
  let v360 : FVec Ideal S1024x128 .bf16 ← k0_part41 i arg2 harg2 arg3 harg3 arg4 harg4 arg5 harg5 arg6 harg6 arg7 harg7 arg8 harg8 arg9 harg9 arg10 harg10 arg11 harg11 v304 v329
  let c0_262 : Index := 0#32
  let c128 : Index := 128#32
  let v361 : Vec Ideal S1024x128 .bf16 ← Prog.lift (.load arg5 (Rect.unit (s := S1024x256) ![0, 128] S1024x128.size inb_S1024x256_S1024x128_0_128).toLoadRect (View.loadsAt_vmem h_S1024x128))
  Prog.lift (.store arg5 (Rect.unit (s := S1024x256) ![0, 128] S1024x128.size inb_S1024x256_S1024x128_0_128) v360 Finset.univ (View.stores_vmem h_S1024x128 (harg5.storeExact_slice rfl _ packedbf16_S1024x256_S1024x128_0_128) (fun _ => rfl)) (.inl rfl))
  pure ⟨⟩

set_option maxHeartbeats 4000000 in
/-- The diagonal's two blocks and the division leave the two heads' results in the stored block. -/
theorem diag (c : Dev nD) (E : Set ℕ) (i : grid0.Coords)
    (arg2 : Memref sig .tc .vmem S2x1024x256 .bf16) (harg2 : arg2.IsWhole)
    (arg3 : Memref sig .tc .vmem S2x16384x256 .bf16) (harg3 : arg3.IsWhole)
    (arg4 : Memref sig .tc .vmem S2x128x16384 .bf16) (harg4 : arg4.IsWhole)
    (arg5 : Memref sig .tc .vmem S1024x256 .bf16) (harg5 : arg5.IsWhole)
    (arg6 : Memref sig .tc .vmem S2x256x1024 .bf16) (harg6 : arg6.IsWhole)
    (arg7 : Memref sig .tc .vmem S2x512x1024 .f32) (harg7 : arg7.IsWhole)
    (arg8 : Memref sig .tc .vmem S2x512x1024 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x1024 .f32) (harg11 : arg11.IsWhole)
    (x1 : Vec Ideal S2x16384x256 .bf16) (x2 : Vec Ideal S2x128x16384 .bf16) (q : Vec Ideal S2x1024x256 .bf16) :
    (iprop(owns (c : Thread nD τ) arg3 fullShare x1 ∗ owns (c : Thread nD τ) arg4 fullShare x2
      ∗ (∃ d, owns (c : Thread nD τ) arg5 fullShare d)
      ∗ owns (c : Thread nD τ) arg6 fullShare (QB q) ∗ owns (c : Thread nD τ) arg7 fullShare (SB (sc x1 q) (2 * (i 1).val))
      ∗ owns (c : Thread nD τ) arg9 fullShare (MB (fun h => ms (i 1).val (sc x1 q h)) (2 * (i 1).val))
      ∗ owns (c : Thread nD τ) arg10 fullShare (LB (fun h => ms (i 1).val (sc x1 q h)) (2 * (i 1).val))
      ∗ owns (c : Thread nD τ) arg11 fullShare (AB (fun h => ms (i 1).val (sc x1 q h)) (vx x2) (2 * (i 1).val))) : sProp 𝕄)
      ⊢ wp frame (wpE (defs₀ (F := Ideal)) Variants.none c none) E
          (diagProg i arg2 harg2 arg3 harg3 arg4 harg4 arg5 harg5 arg6 harg6 arg7 harg7 arg8 harg8 arg9 harg9 arg10 harg10 arg11 harg11 (k0_pay201 i) (Scalar.muli 2#32 (BitVec.ofNat 32 (i 1).val)) (SM (sc x1 q 0) (2 * (i 1).val))
            (k0_pay224 (k0_pay201 i) (BitVec.ofNat 32 (i 1).val)) (Named.named (F := Ideal) κ "mask" 0xF149F2CA#32))
          (fun _ => iprop(owns (c : Thread nD τ) arg3 fullShare x1 ∗ owns (c : Thread nD τ) arg4 fullShare x2
            ∗ owns (c : Thread nD τ) arg5 fullShare (OUT (fun h => ms (i 1).val (sc x1 q h)) (vx x2) (2 * (i 1).val + 2))
            ∗ (∃ d, owns (c : Thread nD τ) arg6 fullShare d) ∗ (∃ d, owns (c : Thread nD τ) arg7 fullShare d)
            ∗ (∃ d, owns (c : Thread nD τ) arg9 fullShare d) ∗ (∃ d, owns (c : Thread nD τ) arg10 fullShare d)
            ∗ (∃ d, owns (c : Thread nD τ) arg11 fullShare d))) := by
  unfold diagProg
  unfold owns
  iintro ⟨⟨%f3, %hf3, H3⟩, ⟨%f4, %hf4, H4⟩, ⟨%d5, %f5, %hf5, H5⟩, ⟨%f6, %hf6, H6⟩, ⟨%f7, %hf7, H7⟩, ⟨%f9, %hf9, H9⟩, ⟨%f10, %hf10, H10⟩, ⟨%f11, %hf11, H11⟩⟩
  obtain rfl := harg3.eq_unread hf3; obtain rfl := harg4.eq_unread hf4; obtain rfl := harg6.eq_unread hf6
  obtain rfl := harg7.eq_unread hf7; obtain rfl := harg9.eq_unread hf9; obtain rfl := harg10.eq_unread hf10
  obtain rfl := harg11.eq_unread hf11
  set_option sl_exec.squeezeSlice true in sl_exec
  sl_step
  have hx0 : diag.sl.v349 c i arg3 harg3 arg4 harg4 arg6 harg6 arg7 harg7 arg9 harg9 arg10 harg10 arg11 harg11 x1 x2 q = O1 (ms (i 1).val (sc x1 q 0)) (vx x2 0) (2 * (i 1).val + 2) := by
    iterate 8 sl_unfold_run_names
    repeat first | rw [half_load_L0] | rw [half_load_L1] | rw [half_load_A0] | rw [half_load_A1]
    simp (maxSteps := 1000000) (proj := false) (decide := true) only [
        ↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1,
        ↓half_load_L0, ↓half_patch_L0, ↓half_skip_L0, ↓half_skipAt_L0, ↓half_load_L1, ↓half_patch_L1, ↓half_skip_L1, ↓half_skipAt_L1, ↓half_load_A0, ↓half_patch_A0, ↓half_skip_A0, ↓half_skipAt_A0, ↓half_load_A1, ↓half_patch_A1, ↓half_skip_A1, ↓half_skipAt_A1, View.writes_nil,
        ld_K x1 0 _ _ _ _ _ (off20_ i), ld_K x1 1 _ _ _ _ _ (off23_ i),
        ld_V x2 0 _ _ _ _ _ (off19_ i), ld_V x2 0 _ _ _ _ _ (off21_ i), ld_V x2 1 _ _ _ _ _ (off22_ i), ld_V x2 1 _ _ _ _ _ (off24_ i),
        ld_Q3h_0, ld_Q3h_1, ld_SB0, ld_SB1, ld_MB0, ld_MB1, ld_LB0, ld_LB1, ld_AB0, ld_AB1,
        k0_pay225, k0_pay226, k0_pay227, k0_pay228, k0_pay229, k0_pay230, k0_pay231, k0_pay232, k0_pay234, k0_pay235, k0_pay236, k0_pay237, k0_pay238, k0_pay239, k0_pay240, k0_pay241,
        k0_pay243, k0_pay244, k0_pay245, k0_pay246, k0_pay247, k0_pay248, k0_pay249, k0_pay250, k0_pay252, k0_pay253, k0_pay254, k0_pay255, k0_pay256, k0_pay257, k0_pay258,
        mask_full', mask_full_1, mask_half, mask_half_1, cast_same_L, cast_same_A, tail_M3, tail_L3, tail_A3, patchL_eq, patchA_eq, pay259_eq, pay260_eq,
        cast_S3, cast_M3, cast_L3, cast_A3, cast_V3, cast_SM, cast_M1, cast_L1, cast_A2,
        max_step, alpha_eq, p_eq, sum_step, acc_step, max_step_half, alpha_eq_half, p_eq_half, sum_step_half, acc_step_half, Nat.add_assoc, Nat.reduceAdd]
    repeat first | rw [half_skip_L1] | rw [half_skip_A1] | rw [half_skip_L0] | rw [half_skip_A0]
    try simp (maxSteps := 1000000) (proj := false) (decide := true) only [↓readCov_skip_LB0, ↓readCov_skip_LB1, ↓readCov_skip_AB0, ↓readCov_skip_AB1, ↓View.readCov_cons_toLoadRect, half_patch_L0, half_patch_L1, half_patch_A0, half_patch_A1, patchL_eq, patchA_eq, cast_L3, cast_A3]
    exact out_eq _ _ _ _ _ _
  have hx1 : diag.sl.v360 c i arg3 harg3 arg4 harg4 arg6 harg6 arg7 harg7 arg9 harg9 arg10 harg10 arg11 harg11 x1 x2 q = O1 (ms (i 1).val (sc x1 q 1)) (vx x2 1) (2 * (i 1).val + 2) := by
    iterate 8 sl_unfold_run_names
    repeat first | rw [half_load_L0] | rw [half_load_L1] | rw [half_load_A0] | rw [half_load_A1]
    simp (maxSteps := 1000000) (proj := false) (decide := true) only [
        ↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1,
        ↓half_load_L0, ↓half_patch_L0, ↓half_skip_L0, ↓half_skipAt_L0, ↓half_load_L1, ↓half_patch_L1, ↓half_skip_L1, ↓half_skipAt_L1, ↓half_load_A0, ↓half_patch_A0, ↓half_skip_A0, ↓half_skipAt_A0, ↓half_load_A1, ↓half_patch_A1, ↓half_skip_A1, ↓half_skipAt_A1, View.writes_nil,
        ld_K x1 0 _ _ _ _ _ (off20_ i), ld_K x1 1 _ _ _ _ _ (off23_ i),
        ld_V x2 0 _ _ _ _ _ (off19_ i), ld_V x2 0 _ _ _ _ _ (off21_ i), ld_V x2 1 _ _ _ _ _ (off22_ i), ld_V x2 1 _ _ _ _ _ (off24_ i),
        ld_Q3h_0, ld_Q3h_1, ld_SB0, ld_SB1, ld_MB0, ld_MB1, ld_LB0, ld_LB1, ld_AB0, ld_AB1,
        k0_pay225, k0_pay226, k0_pay227, k0_pay228, k0_pay229, k0_pay230, k0_pay231, k0_pay232, k0_pay234, k0_pay235, k0_pay236, k0_pay237, k0_pay238, k0_pay239, k0_pay240, k0_pay241,
        k0_pay243, k0_pay244, k0_pay245, k0_pay246, k0_pay247, k0_pay248, k0_pay249, k0_pay250, k0_pay252, k0_pay253, k0_pay254, k0_pay255, k0_pay256, k0_pay257, k0_pay258,
        mask_full', mask_full_1, mask_half, mask_half_1, cast_same_L, cast_same_A, tail_M3, tail_L3, tail_A3, patchL_eq, patchA_eq, pay259_eq, pay260_eq,
        cast_S3, cast_M3, cast_L3, cast_A3, cast_V3, cast_SM, cast_M1, cast_L1, cast_A2,
        max_step, alpha_eq, p_eq, sum_step, acc_step, max_step_half, alpha_eq_half, p_eq_half, sum_step_half, acc_step_half, Nat.add_assoc, Nat.reduceAdd]
    repeat first | rw [half_skip_L1] | rw [half_skip_A1] | rw [half_skip_L0] | rw [half_skip_A0]
    try simp (maxSteps := 1000000) (proj := false) (decide := true) only [↓readCov_skip_LB0, ↓readCov_skip_LB1, ↓readCov_skip_AB0, ↓readCov_skip_AB1, ↓View.readCov_cons_toLoadRect, half_patch_L0, half_patch_L1, half_patch_A0, half_patch_A1, patchL_eq, patchA_eq, cast_L3, cast_A3]
    exact out_eq _ _ _ _ _ _
  isplitl [H3]
  · iexists _; isplitr; swap; · iexact H3
    ipureintro; exact harg3.read_unread x1
  isplitl [H4]
  · iexists _; isplitr; swap; · iexact H4
    ipureintro; exact harg4.read_unread x2
  isplitl [H5]
  · iexists _; isplitr; swap; · iexact H5
    ipureintro
    refine eq_OUT _ _ _ arg5 _ inb_S1024x256_S1024x128_0_0 inb_S1024x256_S1024x128_0_128 ?_ ?_
    · exact (readAt_skip _ _ _ _ _ _ (by rfl)).trans ((readAt_same _ _ _ _ _).trans hx0)
    · exact (readAt_same _ _ _ _ _).trans hx1
  isplitl [H6]
  · iexists _, _; isplitr; swap; · iexact H6
    ipureintro; rfl
  isplitl [H7]
  · iexists _, _; isplitr; swap; · iexact H7
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.Mla

end
-- ==== Proof.MlaBody.lean ====
/- The attention's body at a grid point, from the queries', keys' and values' blocks to the block it stores. -/
module

public import proofs.«01_k».proof.Proof.MlaBlocks
public import proofs.«01_k».proof.Proof.MlaDiag
public import proofs.«01_k».proof.Proof.Gen.KernelIdeal.Points
public import Idealize.ShloMosaic.Lib.Pipeline.FrameBody
public import Idealize.ShloMosaic.Lib.Pipeline.ValueKit
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A store to the second head's transposed queries is not seen by a read of the first head's, all of it stored before. -/
theorem readCov_skip_QB1 (arg : View sig .tc .vmem S2x256x1024 .bf16) (inb inb') (w) (L : List (View.Piece (Elt Ideal) S2x256x1024 .bf16)) :
    arg.readCov (⟨Rect.unit (s := S2x256x1024) ![1, 0, 0] S1x256x1024.size inb, w⟩ :: L) (Rect.unit (s := S2x256x1024) ![0, 0, 0] S1x256x1024.size inb').toLoadRect
      = arg.readCov L (Rect.unit (s := S2x256x1024) ![0, 0, 0] S1x256x1024.size inb').toLoadRect :=
  View.readCov_skip _ _ _ _ _ (by rfl)

/-- A store to the second head's transposed queries is not seen by a read of the first head's, whatever the buffer held. -/
theorem readAt_skip_QB1 (arg : View sig .tc .vmem S2x256x1024 .bf16) (f : arg.ty.Contents (Elt Ideal)) (inb inb') (w) (L : List (View.Piece (Elt Ideal) S2x256x1024 .bf16)) :
    arg.readAt (Elt Ideal) (Rect.unit (s := S2x256x1024) ![0, 0, 0] S1x256x1024.size inb').toLoadRect (arg.writes (Elt Ideal) f (⟨Rect.unit (s := S2x256x1024) ![1, 0, 0] S1x256x1024.size inb, w⟩ :: L))
      = arg.readAt (Elt Ideal) (Rect.unit (s := S2x256x1024) ![0, 0, 0] S1x256x1024.size inb').toLoadRect (arg.writes (Elt Ideal) f L) :=
  readAt_skip _ _ _ _ _ _ (by rfl)

/-- A store to the first head's transposed queries is not seen by a read of the second head's, all of it stored before. -/
theorem readCov_skip_QB0 (arg : View sig .tc .vmem S2x256x1024 .bf16) (inb inb') (w) (L : List (View.Piece (Elt Ideal) S2x256x1024 .bf16)) :
    arg.readCov (⟨Rect.unit (s := S2x256x1024) ![0, 0, 0] S1x256x1024.size inb, w⟩ :: L) (Rect.unit (s := S2x256x1024) ![1, 0, 0] S1x256x1024.size inb').toLoadRect
      = arg.readCov L (Rect.unit (s := S2x256x1024) ![1, 0, 0] S1x256x1024.size inb').toLoadRect :=
  View.readCov_skip _ _ _ _ _ (by rfl)

/-- A store to the first head's transposed queries is not seen by a read of the second head's, whatever the buffer held. -/
theorem readAt_skip_QB0 (arg : View sig .tc .vmem S2x256x1024 .bf16) (f : arg.ty.Contents (Elt Ideal)) (inb inb') (w) (L : List (View.Piece (Elt Ideal) S2x256x1024 .bf16)) :
    arg.readAt (Elt Ideal) (Rect.unit (s := S2x256x1024) ![1, 0, 0] S1x256x1024.size inb').toLoadRect (arg.writes (Elt Ideal) f (⟨Rect.unit (s := S2x256x1024) ![0, 0, 0] S1x256x1024.size inb, w⟩ :: L))
      = arg.readAt (Elt Ideal) (Rect.unit (s := S2x256x1024) ![1, 0, 0] S1x256x1024.size inb').toLoadRect (arg.writes (Elt Ideal) f L) :=
  readAt_skip _ _ _ _ _ _ (by rfl)

set_option maxHeartbeats 4000000 in
/-- At a grid point the body stores the softmax-weighted values of the block's queries over the keys up to each query. -/
theorem body (c : Dev nD) (E : Set ℕ) (i : grid0.Coords)
    (arg2 : Memref sig .tc .vmem S2x1024x256 .bf16) (harg2 : arg2.IsWhole)
    (arg3 : Memref sig .tc .vmem S2x16384x256 .bf16) (harg3 : arg3.IsWhole)
    (arg4 : Memref sig .tc .vmem S2x128x16384 .bf16) (harg4 : arg4.IsWhole)
    (arg5 : Memref sig .tc .vmem S1024x256 .bf16) (harg5 : arg5.IsWhole)
    (arg6 : Memref sig .tc .vmem S2x256x1024 .bf16) (harg6 : arg6.IsWhole)
    (arg7 : Memref sig .tc .vmem S2x512x1024 .f32) (harg7 : arg7.IsWhole)
    (arg8 : Memref sig .tc .vmem S2x512x1024 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x1024 .f32) (harg11 : arg11.IsWhole)
    (x0 : Vec Ideal S2x1024x256 .bf16) (x1 : Vec Ideal S2x16384x256 .bf16) (x2 : Vec Ideal S2x128x16384 .bf16) :
    (iprop(owns (c : Thread nD τ) arg2 fullShare x0 ∗ owns (c : Thread nD τ) arg3 fullShare x1 ∗ owns (c : Thread nD τ) arg4 fullShare x2
      ∗ (∃ d, owns (c : Thread nD τ) arg5 fullShare d) ∗ (∃ d, owns (c : Thread nD τ) arg6 fullShare d)
      ∗ (∃ d, owns (c : Thread nD τ) arg7 fullShare d) ∗ (∃ d, owns (c : Thread nD τ) arg8 fullShare d)
      ∗ (∃ d, owns (c : Thread nD τ) arg9 fullShare d) ∗ (∃ d, owns (c : Thread nD τ) arg10 fullShare d)
      ∗ (∃ d, owns (c : Thread nD τ) arg11 fullShare d)) : sProp 𝕄)
      ⊢ wp frame (wpE (defs₀ (F := Ideal)) Variants.none c none) E
          (cc0_mla (F := Ideal) i arg2 harg2 arg3 harg3 arg4 harg4 arg5 harg5 arg6 harg6 arg7 harg7 arg8 harg8 arg9 harg9 arg10 harg10 arg11 harg11)
          (fun _ => iprop(owns (c : Thread nD τ) arg2 fullShare x0 ∗ owns (c : Thread nD τ) arg3 fullShare x1 ∗ owns (c : Thread nD τ) arg4 fullShare x2
            ∗ owns (c : Thread nD τ) arg5 fullShare (OUT (fun h => ms (i 1).val (sc x1 x0 h)) (vx x2) (2 * (i 1).val + 2))
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (∃ d, owns (c : Thread nD τ) arg11 fullShare d))) := by
  unfold cc0_mla
  unfold owns
  iintro ⟨⟨%f2, %hf2, H2⟩, ⟨%f3, %hf3, H3⟩, ⟨%f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩⟩
  obtain rfl := harg2.eq_unread hf2; obtain rfl := harg3.eq_unread hf3; obtain rfl := harg4.eq_unread hf4
  set_option sl_exec.maxSteps 35 in sl_exec
  have hv : ∀ j : grid0.Coords, body.sl.v81 j = BitVec.ofNat 32 (j 1).val := by decide +kernel
  try rw [← k0_part34_eq_skeleton]
  iapply (wp_wand_r Idealize.ShloMosaic.frame (wpE (defs₀ (F := Ideal)) Variants.none (c : Thread nD τ) none) E)
  isplitl [H3 H4 H6 H7 H8 H9 H10 H11]
  · iapply (blocks c E i arg2 harg2 arg3 harg3 arg4 harg4 arg5 harg5 arg6 harg6 arg7 harg7 arg8 harg8 arg9 harg9 arg10 harg10 arg11 harg11 _ _ _ _ x1 x2 x0)
    isplitl [H3]
    · unfold owns; iexists _; isplitr; swap; · iexact H3
      ipureintro; exact harg3.read_unread x1
    isplitl [H4]
    · unfold owns; iexists _; isplitr; swap; · iexact H4
      ipureintro; exact harg4.read_unread x2
    isplitl [H6]
    · unfold owns; iexists _; isplitr; swap; · iexact H6
      ipureintro
      refine eq_QB _ arg6 _ (by decide) (by decide) ?_ ?_
      all_goals
        iterate 3 sl_unfold_run_names
        simp (proj := false) (decide := true) only [↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1, ↓readCov_skip_QB0, ↓readAt_skip_QB0, ↓readCov_skip_QB1, ↓readAt_skip_QB1, ld_X3_0, ld_X3_1, pay202_eq, pay203_eq,
          M3_zero, L3_zero, A3_zero, pay209_eq, pay210_eq, pay207_eq, k0_pay208, k0_pay212, ld_K x1 0 0 arg3 harg3 ![0, 0, 0] _ (by rfl), ld_K x1 1 0 arg3 harg3 ![1, 0, 0] _ (by rfl), scores_eq, cast_S3, cast_SM]
    isplitl [H7]
    · unfold owns; iexists _; isplitr; swap; · iexact H7
      ipureintro
      refine eq_SB _ _ arg7 _ (by decide) (by decide) ?_ ?_
      all_goals
        iterate 3 sl_unfold_run_names
        simp (proj := false) (decide := true) only [↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1, ↓readCov_skip_QB0, ↓readAt_skip_QB0, ↓readCov_skip_QB1, ↓readAt_skip_QB1, ld_X3_0, ld_X3_1, pay202_eq, pay203_eq,
          M3_zero, L3_zero, A3_zero, pay209_eq, pay210_eq, pay207_eq, k0_pay208, k0_pay212, ld_K x1 0 0 arg3 harg3 ![0, 0, 0] _ (by rfl), ld_K x1 1 0 arg3 harg3 ![1, 0, 0] _ (by rfl), scores_eq, cast_S3, cast_SM]
    isplitl [H8]
    · unfold owns; iexists _, _; isplitr; swap; · iexact H8
      ipureintro; rfl
    isplitl [H9]
    · unfold owns; iexists _; isplitr; swap; · iexact H9
      ipureintro
      refine eq_MB _ _ arg9 _ (by decide) (by decide) ?_ ?_
      all_goals
        iterate 3 sl_unfold_run_names
        simp (proj := false) (decide := true) only [↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1, ↓readCov_skip_QB0, ↓readAt_skip_QB0, ↓readCov_skip_QB1, ↓readAt_skip_QB1, ld_X3_0, ld_X3_1, pay202_eq, pay203_eq,
          M3_zero, L3_zero, A3_zero, pay209_eq, pay210_eq, pay207_eq, k0_pay208, k0_pay212, ld_K x1 0 0 arg3 harg3 ![0, 0, 0] _ (by rfl), ld_K x1 1 0 arg3 harg3 ![1, 0, 0] _ (by rfl), scores_eq, cast_S3, cast_SM]
    isplitl [H10]
    · unfold owns; iexists _; isplitr; swap; · iexact H10
      ipureintro
      refine eq_LB _ _ arg10 _ (by decide) (by decide) ?_ ?_
      all_goals
        iterate 3 sl_unfold_run_names
        simp (proj := false) (decide := true) only [↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1, ↓readCov_skip_QB0, ↓readAt_skip_QB0, ↓readCov_skip_QB1, ↓readAt_skip_QB1, ld_X3_0, ld_X3_1, pay202_eq, pay203_eq,
          M3_zero, L3_zero, A3_zero, pay209_eq, pay210_eq, pay207_eq, k0_pay208, k0_pay212, ld_K x1 0 0 arg3 harg3 ![0, 0, 0] _ (by rfl), ld_K x1 1 0 arg3 harg3 ![1, 0, 0] _ (by rfl), scores_eq, cast_S3, cast_SM]
    · unfold owns; iexists _; isplitr; swap; · iexact H11
      ipureintro
      refine eq_AB _ _ _ arg11 _ (by decide) (by decide) ?_ ?_
      all_goals
        iterate 3 sl_unfold_run_names
        simp (proj := false) (decide := true) only [↓readAt_same, ↓View.readCov_cons_toLoadRect, ↓readCov_skip_SB0, ↓readAt_skip_SB0, ↓readCov_skip_SB1, ↓readAt_skip_SB1, ↓readCov_skip_MB0, ↓readAt_skip_MB0, ↓readCov_skip_MB1, ↓readAt_skip_MB1, ↓readCov_skip_LB0, ↓readAt_skip_LB0, ↓readCov_skip_LB1, ↓readAt_skip_LB1, ↓readCov_skip_AB0, ↓readAt_skip_AB0, ↓readCov_skip_AB1, ↓readAt_skip_AB1, ↓readCov_skip_QB0, ↓readAt_skip_QB0, ↓readCov_skip_QB1, ↓readAt_skip_QB1, ld_X3_0, ld_X3_1, pay202_eq, pay203_eq,
          M3_zero, L3_zero, A3_zero, pay209_eq, pay210_eq, pay207_eq, k0_pay208, k0_pay212, ld_K x1 0 0 arg3 harg3 ![0, 0, 0] _ (by rfl), ld_K x1 1 0 arg3 harg3 ![1, 0, 0] _ (by rfl), scores_eq, cast_S3, cast_SM]
  iintro %r ⟨H3, H4, H6, H7, H8, H9, H10, H11, %h1, %h2, %h3, %h4⟩
  obtain ⟨r1, r2, r3, r4⟩ := r
  dsimp only at h1 h2 h3 h4
  subst h1 h2 h3 h4
  rw [hv i, MB_ms, LB_ms, AB_ms]
  iapply (wp_wand_r Idealize.ShloMosaic.frame (wpE (defs₀ (F := Ideal)) Variants.none (c : Thread nD τ) none) E)
  isplitl [H3 H4 H5 H6 H7 H9 H10 H11]
  · iapply (diag c E i arg2 harg2 arg3 harg3 arg4 harg4 arg5 harg5 arg6 harg6 arg7 harg7 arg8 harg8 arg9 harg9 arg10 harg10 arg11 harg11 x1 x2 x0)
    isplitl [H3]; · iexact H3
    isplitl [H4]; · iexact H4
    isplitl [H5]
    · unfold owns; iexists _, _; isplitr; swap; · iexact H5
      ipureintro; rfl
    isplitl [H6]; · iexact H6
    isplitl [H7]; · iexact H7
    isplitl [H9]; · iexact H9
    isplitl [H10]; · iexact H10
    iexact H11
  iintro %u ⟨H3, H4, H5, H6, H7, H9, H10, H11⟩
  unfold owns
  isplitl [H2]
  · iexists _; isplitr; swap; · iexact H2
    ipureintro; exact harg2.read_unread x0
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Mla

end
-- ==== Proof.MlaFrame.lean ====
/- The run of the attention kernel: what every grid point leaves in its output block, and the frame. -/
module

public import proofs.«01_k».proof.Proof.MlaBody
public import proofs.«01_k».proof.Proof.Gen.KernelIdeal.Frame.Runs
public import Idealize.ShloMosaic.Lib.Claim

@[expose] public section

set_option maxRecDepth 16384

noncomputable section

namespace Cert.Mla

open Cert.KernelIdeal Cert.KernelIdeal.Gen Cert.Online
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What point `t` leaves, from its blocks of queries, keys and values. -/
def outAt (c : Dev nD) (t : Fin cfg0.N) : Vec Ideal S1024x256 .bf16 :=
  OUT (fun h => ms (grid0.coords t 1).val (sc (iblk m c 1 t) (iblk m c 0 t) h)) (vx (iblk m c 2 t)) (2 * (grid0.coords t 1).val + 2)

/-- What the pipeline's arrays and buffers hold: inputs as found, the output's block as `outAt` says. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

/-- The arrays the pipeline starts on. -/
theorem A_eq (c : Dev nD) (w : Fin cfg0.W) : (dats m 0 c).A w = V m c (Pipeline.arrRef spec0 w) := by
  dsimp only [dats]

/-- Window 0 after the body at a grid point: its block, as it was. -/
theorem after0_0 (c : Dev nD) (t : Fin cfg0.N) : (dats m 0 c).after 0 t = iblk m c 0 t := by dsimp only [dats]
/-- Window 1 after the body at a grid point: its block, as it was. -/
theorem after0_1 (c : Dev nD) (t : Fin cfg0.N) : (dats m 0 c).after 1 t = iblk m c 1 t := by dsimp only [dats]
/-- Window 2 after the body at a grid point: its block, as it was. -/
theorem after0_2 (c : Dev nD) (t : Fin cfg0.N) : (dats m 0 c).after 2 t = iblk m c 2 t := by dsimp only [dats]
/-- Window 3 after the body at a grid point: the block the body stores. -/
theorem after0_3 (c : Dev nD) (t : Fin cfg0.N) : (dats m 0 c).after 3 t = outAt m c t := by dsimp only [dats]

/-- Window 0 before the body at a grid point: its block of the array. -/
theorem before0_0 (c : Dev nD) (t : Fin cfg0.N) (d) : (dats m 0 c).before 0 t d = iblk m c 0 t :=
  before0_0_of m (dats m 0 c) (A_eq m c 0) (after0_0 m c) t d
/-- Window 1 before the body at a grid point: its block of the array. -/
theorem before0_1 (c : Dev nD) (t : Fin cfg0.N) (d) : (dats m 0 c).before 1 t d = iblk m c 1 t :=
  before0_1_of m (dats m 0 c) (A_eq m c 1) (after0_1 m c) t d
/-- Window 2 before the body at a grid point: its block of the array. -/
theorem before0_2 (c : Dev nD) (t : Fin cfg0.N) (d) : (dats m 0 c).before 2 t d = iblk m c 2 t :=
  before0_2_of m (dats m 0 c) (A_eq m c 2) (after0_2 m c) t d

/-- What a point is entered with, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it is left with. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point. -/
theorem sound (c : Dev nD) (t : Fin cfg0.N) :
    pre m c t ⊢ wp frame (wpE (defs₀ (F := Ideal)) Variants.none c none) Set.univ (bodyAt0 t) (fun _ => post m c t) := by
  unfold pre post bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩⟩
  iapply (wp_wand_r Idealize.ShloMosaic.frame (wpE (defs₀ (F := Ideal)) Variants.none (c : Thread nD τ) none) Set.univ)
  isplitl [H0 H1 H2 H3 HS0 HS1 HS2 HS3 HS4 HS5]
  · iapply (body c Set.univ (grid0.coords t) _ (hs0_0 t) _ (hs0_1 t) _ (hs0_2 t) _ (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t))
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    iexact HS5
  iintro %u ⟨H0, H1, H2, H3, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  iexact H3

/-- The body's call at a grid point is the body on that point's buffers. -/
theorem row (t : Fin cfg0.N) :
    defs₀ (F := Ideal) .tc cfg0.body (cfg0.bodyArgs t (cfg0.slots t)) = bodyAt0 t := by
  unfold defs₀; rw [Defs.onTc_tc]

/-- At every grid point the body does what the pipeline's data say. -/
theorem obligation (c : Dev nD) : BodyObligation (dats m 0 c) (defs₀ (F := Ideal)) Variants.none () Set.univ := fun t => by
  rw [bigSep_W0, bigSep_W0, row]
  exact triple_restated (sound m c t) rfl .rfl fun _ => .rfl

set_option backward.isDefEq.respectTransparency.types false in
/-- Every run ends, with the arrays the pipeline's and all semaphores at zero. -/
theorem run : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame. -/
theorem frame_pi : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Mla

end
-- ==== Proof.MlaValue.lean ====
/- The array the attention kernel leaves: the attention of its arguments. -/
module

public import proofs.«01_k».proof.Proof.MlaHost
public import proofs.«01_k».proof.Proof.MlaFrame
public import Idealize.ShloMosaic.Lib.Pipeline.ValueKit
public import Idealize.ShloMosaic.Lib.Claim

@[expose] public section

set_option maxRecDepth 16384

noncomputable section

namespace Cert.Mla

open Cert.KernelIdeal Cert.KernelIdeal.Gen Cert.Online Cert.Softmax
open Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`, and the point's tile of queries. -/
theorem idx : ∀ t : Fin cfg0.N, win0_0.index t = ![t.val / 16, t.val % 16, 0] ∧ win0_1.index t = ![t.val / 16, 0, 0]
    ∧ win0_2.index t = ![t.val / 16, 0, 0] ∧ win0_3.index t = ![t.val % 16, t.val / 16] :=
  (by decide +kernel : ∀ t : Fin grid0.N, _)

/-- The second grid coordinate is the query block; the first runs over four pairs of heads. -/
theorem tile : ∀ t : Fin cfg0.N, (grid0.coords t 1).val = t.val % 16 ∧ t.val / 16 < 4 :=
  (by decide +kernel : ∀ t : Fin grid0.N, _)

/-- The block of queries. -/
theorem q_at (c : Dev nD) (t : Fin cfg0.N) (h : Fin 2) (b : Fin 1024) (d : Fin 256) (H : Fin 8) (P : Fin 16384)
    (hH : H.val = t.val / 16 * 2 + h.val) (hP : P.val = t.val % 16 * 1024 + b.val) :
    (show FVec Ideal S2x1024x256 .bf16 from iblk m c 0 t) (ix3 h b d)
      = (show FVec Ideal S8x16384x256 .bf16 from V m c main_v10) (ix3 H P d) := by
  blk_point [iblk, idx t]

/-- The block of keys. -/
theorem k_at (c : Dev nD) (t : Fin cfg0.N) (h : Fin 2) (n : Fin 16384) (d : Fin 256) (H : Fin 8)
    (hH : H.val = t.val / 16 * 2 + h.val) :
    (show FVec Ideal S2x16384x256 .bf16 from iblk m c 1 t) (ix3 h n d)
      = (show FVec Ideal S8x16384x256 .bf16 from V m c main_v14) (ix3 H n d) := by
  blk_point [iblk, idx t]

/-- The block of values. -/
theorem v_at (c : Dev nD) (t : Fin cfg0.N) (h : Fin 2) (d : Fin 128) (n : Fin 16384) (H : Fin 8)
    (hH : H.val = t.val / 16 * 2 + h.val) :
    (show FVec Ideal S2x128x16384 .bf16 from iblk m c 2 t) (ix3 h d n)
      = (show FVec Ideal S8x128x16384 .bf16 from V m c main_v17) (ix3 H d n) := by
  blk_point [iblk, idx t]

/-- The arguments' queries and keys are finite. -/
abbrev FinArgs (c : Dev nD) : Prop :=
  Fin4 (m ((c : Thread nD τ).loc main_arg0)) (m ((c : Thread nD τ).loc main_arg1)) (m ((c : Thread nD τ).loc main_arg2))
    (m ((c : Thread nD τ).loc main_arg3))

/-- The masked scores of a query of point `t` are those of the specification, over `log 2`. -/
theorem scores_at (c : Dev nD) (hf : FinArgs m c) (t : Fin cfg0.N) (h : Fin 2) (b : Fin 1024) (H : Fin 8) (P : Fin 16384)
    (hH : H.val = t.val / 16 * 2 + h.val) (hP : P.val = t.val % 16 * 1024 + b.val) :
    ms (grid0.coords t 1).val (sc (iblk m c 1 t) (iblk m c 0 t) h) b
      = seen P.val fun n => score (m ((c : Thread nD τ).loc main_arg0)) (m ((c : Thread nD τ).loc main_arg1))
          (m ((c : Thread nD τ).loc main_arg2)) (m ((c : Thread nD τ).loc main_arg3)) H P n / Real.log 2 := by
  funext n
  have ht : 1024 * (grid0.coords t 1).val + b.val = P.val := by rw [(tile t).1, hP]; omega
  unfold ms seen
  rw [ht]
  by_cases hn : n ≤ P.val
  · rw [if_pos hn, if_pos hn]
    have hn' : n < 16384 := lt_of_le_of_lt hn P.isLt
    unfold sc
    have e : ∀ d : Fin 256, kx (iblk m c 1 t) h n d * (show FVec Ideal S2x1024x256 .bf16 from iblk m c 0 t) (ix3 h b d)
        = kVec (m ((c : Thread nD τ).loc main_arg2)) (m ((c : Thread nD τ).loc main_arg3)) (ix3 H ⟨n, hn'⟩ d)
          * qVec (m ((c : Thread nD τ).loc main_arg0)) (m ((c : Thread nD τ).loc main_arg1)) (ix3 H P d) := fun d => by
      rw [q_at m c t h b d H P hH hP, V_q]
      refine congrArg (· * _) ?_
      unfold kx
      rw [dif_pos hn']
      exact (k_at m c t h ⟨n, hn'⟩ d H hH).trans (congrFun (V_k m c) _)
    refine (Finset.sum_congr rfl fun d _ => e d).trans ?_
    refine score_ker hf H P ⟨n, hn'⟩ _ (fun d => ?_) (fun d => ?_) (fun d => ?_)
    · rw [kVec_0, qVec_0]
    · rw [kVec_1, qVec_1]
    · rw [kVec_2, zero_mul]
  · rw [if_neg hn, if_neg hn]

/-- The values of point `t`. -/
theorem vals_at (c : Dev nD) (t : Fin cfg0.N) (h : Fin 2) (d : Fin 128) (H : Fin 8) (hH : H.val = t.val / 16 * 2 + h.val) :
    vx (iblk m c 2 t) h d = val (m ((c : Thread nD τ).loc main_arg4)) H d := by
  funext n
  unfold vx val
  by_cases hn : n < 16384
  · rw [dif_pos hn, dif_pos hn]
    exact ((v_at m c t h d ⟨n, hn⟩ H hH).trans (congrFun (V_v m c) _)).trans (vVec_at _ _ _ _)
  · rw [dif_neg hn, dif_neg hn]

/-- The attention of the kernel's arguments. -/
abbrev resOf (c : Dev nD) : FVec Ideal S16384x1024 .bf16 :=
  res (m ((c : Thread nD τ).loc main_arg0)) (m ((c : Thread nD τ).loc main_arg1)) (m ((c : Thread nD τ).loc main_arg2))
    (m ((c : Thread nD τ).loc main_arg3)) (m ((c : Thread nD τ).loc main_arg4))

/-- A block the body leaves, read at a row and a column. -/
theorem OUT_at (s : Fin 2 → Fin 1024 → ℕ → EReal) (v : Fin 2 → Fin 128 → ℕ → EReal) (n : ℕ) (r : Fin 1024) (k : Fin 256) :
    OUT s v n (ix2 r k) = av (s ⟨k.val / 128, by omega⟩ r) (v ⟨k.val / 128, by omega⟩ ⟨k.val % 128, by omega⟩) (512 * n)
      * Ideal.div 1 (ls (s ⟨k.val / 128, by omega⟩ r) (512 * n)) := rfl

/-- The attention, read at a row and a column. -/
theorem res_at (q0 : FVec Ideal S1x8x16384x128 .f32) (q1 : FVec Ideal S1x8x16384x64 .f32) (k0 : FVec Ideal S1x8x16384x128 .f32)
    (k1 : FVec Ideal S1x16384x64 .f32) (vv : FVec Ideal S1x8x16384x128 .f32) (P : Fin 16384) (C : Fin 1024) :
    res q0 q1 k0 k1 vv (ix2 P C) = out (seen P.val (score q0 q1 k0 k1 ⟨C.val / 128, by omega⟩ P))
      (val vv ⟨C.val / 128, by omega⟩ ⟨C.val % 128, by omega⟩) 16384 := rfl

/-- What point `t` leaves at a row and a column is the attention at the place it is written to. -/
theorem out_at (c : Dev nD) (hf : FinArgs m c) (t : Fin cfg0.N) (r : Fin 1024) (k : Fin 256) (P : Fin 16384) (C : Fin 1024)
    (h0 : P.val = t.val % 16 * 1024 + r.val) (h1 : C.val = t.val / 16 * 256 + k.val) :
    outAt m c t (ix2 r k) = resOf m c (ix2 P C) := by
  have hd : C.val / 128 = t.val / 16 * 2 + k.val / 128 := by omega
  have hm : k.val % 128 = C.val % 128 := by omega
  have hT : 512 * (2 * (grid0.coords t 1).val + 2) ≤ 16384 := by rw [(tile t).1]; omega
  have hs : ∀ (a : ℕ → ℝ) n, 512 * (2 * (grid0.coords t 1).val + 2) ≤ n → n < 16384 → seen P.val a n = ⊥ := fun a n hn _ => by
    rw [(tile t).1] at hn
    exact if_neg (by omega)
  refine (OUT_at _ _ _ r k).trans (Eq.trans ?_ (res_at _ _ _ _ _ P C).symm)
  beta_reduce
  rw [scores_at m c hf t ⟨k.val / 128, by omega⟩ r ⟨C.val / 128, by omega⟩ P hd h0,
    vals_at m c t ⟨k.val / 128, by omega⟩ _ ⟨C.val / 128, by omega⟩ hd,
    ← av_masked _ _ hT (hs _), ← ls_masked _ hT (hs _), Cert.Softmax.out_eq P.val 16384 P.isLt]
  simp only [hm]

/-- The array after the run is the attention of the arguments. -/
theorem final (c : Dev nD) (hf : FinArgs m c) : (dats m 0 c).arrAt 3 (cfgs 0).N = resOf m c := by
  refine (dats m 0 c).arrAt_eq_of_covers 3 _ (by decide +kernel) fun t _ y => ?_
  blk_simp
  rw [after0_3]
  rw [eq_ix2 y, eq_ix2 (((cfg0.win 3).blk t).view.emb (ix2 (y 0) (y 1)))]
  refine out_at m c hf t (y 0) (y 1) _ _ ?_ ?_
  · blk_simp [idx t]
  · blk_simp [idx t]

end Cert.Mla

end
-- ==== Proof.MlaRef.lean ====
/- The reference's attention: the array it ends with is the attention of its arguments. -/
module

public import proofs.«01_k».proof.Proof.MlaSpec
public import proofs.«01_k».proof.Proof.Gen.ReferenceIdeal.Run
public import Idealize.ShloMosaic.Lib.Pipeline.ValueKit
public import Idealize.ShloMosaic.Lib.Claim
public import Idealize.ShloMosaic.Lib.WordCmp

@[expose] public section

set_option maxRecDepth 16384

noncomputable section

namespace Cert.Mla

open Cert.ReferenceIdeal Cert.ReferenceIdeal.Gen Cert.ReferenceIdeal.Value Cert.Softmax
open Idealize.ShloMosaic Idealize.ShloMosaic.TcCoe Idealize.SL.Sem

section
variable (q0 : FVec Ideal S1x8x16384x128 .f32) (q1 : FVec Ideal S1x8x16384x64 .f32) (k0 : FVec Ideal S1x8x16384x128 .f32)
  (k1 : FVec Ideal S1x16384x64 .f32) (vv : FVec Ideal S1x8x16384x128 .f32)

/-- The reference's scores with their mask. -/
def refS : FVec Ideal S1x8x16384x16384 .f32 :=
  select (broadcastInDim S1x8x16384x16384 ![2, 3] bcast_S16384x16384_S1x8x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))) (mulf (addf (Host.dotGeneral dot_S1x8x16384x128_S1x8x16384x128_S1x8x16384x16384_3_3_2_2_01_01 none q0 k0) (Host.dotGeneral dot_S1x8x16384x64_S1x16384x64_S1x8x16384x16384_3_2_12_1_0_0 none q1 k1)) (broadcastInDim S1x8x16384x16384 ![] bcast_S_S1x8x16384x16384 (constant S_ .f32 0x3D93CD3A#32))) (broadcastInDim S1x8x16384x16384 ![] bcast_S_S1x8x16384x16384 (id (constant S_ .f32 0xFF800000#32)))

/-- The largest score in each row, from minus infinity. -/
def refM (X : FVec Ideal S1x8x16384x16384 .f32) : FVec Ideal S1x8x16384 .f32 :=
  Host.reduce FloatOps.maximumf X (constant S_ .f32 0xFF800000#32) reducesTo_S1x8x16384x16384_S1x8x16384_d3 h_S_

/-- The exponentials of scores less numbers, one for each row, or minus infinity where that is larger. -/
def refD (X : FVec Ideal S1x8x16384x16384 .f32) (M : FVec Ideal S1x8x16384 .f32) : FVec Ideal S1x8x16384x16384 .f32 :=
  Host.exp (subf X (broadcastInDim S1x8x16384x16384 ![0, 1, 2, 3] bcast_S1x8x16384x1_S1x8x16384x16384_0_1_2_3 (broadcastInDim S1x8x16384x1 ![0, 1, 2] bcast_S1x8x16384_S1x8x16384x1_0_1_2 (maximumf (broadcastInDim S1x8x16384 ![] bcast_S_S1x8x16384 (constant S_ .f32 0xFF800000#32)) M))))

/-- The exponentials of scores less the largest in their row. -/
def refE (X : FVec Ideal S1x8x16384x16384 .f32) : FVec Ideal S1x8x16384x16384 .f32 := refD X (refM X)

/-- The averages of the values under exponentials normalised in their row, the heads side by side. -/
def refO (E : FVec Ideal S1x8x16384x16384 .f32) : FVec Ideal S16384x1024 .bf16 :=
  truncf .bf16 (shapeCast S16384x1024 (transpose S1x16384x8x128 [0, 2, 1, 3] (Host.dotGeneral dot_S1x8x16384x16384_S1x8x16384x128_S1x8x16384x128_3_2_2_3_01_01 none (Host.divf E (broadcastInDim S1x8x16384x16384 ![0, 1, 2, 3] bcast_S1x8x16384x1_S1x8x16384x16384_0_1_2_3 (broadcastInDim S1x8x16384x1 ![0, 1, 2] bcast_S1x8x16384_S1x8x16384x1_0_1_2 (Host.reduceAdd E (constant S_ .f32 0x00000000#32) reducesTo_S1x8x16384x16384_S1x8x16384_d3 h_S_)))) vv) transposes_S1x8x16384x128_S1x16384x8x128_0_2_1_3) shapeCasts_S1x16384x8x128_S16384x1024) bitsLt_bf16_f32

/-- A maximum over the last of four axes, from minus infinity, is the supremum. -/
theorem reduce_max_at {A B C N : ℕ} (x : FVec Ideal ⟨4, ![A, B, C, N]⟩ .f32)
    (hr : (⟨4, ![A, B, C, N]⟩ : Shape).ReducesTo [3] ⟨3, ![A, B, C]⟩) (a : Fin A) (b : Fin B) (c : Fin C) :
    Host.reduce FloatOps.maximumf x (constant S_ .f32 0xFF800000#32) hr h_S_ (ix3 a b c)
      = Finset.univ.sup fun j : Fin N => x (ix4 a b c j) := by
  pointwise
  rw [show Ideal.ofBits FTy.f32 4286578688#32 = ⊥ from by simp [Ideal.ofBits, Ideal.ieee]]
  rfl

/-- The largest score of a row, read at the row. -/
theorem refM_at (X : FVec Ideal S1x8x16384x16384 .f32) (h : Fin 8) (p : Fin 16384) :
    refM X (ix3 0 h p) = Finset.univ.sup fun j : Fin 16384 => X (ix4 0 h p j) :=
  reduce_max_at X reducesTo_S1x8x16384x16384_S1x8x16384_d3 0 h p

/-- The exponential at a place: the score there less the row's number. -/
theorem refD_at (X : FVec Ideal S1x8x16384x16384 .f32) (M : FVec Ideal S1x8x16384 .f32) (h : Fin 8) (p n : Fin 16384) :
    refD X M (ix4 0 h p n) = Ideal.exp (X (ix4 0 h p n) - M (ix3 0 h p)) := by
  pointwise [refD]
  rw [show Ideal.ofBits FTy.f32 4286578688#32 = ⊥ from by simp [Ideal.ofBits, Ideal.ieee], max_eq_right bot_le]

/-- The exponential at a place: the score there less the largest of the row. -/
theorem refE_at (X : FVec Ideal S1x8x16384x16384 .f32) (h : Fin 8) (p n : Fin 16384) :
    refE X (ix4 0 h p n) = Ideal.exp (X (ix4 0 h p n) - Finset.univ.sup fun j : Fin 16384 => X (ix4 0 h p j)) := by
  rw [refE, refD_at, refM_at]

/-- The result at a row and a column: the average of the column's values in the column's head. -/
theorem refO_at (E : FVec Ideal S1x8x16384x16384 .f32) (p : Fin 16384) (h : Fin 8) (d : Fin 128) (C : Fin 1024)
    (hC : C.val = h.val * 128 + d.val) :
    refO vv E (ix2 p C) = ∑ n : Fin 16384, Ideal.div (E (ix4 0 h p n)) (∑ j : Fin 16384, E (ix4 0 h p j)) * vv (ix4 0 h n d) := by
  pointwise [refO]
  have e0 : C.val / 128 = h.val := by omega
  have e1 : C.val % 128 = d.val := by omega
  simp only [e0, e1, Fin.eta]

/-- A selection by a comparison of two small places. -/
theorem sge_select (a b : ℕ) (x y : EReal) (ha : a < 2 ^ 31) (hb : b < 2 ^ 31) :
    Scalar.select (IntOp.cmpi CmpIPredicate.sge (BitVec.ofNat 32 a) (BitVec.ofNat 32 b)) x y = if b ≤ a then x else y := by
  rw [WordCmp.cmpi_sge_ofNat ha hb]
  by_cases h : b ≤ a <;> simp [h, Scalar.select]

/-- The masked score at a place. -/
theorem refS_at (h : Fin 8) (p n : Fin 16384) :
    refS q0 q1 k0 k1 (ix4 0 h p n) = if n.val ≤ p.val then
      ((∑ d : Fin 128, q0 (ix4 0 h p d) * k0 (ix4 0 h n d)) + ∑ d : Fin 64, q1 (ix4 0 h p d) * k1 (ix3 0 n d))
        * Ideal.ofBits .f32 0x3D93CD3A#32 else ⊥ := by
  pointwise [refS]
  rw [sge_select _ _ _ _ (by omega) (by omega)]
  refine congrArg (ite _ _) ?_
  show Ideal.ofBits FTy.f32 4286578688#32 = ⊥
  simp [Ideal.ofBits, Ideal.ieee]

/-- The masked score at a place is the specification's, if the queries and the keys are finite. -/
theorem refS_seen (hf : Fin4 q0 q1 k0 k1) (h : Fin 8) (p n : Fin 16384) :
    refS q0 q1 k0 k1 (ix4 0 h p n) = seen p.val (score q0 q1 k0 k1 h p) n.val := by
  rw [refS_at, score_ref hf]
  rfl

/-- The reference's result is the attention, if the queries and the keys are finite. -/
theorem ref_res (hf : Fin4 q0 q1 k0 k1) : refO vv (refE (refS q0 q1 k0 k1)) = res q0 q1 k0 k1 vv := by
  funext i
  obtain ⟨p, C, rfl⟩ : ∃ (p : Fin 16384) (C : Fin 1024), i = ix2 p C := ⟨i 0, i 1, eq_ix2 i⟩
  rw [refO_at vv _ p ⟨C.val / 128, by omega⟩ ⟨C.val % 128, by omega⟩ C (by show _ = C.val / 128 * 128 + C.val % 128; omega)]
  have hE : ∀ n : Fin 16384, refE (refS q0 q1 k0 k1) (ix4 0 ⟨C.val / 128, by omega⟩ p n)
      = Ideal.exp (seen p.val (score q0 q1 k0 k1 ⟨C.val / 128, by omega⟩ p) n.val
          - top (seen p.val (score q0 q1 k0 k1 ⟨C.val / 128, by omega⟩ p)) 16384) := fun n => by
    rw [refE_at, refS_seen q0 q1 k0 k1 hf]
    simp only [refS_seen q0 q1 k0 k1 hf]
    rw [top]
  simp only [hE]
  show _ = out _ _ _
  unfold out den
  refine Finset.sum_congr rfl fun n _ => congrArg _ ?_
  show _ = val _ _ _ _
  rw [val, dif_pos n.isLt]
  rfl

end

/-- What the reference ends with. -/
theorem ref_eq (m : (ℓ : Loc nD τ sig) → Buf (Elt Ideal) ℓ) (c : Dev nD)
    (hf : Fin4 (m ((c : Thread nD τ).loc main_arg0)) (m ((c : Thread nD τ).loc main_arg1)) (m ((c : Thread nD τ).loc main_arg2))
      (m ((c : Thread nD τ).loc main_arg3))) :
    res_main_v26 m c = res (m ((c : Thread nD τ).loc main_arg0)) (m ((c : Thread nD τ).loc main_arg1))
      (m ((c : Thread nD τ).loc main_arg2)) (m ((c : Thread nD τ).loc main_arg3)) (m ((c : Thread nD τ).loc main_arg4)) := by
  refine Eq.trans (b := refO (m ((c : Thread nD τ).loc main_arg4)) (refE (refS (m ((c : Thread nD τ).loc main_arg0))
    (m ((c : Thread nD τ).loc main_arg1)) (m ((c : Thread nD τ).loc main_arg2)) (m ((c : Thread nD τ).loc main_arg3))))) ?_ (ref_res _ _ _ _ _ hf)
  unfold res_main_v26 refO refE refD refM refS
  rfl

end Cert.Mla

end
-- ==== Proof.MlaBits.lean ====
/- The attention kernel as printed, over any numbers: its body leaves its inputs as they are. Nothing is said of what it
   computes. -/
module

public import proofs.«01_k».proof.Proof.Gen.Kernel.Frame.Runs
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MlaBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One trip of the loop over tiles: it leaves the keys and the values, and something in each scratch buffer. -/
theorem trip (c : Dev nD) (i : grid0.Coords)
    (arg2 : Memref sig .tc .vmem S2x1024x256 .bf16) (harg2 : arg2.IsWhole)
    (arg3 : Memref sig .tc .vmem S2x16384x256 .bf16) (harg3 : arg3.IsWhole)
    (arg4 : Memref sig .tc .vmem S2x128x16384 .bf16) (harg4 : arg4.IsWhole)
    (arg5 : Memref sig .tc .vmem S1024x256 .bf16) (harg5 : arg5.IsWhole)
    (arg6 : Memref sig .tc .vmem S2x256x1024 .bf16) (harg6 : arg6.IsWhole)
    (arg7 : Memref sig .tc .vmem S2x512x1024 .f32) (harg7 : arg7.IsWhole)
    (arg8 : Memref sig .tc .vmem S2x512x1024 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x1024 .f32) (harg11 : arg11.IsWhole)
    (v3 : IVec S1x1024 32) (v81 : BitVec 32) (v82 : BitVec 32) (v96 : BitVec 1)
    (x1 : Vec F S2x16384x256 .bf16) (x2 : Vec F S2x128x16384 .bf16)
    (k : Fin (k0_t1_loop i).trips) (E : Set ℕ) :
    (iprop(owns (c : Thread nD τ) arg3 fullShare x1 ∗ owns (c : Thread nD τ) arg4 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) : sProp 𝕄)
      ⊢ wp frame (wpE (defs₀ (F := F)) Variants.none c none) E
          (k0_t1_body (F := F) i arg2 harg2 arg3 harg3 arg4 harg4 arg5 harg5 arg6 harg6 arg7 harg7 arg8 harg8 arg9 harg9 arg10 harg10 arg11 harg11 v3 v81 v82 v96 k PUnit.unit)
          (fun _ => iprop(owns (c : Thread nD τ) arg3 fullShare x1 ∗ owns (c : Thread nD τ) arg4 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d))) := by
  unfold k0_t1_body
  unfold owns
  iintro ⟨⟨%f3, %hf3, H3⟩, ⟨%f4, %hf4, H4⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩⟩
  obtain rfl := harg3.eq_unread hf3; obtain rfl := harg4.eq_unread hf4
  sl_exec
  sl_step
  isplitl [H3]
  · iexists _; isplitr; swap; · iexact H3
    ipureintro; exact harg3.read_unread x1
  isplitl [H4]
  · iexists _; isplitr; swap; · iexact H4
    ipureintro; exact harg4.read_unread x2
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-- Before a trip of the loop over tiles the scratch buffers hold something. -/
@[sl_loop, instance_reducible] def tripInv (c : Dev nD) (E : Set ℕ) (i : grid0.Coords)
    (arg2 : Memref sig .tc .vmem S2x1024x256 .bf16) (harg2 : arg2.IsWhole)
    (arg3 : Memref sig .tc .vmem S2x16384x256 .bf16) (harg3 : arg3.IsWhole)
    (arg4 : Memref sig .tc .vmem S2x128x16384 .bf16) (harg4 : arg4.IsWhole)
    (arg5 : Memref sig .tc .vmem S1024x256 .bf16) (harg5 : arg5.IsWhole)
    (arg6 : Memref sig .tc .vmem S2x256x1024 .bf16) (harg6 : arg6.IsWhole)
    (arg7 : Memref sig .tc .vmem S2x512x1024 .f32) (harg7 : arg7.IsWhole)
    (arg8 : Memref sig .tc .vmem S2x512x1024 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x1024 .f32) (harg11 : arg11.IsWhole)
    (v3 : IVec S1x1024 32) (v81 : BitVec 32) (v82 : BitVec 32) (v96 : BitVec 1)
    (x1 : Vec F S2x16384x256 .bf16) (x2 : Vec F S2x128x16384 .bf16) :
    LoopInv (M := 𝕄) Idealize.ShloMosaic.frame (wpE (defs₀ (F := F)) Variants.none (c : Thread nD τ) none) E
      (k0_t1_loop i).lb (k0_t1_loop i).ub (k0_t1_loop i).st (k0_t1_ok i) ()
      (k0_t1_body (F := F) i arg2 harg2 arg3 harg3 arg4 harg4 arg5 harg5 arg6 harg6 arg7 harg7 arg8 harg8 arg9 harg9 arg10 harg10 arg11 harg11 v3 v81 v82 v96) where
  inv k _ := iprop((arg3.view.loc (c : Thread nD τ) ↦[arg3.view.set]{fullShare} harg3.unread x1)
    ∗ (arg4.view.loc (c : Thread nD τ) ↦[arg4.view.set]{fullShare} harg4.unread x2)
    ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))
  step k acc := by
    iintro ⟨H3, H4, ⟨%f6, H6⟩, ⟨%f7, H7⟩, ⟨%f8, H8⟩, ⟨%f9, H9⟩, ⟨%f10, H10⟩, ⟨%f11, H11⟩⟩
    iapply (wp_wand_r Idealize.ShloMosaic.frame (wpE (defs₀ (F := F)) Variants.none (c : Thread nD τ) none) E)
    isplitl [H3 H4 H6 H7 H8 H9 H10 H11]
    · iapply (trip c i arg2 harg2 arg3 harg3 arg4 harg4 arg5 harg5 arg6 harg6 arg7 harg7 arg8 harg8 arg9 harg9 arg10 harg10 arg11 harg11 v3 v81 v82 v96 x1 x2 k E)
      unfold owns
      isplitl [H3]
      · iexists _; isplitr; swap; · iexact H3
        ipureintro; exact harg3.read_unread x1
      isplitl [H4]
      · iexists _; isplitr; swap; · iexact H4
        ipureintro; exact harg4.read_unread x2
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      iexists _, _; isplitr; swap; · iexact H11
      ipureintro; rfl

    · unfold owns
      iintro %_ ⟨⟨%f3, %hf3, H3⟩, ⟨%f4, %hf4, H4⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩⟩
      obtain rfl := harg3.eq_unread hf3; obtain rfl := harg4.eq_unread hf4
      isplitl [H3]; · iexact H3
      isplitl [H4]; · iexact H4
      isplitl [H6]; · iexists _; iexact H6
      isplitl [H7]; · iexists _; iexact H7
      isplitl [H8]; · iexists _; iexact H8
      isplitl [H9]; · iexists _; iexact H9
      isplitl [H10]; · iexists _; iexact H10
      iexists _; iexact H11

set_option maxHeartbeats 4000000 in
/-- The loop over the tiles before the diagonal and the tiles left over: the same. -/
theorem blocks (c : Dev nD) (E : Set ℕ) (i : grid0.Coords)
    (arg2 : Memref sig .tc .vmem S2x1024x256 .bf16) (harg2 : arg2.IsWhole)
    (arg3 : Memref sig .tc .vmem S2x16384x256 .bf16) (harg3 : arg3.IsWhole)
    (arg4 : Memref sig .tc .vmem S2x128x16384 .bf16) (harg4 : arg4.IsWhole)
    (arg5 : Memref sig .tc .vmem S1024x256 .bf16) (harg5 : arg5.IsWhole)
    (arg6 : Memref sig .tc .vmem S2x256x1024 .bf16) (harg6 : arg6.IsWhole)
    (arg7 : Memref sig .tc .vmem S2x512x1024 .f32) (harg7 : arg7.IsWhole)
    (arg8 : Memref sig .tc .vmem S2x512x1024 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x1024 .f32) (harg11 : arg11.IsWhole)
    (v3 : IVec S1x1024 32) (v81 : BitVec 32) (v82 : BitVec 32) (v96 : BitVec 1)
    (x1 : Vec F S2x16384x256 .bf16) (x2 : Vec F S2x128x16384 .bf16) :
    (iprop(owns (c : Thread nD τ) arg3 fullShare x1 ∗ owns (c : Thread nD τ) arg4 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) : sProp 𝕄)
      ⊢ wp frame (wpE (defs₀ (F := F)) Variants.none c none) E
          (k0_part34 (F := F) i arg2 harg2 arg3 harg3 arg4 harg4 arg5 harg5 arg6 harg6 arg7 harg7 arg8 harg8 arg9 harg9 arg10 harg10 arg11 harg11 v3 v81 v82 v96)
          (fun _ => iprop(owns (c : Thread nD τ) arg3 fullShare x1 ∗ owns (c : Thread nD τ) arg4 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d))) := by
  rw [k0_part34_eq_skeleton]
  unfold k0_part34_skel
  unfold owns
  iintro ⟨⟨%f3, %hf3, H3⟩, ⟨%f4, %hf4, H4⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩⟩
  obtain rfl := harg3.eq_unread hf3; obtain rfl := harg4.eq_unread hf4
  by_cases hc : k0_cond1 i = 1#1
  all_goals
    sl_exec (disch := first | sl_exact hc)
    sl_step
    isplitl [H3]
    · iexists _; isplitr; swap; · iexact H3
      ipureintro; exact harg3.read_unread x1
    isplitl [H4]
    · iexists _; isplitr; swap; · iexact H4
      ipureintro; exact harg4.read_unread x2
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

/-- What a grid point does after the blocks before the diagonal. -/
def diagProg (i : grid0.Coords)
    (arg2 : Memref sig .tc .vmem S2x1024x256 .bf16) (harg2 : arg2.IsWhole)
    (arg3 : Memref sig .tc .vmem S2x16384x256 .bf16) (harg3 : arg3.IsWhole)
    (arg4 : Memref sig .tc .vmem S2x128x16384 .bf16) (harg4 : arg4.IsWhole)
    (arg5 : Memref sig .tc .vmem S1024x256 .bf16) (harg5 : arg5.IsWhole)
    (arg6 : Memref sig .tc .vmem S2x256x1024 .bf16) (harg6 : arg6.IsWhole)
    (arg7 : Memref sig .tc .vmem S2x512x1024 .f32) (harg7 : arg7.IsWhole)
    (arg8 : Memref sig .tc .vmem S2x512x1024 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x1024 .f32) (harg11 : arg11.IsWhole)
    (v3 : IVec S1x1024 32) (v109 : BitVec 32) (v111 : FVec F S512x1024 .f32) (v118 : IVec S512x1024 1) (cst_97 : F .f32) :
    Prog (TpuEff nD τ sig (Elt F) Λ₀ .tc) PUnit := do
  let v130 : FVec F S1x1024 .f32 ← k0_part35 i arg2 harg2 arg3 harg3 arg4 harg4 arg5 harg5 arg6 harg6 arg7 harg7 arg8 harg8 arg9 harg9 arg10 harg10 arg11 harg11 v109 v111 v118 cst_97
  let ⟨v177, v183, v189, v190⟩ : Σ' (v177 : FVec F S512x512 .f32) (v183 : FVec F S128x512 .bf16) (v189 : FVec F S1x512 .f32), FVec F S1x512 .f32 ← k0_part36 i arg2 harg2 arg3 harg3 arg4 harg4 arg5 harg5 arg6 harg6 arg7 harg7 arg8 harg8 arg9 harg9 arg10 harg10 arg11 harg11 v3 v109 v130
  k0_part37 i arg2 harg2 arg3 harg3 arg4 harg4 arg5 harg5 arg6 harg6 arg7 harg7 arg8 harg8 arg9 harg9 arg10 harg10 arg11 harg11 v177 v183 v189 v190
  let ⟨v240, v245, v247, v250⟩ : Σ' (v240 : FVec F S128x512 .bf16) (v245 : FVec F S1x1024 .f32) (v247 : FVec F S1x1024 .f32), FVec F S512x1024 .f32 ← k0_part38 i arg2 harg2 arg3 harg3 arg4 harg4 arg5 harg5 arg6 harg6 arg7 harg7 arg8 harg8 arg9 harg9 arg10 harg10 arg11 harg11 v3 v109 v189
  let ⟨v292, v295⟩ : Σ' (v292 : FVec F S512x512 .f32), BitVec 32 ← k0_part39 i arg2 harg2 arg3 harg3 arg4 harg4 arg5 harg5 arg6 harg6 arg7 harg7 arg8 harg8 arg9 harg9 arg10 harg10 arg11 harg11 v3 v109 v240 v245 v247 v250
  let ⟨v304, v329⟩ : Σ' (v304 : FVec F S1x512 .f32), FVec F S128x512 .f32 ← k0_part40 i arg2 harg2 arg3 harg3 arg4 harg4 arg5 harg5 arg6 harg6 arg7 harg7 arg8 harg8 arg9 harg9 arg10 harg10 arg11 harg11 v292 v295
  let v360 : FVec F S1024x128 .bf16 ← k0_part41 i arg2 harg2 arg3 harg3 arg4 harg4 arg5 harg5 arg6 harg6 arg7 harg7 arg8 harg8 arg9 harg9 arg10 harg10 arg11 harg11 v304 v329
  let c0_262 : Index := 0#32
  let c128 : Index := 128#32
  let v361 : Vec F S1024x128 .bf16 ← Prog.lift (.load arg5 (Rect.unit (s := S1024x256) ![0, 128] S1024x128.size inb_S1024x256_S1024x128_0_128).toLoadRect (View.loadsAt_vmem h_S1024x128))
  Prog.lift (.store arg5 (Rect.unit (s := S1024x256) ![0, 128] S1024x128.size inb_S1024x256_S1024x128_0_128) v360 Finset.univ (View.stores_vmem h_S1024x128 (harg5.storeExact_slice rfl _ packedbf16_S1024x256_S1024x128_0_128) (fun _ => rfl)) (.inl rfl))
  pure ⟨⟩

set_option maxHeartbeats 4000000 in
/-- The diagonal's two blocks and the division: the same. -/
theorem diag (c : Dev nD) (E : Set ℕ) (i : grid0.Coords)
    (arg2 : Memref sig .tc .vmem S2x1024x256 .bf16) (harg2 : arg2.IsWhole)
    (arg3 : Memref sig .tc .vmem S2x16384x256 .bf16) (harg3 : arg3.IsWhole)
    (arg4 : Memref sig .tc .vmem S2x128x16384 .bf16) (harg4 : arg4.IsWhole)
    (arg5 : Memref sig .tc .vmem S1024x256 .bf16) (harg5 : arg5.IsWhole)
    (arg6 : Memref sig .tc .vmem S2x256x1024 .bf16) (harg6 : arg6.IsWhole)
    (arg7 : Memref sig .tc .vmem S2x512x1024 .f32) (harg7 : arg7.IsWhole)
    (arg8 : Memref sig .tc .vmem S2x512x1024 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x1024 .f32) (harg11 : arg11.IsWhole)
    (v3 : IVec S1x1024 32) (v109 : BitVec 32) (v111 : FVec F S512x1024 .f32) (v118 : IVec S512x1024 1) (cst_97 : F .f32)
    (x1 : Vec F S2x16384x256 .bf16) (x2 : Vec F S2x128x16384 .bf16) :
    (iprop(owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg9 fullShare d) ∗ (∃ d, owns (c : Thread nD τ) arg10 fullShare d) ∗ (∃ d, owns (c : Thread nD τ) arg11 fullShare d)) : sProp 𝕄)
      ⊢ wp frame (wpE (defs₀ (F := F)) Variants.none c none) E
          (diagProg i arg2 harg2 arg3 harg3 arg4 harg4 arg5 harg5 arg6 harg6 arg7 harg7 arg8 harg8 arg9 harg9 arg10 harg10 arg11 harg11 v3 v109 v111 v118 cst_97)
          (fun _ => iprop(owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg9 fullShare d) ∗ (∃ d, owns (c : Thread nD τ) arg10 fullShare d) ∗ (∃ d, owns (c : Thread nD τ) arg11 fullShare d))) := by
  unfold diagProg
  unfold owns
  iintro ⟨⟨%f3, %hf3, H3⟩, ⟨%f4, %hf4, H4⟩, ⟨%d5, %f5, %hf5, H5⟩, ⟨%d6, %f6, %hf6, H6⟩, ⟨%d7, %f7, %hf7, H7⟩, ⟨%d9, %f9, %hf9, H9⟩, ⟨%d10, %f10, %hf10, H10⟩, ⟨%d11, %f11, %hf11, H11⟩⟩
  obtain rfl := harg3.eq_unread hf3; obtain rfl := harg4.eq_unread hf4
  set_option sl_exec.squeezeSlice true in sl_exec
  sl_step
  isplitl [H3]
  · iexists _; isplitr; swap; · iexact H3
    ipureintro; exact harg3.read_unread x1
  isplitl [H4]
  · iexists _; isplitr; swap; · iexact H4
    ipureintro; exact harg4.read_unread x2
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

set_option maxHeartbeats 4000000 in
/-- The body: it leaves the queries, the keys and the values, and something in the output's block and each scratch buffer. -/
theorem body (c : Dev nD) (E : Set ℕ) (i : grid0.Coords)
    (arg2 : Memref sig .tc .vmem S2x1024x256 .bf16) (harg2 : arg2.IsWhole)
    (arg3 : Memref sig .tc .vmem S2x16384x256 .bf16) (harg3 : arg3.IsWhole)
    (arg4 : Memref sig .tc .vmem S2x128x16384 .bf16) (harg4 : arg4.IsWhole)
    (arg5 : Memref sig .tc .vmem S1024x256 .bf16) (harg5 : arg5.IsWhole)
    (arg6 : Memref sig .tc .vmem S2x256x1024 .bf16) (harg6 : arg6.IsWhole)
    (arg7 : Memref sig .tc .vmem S2x512x1024 .f32) (harg7 : arg7.IsWhole)
    (arg8 : Memref sig .tc .vmem S2x512x1024 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x1024 .f32) (harg11 : arg11.IsWhole)
    (x0 : Vec F S2x1024x256 .bf16) (x1 : Vec F S2x16384x256 .bf16) (x2 : Vec F S2x128x16384 .bf16) :
    (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) : sProp 𝕄)
      ⊢ wp frame (wpE (defs₀ (F := F)) Variants.none c none) E
          (cc0_mla (F := F) i arg2 harg2 arg3 harg3 arg4 harg4 arg5 harg5 arg6 harg6 arg7 harg7 arg8 harg8 arg9 harg9 arg10 harg10 arg11 harg11)
          (fun _ => iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d))) := by
  unfold cc0_mla
  unfold owns
  iintro ⟨⟨%f2, %hf2, H2⟩, ⟨%f3, %hf3, H3⟩, ⟨%f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩⟩
  obtain rfl := harg2.eq_unread hf2; obtain rfl := harg3.eq_unread hf3; obtain rfl := harg4.eq_unread hf4
  set_option sl_exec.maxSteps 36 in sl_exec
  try rw [← k0_part34_eq_skeleton]
  iapply (wp_wand_r Idealize.ShloMosaic.frame (wpE (defs₀ (F := F)) Variants.none (c : Thread nD τ) none) E)
  isplitl [H3 H4 H6 H7 H8 H9 H10 H11]
  · iapply (blocks c E i arg2 harg2 arg3 harg3 arg4 harg4 arg5 harg5 arg6 harg6 arg7 harg7 arg8 harg8 arg9 harg9 arg10 harg10 arg11 harg11 _ _ _ _ x1 x2)
    unfold owns
    isplitl [H3]
    · iexists _; isplitr; swap; · iexact H3
      ipureintro; exact harg3.read_unread x1
    isplitl [H4]
    · iexists _; isplitr; swap; · iexact H4
      ipureintro; exact harg4.read_unread x2
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

  iintro %r ⟨H3, H4, H6, H7, H8, H9, H10, H11⟩
  obtain ⟨r1, r2, r3, r4⟩ := r
  iapply (wp_wand_r Idealize.ShloMosaic.frame (wpE (defs₀ (F := F)) Variants.none (c : Thread nD τ) none) E)
  isplitl [H3 H4 H5 H6 H7 H9 H10 H11]
  · iapply (diag c E i arg2 harg2 arg3 harg3 arg4 harg4 arg5 harg5 arg6 harg6 arg7 harg7 arg8 harg8 arg9 harg9 arg10 harg10 arg11 harg11 _ r1 r2 r3 r4 x1 x2)
    isplitl [H3]; · iexact H3
    isplitl [H4]; · iexact H4
    isplitl [H5]
    · unfold owns; iexists _, _; isplitr; swap; · iexact H5
      ipureintro; rfl
    isplitl [H6]; · iexact H6
    isplitl [H7]; · iexact H7
    isplitl [H9]; · iexact H9
    isplitl [H10]; · iexact H10
    iexact H11
  iintro %u ⟨H3, H4, H5, H6, H7, H9, H10, H11⟩
  unfold owns
  isplitl [H2]
  · iexists _; isplitr; swap; · iexact H2
    ipureintro; exact harg2.read_unread x0
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

variable (m : (ℓ : Loc nD τ sig) → Buf (Elt F) ℓ) (ρ : Dev nD → PrngReg)

/-- What the pipeline's arrays and buffers hold: inputs as found; of the output's block nothing is said below. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => constant S1024x256 .bf16 0x0000#16
  Φ _ := Pipeline.ΦA spec0 c
  q _ := fullShare
  owed _ := 0

/-- The arrays the pipeline starts on. -/
theorem A_eq (c : Dev nD) (w : Fin cfg0.W) : (dats m 0 c).A w = V m c (Pipeline.arrRef spec0 w) := by
  dsimp only [dats]

/-- Window 0 after the body at a grid point: its block, as it was. -/
theorem after0_0 (c : Dev nD) (t : Fin cfg0.N) : (dats m 0 c).after 0 t = iblk m c 0 t := by dsimp only [dats]
/-- Window 1 after the body at a grid point: its block, as it was. -/
theorem after0_1 (c : Dev nD) (t : Fin cfg0.N) : (dats m 0 c).after 1 t = iblk m c 1 t := by dsimp only [dats]
/-- Window 2 after the body at a grid point: its block, as it was. -/
theorem after0_2 (c : Dev nD) (t : Fin cfg0.N) : (dats m 0 c).after 2 t = iblk m c 2 t := by dsimp only [dats]

/-- Window 0 before the body at a grid point: its block of the array. -/
theorem before0_0 (c : Dev nD) (t : Fin cfg0.N) (d) : (dats m 0 c).before 0 t d = iblk m c 0 t :=
  before0_0_of m (dats m 0 c) (A_eq m c 0) (after0_0 m c) t d
/-- Window 1 before the body at a grid point: its block of the array. -/
theorem before0_1 (c : Dev nD) (t : Fin cfg0.N) (d) : (dats m 0 c).before 1 t d = iblk m c 1 t :=
  before0_1_of m (dats m 0 c) (A_eq m c 1) (after0_1 m c) t d
/-- Window 2 before the body at a grid point: its block of the array. -/
theorem before0_2 (c : Dev nD) (t : Fin cfg0.N) (d) : (dats m 0 c).before 2 t d = iblk m c 2 t :=
  before0_2_of m (dats m 0 c) (A_eq m c 2) (after0_2 m c) t d

/-- The windows of which nothing is said: the output's. -/
def free : Fin cfg0.W → Bool := ![false, false, false, true]

/-- What a point is entered with, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ X, owns (c : Thread nD τ) (ms0_3 t) fullShare X))

/-- and what it is left with. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ X, owns (c : Thread nD τ) (ms0_3 t) fullShare X))

set_option maxHeartbeats 1600000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩⟩
  iapply (wp_wand_r Idealize.ShloMosaic.frame (wpE (defs₀ (F := F)) Variants.none (c : Thread nD τ) none) Set.univ)
  isplitl [H0 H1 H2 H3 HS0 HS1 HS2 HS3 HS4 HS5]
  · iapply (body c Set.univ (grid0.coords t) _ (hs0_0 t) _ (hs0_1 t) _ (hs0_2 t) _ (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t))
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    iexact HS5
  iintro %u ⟨H0, H1, H2, H3, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  iexact H3

/-- The body's call at a grid point is the body on that point's buffers. -/
theorem row (t : Fin cfg0.N) :
    defs₀ (F := F) .tc cfg0.body (cfg0.bodyArgs t (cfg0.slots t)) = bodyAt0 t := by
  unfold defs₀; rw [Defs.onTc_tc]

/-- At every grid point the body does what the pipeline's data say. -/
theorem obligation (c : Dev nD) : BodyObligation (dats m 0 c) (defs₀ (F := F)) Variants.none () Set.univ free := fun t => by
  rw [bigSep_W0, bigSep_W0, row]
  exact triple_restated (sound m c t) rfl .rfl fun _ => .rfl

set_option backward.isDefEq.respectTransparency.types false in
/-- Every run ends, with the arguments as they were and all semaphores at zero. -/
theorem frame_p : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_forget (Q' := _) cfgs (dats m) (0 : Fin 1) launch0 defs₀ Variants.none free m ρ main
    (hbody := fun c => (obligation m c).loose) (hshare := fun c => (dats m 0 c).share_full fun _ => rfl)
    (howed := fun _ _ => rfl) (V := V m) (hmain := hmain m Variants.none) (hA := A_eq m) (hΦ := fun _ _ => rfl)
    (hQ' := fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)

end Cert.MlaBits

end
-- ==== Proof.MlaClaims.lean ====
/- The claims about the latent attention: the frames, the preservation and the equality with the reference. -/
module

public import proofs.«01_k».proof.Defs
public import proofs.«01_k».proof.Proof.MlaValue
public import proofs.«01_k».proof.Proof.MlaRef
public import proofs.«01_k».proof.Proof.MlaBits
public import proofs.«01_k».proof.Proof.Gen.Reference.Run
public import proofs.«01_k».proof.Proof.Gen.Pre_finite
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.MlaClaims

/-- The kernel leaves its arguments as they were and every counter at zero. -/
theorem frame_p : Cert.quiescent_Kernel := fun m ρ _ => Cert.MlaBits.frame_p m ρ

/-- The idealized kernel leaves its arguments as they were and every counter at zero. -/
theorem frame_pi : Cert.quiescent_KernelIdeal := fun m ρ _ => Cert.Mla.frame_pi m ρ

/-- The same under the precondition. -/
theorem frame_pi_pre : Cert.quiescent_KernelIdeal_pre_finite := fun m ρ _ => Cert.Mla.frame_pi m ρ

/-- The idealized reference leaves its arguments as they were; it has no counters. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the precondition. -/
theorem frame_ri_pre : Cert.quiescent_ReferenceIdeal_pre_finite := fun m ρ _ => frame_ri m ρ trivial

/-- The reference leaves its arguments as they were; it has no counters. -/
theorem frame_r : Cert.quiescent_Reference := fun m ρ _ =>
  (θ_run Cert.Reference.defs _ _).mono (fun r h => ⟨fun c => (h c).2,
      Idealize.ShloMosaic.sem_eq_zero_of_no_sems (by decide) r.2⟩)
    (Cert.Reference.Value.run (F := Bits) m ρ)

/-- The one rewriting names the mask's constant. -/
theorem preserves : Cert.preserves_Kernel_KernelIdeal :=
  IdealRules.named_const.statement Cert.KernelIdeal.κ "mask" .f32 0xF149F2CA#32 ⊥ rfl

/-- Nothing was rewritten in the reference. -/
theorem preserves_r : Cert.preserves_Reference_ReferenceIdeal := trivial

/-- A number whose absolute value is found smaller than infinity is finite. -/
theorem finite_of_lt (x : EReal) (h : Ideal.cmp .olt (max x (-x)) (Ideal.ofBits .f32 0x7F800000#32) = 1#1) : x ≠ ⊤ ∧ x ≠ ⊥ := by
  rw [show Ideal.ofBits FTy.f32 0x7F800000#32 = ⊤ from by simp [Ideal.ofBits, Ideal.ieee]] at h
  constructor <;> rintro rfl <;> simp [Ideal.cmp] at h

/-- Where the precondition holds the queries and the keys are finite. -/
theorem fin_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : Cert.Mla.FinArgs m c := by
  obtain ⟨h0, h1, h2, h3⟩ := h c
  refine ⟨fun i => finite_of_lt _ ?_, fun i => finite_of_lt _ ?_, fun i => finite_of_lt _ ?_, fun i => finite_of_lt _ ?_⟩
  · exact congrFun h0 i
  · exact congrFun h1 i
  · exact congrFun h2 i
  · exact congrFun h3 i

/-- Over the extended reals the kernel's result is the reference's, for finite queries and keys. -/
theorem algebraic : Cert.algebraic_KernelIdeal_ReferenceIdeal_pre_finite := by
  intro m ρ m' ρ' hpre hagree
  refine ⟨fun c => Cert.Mla.resOf m c, ?_, ?_⟩
  · refine (θ_run Cert.KernelIdeal.defs _ _).mono (fun r h c => ⟨((h.1.1 c).1 3).trans (Cert.Mla.final m c (fin_of_pre m hpre c)), h.2.1 c⟩)
      (θ_run_and (Cert.Mla.run m ρ) (Cert.Mla.frame_pi m ρ))
  · refine (θ_run Cert.ReferenceIdeal.defs _ _).mono (fun _ h c => ⟨(h c).1.trans ?_, (h c).2⟩) (Cert.ReferenceIdeal.Value.run (F := Ideal) m' ρ')
    obtain ⟨h0, h1, h2, h3, h4⟩ := hagree c
    have hf := fin_of_pre m hpre c
    refine (Cert.Mla.ref_eq m' c ?_).trans ?_
    · rw [h0, h1, h2, h3]; exact hf
    · rw [h0, h1, h2, h3, h4]

end Cert.Proof.MlaClaims

end
-- ==== Proof.LayerNorm.lean ====
/- The layer norm of one row of 2048 extended reals, as the reference and both kernels compute it: the mean is the
   row's sum over 2048, the variance the mean of the squared differences, and the result is the difference times the
   reciprocal root of the variance plus epsilon, times the gain, plus the bias. -/
module

public import Idealize.ShloMosaic.Lib.Pointwise

@[expose] public section

noncomputable section

namespace Cert.LayerNorm

open Idealize.ShloMosaic

/-- The mean of a row: its sum divided by the constant 2048. -/
def mean (f : Fin 2048 → EReal) : EReal := Ideal.div (∑ k, f k) (Ideal.ofBits .f32 0x45000000#32)

/-- The variance of a row: the mean of the squared differences to its mean. -/
def var (f : Fin 2048 → EReal) : EReal := mean fun k => (f k - mean f) * (f k - mean f)

/-- Entry `j` of the layer norm of the row `f` with gain `g` and bias `b`. -/
def row (f : Fin 2048 → EReal) (g b : EReal) (j : Fin 2048) : EReal :=
  (f j - mean f) * Ideal.rsqrt (var f + Ideal.ofBits .f32 0x3727C5AC#32) * g + b

end Cert.LayerNorm

end
-- ==== Proof.OutLn.lean ====
/- The output projection with its norm: the array the kernel leaves is the reference's, index by index. -/
module

public import proofs.«01_k».proof.Proof.LayerNorm
public import proofs.«01_k».proof.Proof.Gen.Kernel3Ideal.Value
public import proofs.«01_k».proof.Proof.Gen.Reference3Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutLn

/-- Entry `k` of row `r` before the norm: the scaled residual plus the two halves of the product with the weights. -/
def pre (om on : FVec Ideal Cert.Kernel3Ideal.S1x16384x1024 .f32) (w : FVec Ideal Cert.Kernel3Ideal.S1x2048x2048 .f32)
    (x : FVec Ideal Cert.Kernel3Ideal.S1x16384x2048 .f32) (r : Fin 16384) (k : Fin 2048) : EReal :=
  Ideal.ofBits .f32 0x3F9837F0#32 * x (ix3 0 r k)
    + ((∑ l : Fin 1024, om (ix3 0 r l) * w (ix3 0 ⟨l.val, by omega⟩ k))
      + ∑ l : Fin 1024, on (ix3 0 r l) * w (ix3 0 ⟨1024 + l.val, by omega⟩ k))

/-- The whole result: the layer norm of each row of `pre`. -/
def res (om on : FVec Ideal Cert.Kernel3Ideal.S1x16384x1024 .f32) (w : FVec Ideal Cert.Kernel3Ideal.S1x2048x2048 .f32)
    (x : FVec Ideal Cert.Kernel3Ideal.S1x16384x2048 .f32) (g b : FVec Ideal Cert.Kernel3Ideal.S1x2048 .f32) :
    FVec Ideal Cert.Kernel3Ideal.S16384x2048 .f32 := fun i =>
  Cert.LayerNorm.row (pre om on w x (i 0)) (g (ix2 0 (i 1))) (b (ix2 0 (i 1))) (i 1)

section Kernel

open Cert.Kernel3Ideal Cert.Kernel3Ideal.Gen

/-- The entry before the norm, from the blocks one grid point reads. -/
def blockPre (P0 : FVec Ideal S512x1024 .bf16) (P1 : FVec Ideal S1024x2048 .bf16) (P2 : FVec Ideal S512x1024 .bf16)
    (P3 : FVec Ideal S1024x2048 .bf16) (P4 : FVec Ideal S512x2048 .f32) (r : Fin 512) (k : Fin 2048) : EReal :=
  Ideal.ofBits .f32 0x3F9837F0#32 * P4 (ix2 r k)
    + ((∑ l : Fin 1024, P0 (ix2 r l) * P1 (ix2 l k)) + ∑ l : Fin 1024, P2 (ix2 r l) * P3 (ix2 l k))

/-- The vector operations of the norm before gain and bias, over any block. -/
def normVec (X : FVec Ideal S512x2048 .f32) : FVec Ideal S512x2048 .f32 :=
  mulf (subf X (broadcastTo S512x2048 (divf (shapeCast S512x1 (multiReduction .add [1] S512 X 0x00000000#32 reduces_S512x2048_S512 (.inl rfl) rfl) shapeCasts_S512_S512x1) (broadcast S512x1 (Scalar.ofBits .f32 0x45000000#32))) broadcasts_S512x1_S512x2048))
    (broadcastTo S512x2048 (rsqrt (addf (divf (shapeCast S512x1 (multiReduction .add [1] S512
      (mulf (subf X (broadcastTo S512x2048 (divf (shapeCast S512x1 (multiReduction .add [1] S512 X 0x00000000#32 reduces_S512x2048_S512 (.inl rfl) rfl) shapeCasts_S512_S512x1) (broadcast S512x1 (Scalar.ofBits .f32 0x45000000#32))) broadcasts_S512x1_S512x2048))
        (subf X (broadcastTo S512x2048 (divf (shapeCast S512x1 (multiReduction .add [1] S512 X 0x00000000#32 reduces_S512x2048_S512 (.inl rfl) rfl) shapeCasts_S512_S512x1) (broadcast S512x1 (Scalar.ofBits .f32 0x45000000#32))) broadcasts_S512x1_S512x2048)))
      0x00000000#32 reduces_S512x2048_S512 (.inl rfl) rfl) shapeCasts_S512_S512x1) (broadcast S512x1 (Scalar.ofBits .f32 0x45000000#32))) (broadcast S512x1 (Scalar.ofBits .f32 0x3727C5AC#32)))) broadcasts_S512x1_S512x2048)

/-- The norm's vector operations, read at a row and a column. -/
theorem normVec_at (X : FVec Ideal S512x2048 .f32) (r : Fin 512) (k : Fin 2048) :
    normVec X (ix2 r k) = (X (ix2 r k) - LayerNorm.mean fun l => X (ix2 r l))
        * Ideal.rsqrt (LayerNorm.var (fun l => X (ix2 r l)) + Ideal.ofBits .f32 0x3727C5AC#32) := by
  pointwise [normVec, LayerNorm.mean, LayerNorm.var]

/-- The block before the norm, as vector operations. -/
def preVec (P0 : FVec Ideal S512x1024 .bf16) (P1 : FVec Ideal S1024x2048 .bf16) (P2 : FVec Ideal S512x1024 .bf16)
    (P3 : FVec Ideal S1024x2048 .bf16) (P4 : FVec Ideal S512x2048 .f32) : FVec Ideal S512x2048 .f32 :=
  addf (mulf (broadcast S512x2048 (Scalar.ofBits .f32 0x3F9837F0#32)) (shapeCast S512x2048 P4 shapeCasts_S512x2048_S512x2048))
    (addf (matmul dot_S512x1024_S1024x2048_S512x2048_1_0_0_1_n_n none (shapeCast S512x1024 P0 shapeCasts_S512x1024_S512x1024) (shapeCast S1024x2048 P1 shapeCasts_S1024x2048_S1024x2048) (constant S512x2048 .f32 0x00000000#32))
      (matmul dot_S512x1024_S1024x2048_S512x2048_1_0_0_1_n_n none (shapeCast S512x1024 P2 shapeCasts_S512x1024_S512x1024) (shapeCast S1024x2048 P3 shapeCasts_S1024x2048_S1024x2048) (constant S512x2048 .f32 0x00000000#32)))

/-- The block before the norm, read at a row and a column. -/
theorem preVec_at (P0 : FVec Ideal S512x1024 .bf16) (P1 : FVec Ideal S1024x2048 .bf16) (P2 : FVec Ideal S512x1024 .bf16)
    (P3 : FVec Ideal S1024x2048 .bf16) (P4 : FVec Ideal S512x2048 .f32) (r : Fin 512) (k : Fin 2048) :
    preVec P0 P1 P2 P3 P4 (ix2 r k) = blockPre P0 P1 P2 P3 P4 r k := by
  pointwise [preVec, blockPre]

/-- The normed block before gain and bias, at a row and a column. -/
theorem pay3_at (P0 : FVec Ideal S512x1024 .bf16) (P1 : FVec Ideal S1024x2048 .bf16) (P2 : FVec Ideal S512x1024 .bf16)
    (P3 : FVec Ideal S1024x2048 .bf16) (P4 : FVec Ideal S512x2048 .f32) (r : Fin 512) (k : Fin 2048) :
    k0_pay3 (F := Ideal) P0 P1 P2 P3 P4 (ix2 r k)
      = (blockPre P0 P1 P2 P3 P4 r k - LayerNorm.mean (blockPre P0 P1 P2 P3 P4 r))
        * Ideal.rsqrt (LayerNorm.var (blockPre P0 P1 P2 P3 P4 r) + Ideal.ofBits .f32 0x3727C5AC#32) := by
  rw [show k0_pay3 (F := Ideal) P0 P1 P2 P3 P4 = normVec (preVec P0 P1 P2 P3 P4) from by simp only [k0_pay3, normVec, preVec], normVec_at]
  simp only [preVec_at]

variable (m : (ℓ : Loc nD τ sig) → Buf (Elt Ideal) ℓ)

/-- Where each window's block lies at grid point `t`. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0]
    ∧ win0_7.index t = ![t.val, 0] :=
  (by decide +kernel : ∀ t : Fin grid0.N, _)

/-- What grid point `t` leaves at a block index is `res` at the array index it is written to. -/
theorem point (c : Dev nD) (t : Fin cfg0.N) (r : Fin 512) (k : Fin 2048) (R : Fin 16384) (hR : R.val = t.val * 512 + r.val) :
    (blockPre (iblk m c 0 t) (iblk m c 2 t) (iblk m c 1 t) (iblk m c 3 t) (iblk m c 4 t) r k)
    = pre (m ((c.tc : Thread nD τ).loc main_arg0)) (m ((c.tc : Thread nD τ).loc main_arg1)) (m ((c.tc : Thread nD τ).loc main_arg2))
        (m ((c.tc : Thread nD τ).loc main_arg3)) R k := by
  unfold blockPre pre
  blk_point [iblk, idx t]

/-- What the body stores, read at a row and a column of the block. -/
theorem pay_at (P0 : FVec Ideal S512x1024 .bf16) (P1 : FVec Ideal S1024x2048 .bf16) (P2 : FVec Ideal S512x1024 .bf16)
    (P3 : FVec Ideal S1024x2048 .bf16) (P4 : FVec Ideal S512x2048 .f32) (P5 P6 : FVec Ideal S1x2048 .f32) (r : Fin 512) (k : Fin 2048) :
    k0_pay1 (F := Ideal) (k0_pay2 P6) (k0_pay3 P0 P1 P2 P3 P4) (k0_pay4 P5) (ix2 r k)
      = LayerNorm.row (blockPre P0 P1 P2 P3 P4 r) (P5 (ix2 0 k)) (P6 (ix2 0 k)) k := by
  pointwise [k0_pay1, k0_pay2, k0_pay4, LayerNorm.row]
  rw [pay3_at]

/-- The gain's block at every grid point is the gain. -/
theorem gain_at (c : Dev nD) (t : Fin cfg0.N) (k k' : Fin 2048) (h : k.val = k'.val) :
    (show FVec Ideal S1x2048 .f32 from iblk m c 5 t) (ix2 0 k)
      = (show FVec Ideal S1x2048 .f32 from m ((c.tc : Thread nD τ).loc main_arg4)) (ix2 0 k') := by
  blk_point [iblk, idx t]

/-- The bias' block at every grid point is the bias. -/
theorem bias_at (c : Dev nD) (t : Fin cfg0.N) (k k' : Fin 2048) (h : k.val = k'.val) :
    (show FVec Ideal S1x2048 .f32 from iblk m c 6 t) (ix2 0 k)
      = (show FVec Ideal S1x2048 .f32 from m ((c.tc : Thread nD τ).loc main_arg5)) (ix2 0 k') := by
  blk_point [iblk, idx t]

/-- What grid point `t` stores at a block index is `res` at the array index it is written to. -/
theorem pay_res (c : Dev nD) (t : Fin cfg0.N) (r : Fin 512) (k : Fin 2048) (i : S16384x2048.Idx)
    (h0 : (i 0 : ℕ) = t.val * 512 + r.val) (h1 : (i 1 : ℕ) = k.val) :
    k0_pay1 (F := Ideal) (k0_pay2 (iblk m c 6 t)) (k0_pay3 (iblk m c 0 t) (iblk m c 2 t) (iblk m c 1 t) (iblk m c 3 t) (iblk m c 4 t))
      (k0_pay4 (iblk m c 5 t)) (ix2 r k)
    = res (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) i := by
  have hk : i 1 = k := Fin.ext h1
  refine (pay_at _ _ _ _ _ _ _ r k).trans ?_
  unfold res
  rw [show blockPre (iblk m c 0 t) (iblk m c 2 t) (iblk m c 1 t) (iblk m c 3 t) (iblk m c 4 t) r = _ from
    funext fun l => point m c t r l (i 0) h0]
  rw [hk]
  exact congrArg₂ (fun a b => LayerNorm.row _ a b k) (gain_at m c t k k rfl) (bias_at m c t k k rfl)

/-- The array after the run is `res` of the arguments. -/
theorem final (c : Dev nD) : (dats m 0 c).arrAt 7 (cfgs 0).N
    = res (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (dats m 0 c).arrAt_eq_of_covers 7 _ (by decide +kernel) fun t _ y => ?_
  blk_simp
  rw [after0_7]
  frame_out
  rw [eq_ix2 y]
  refine pay_res m c t (y 0) (y 1) _ ?_ ?_
  · blk_simp [idx t]
  · blk_simp [idx t]

end Kernel

section Reference

open Cert.Reference3Ideal Cert.Reference3Ideal.Gen Cert.Reference3Ideal.Value

/-- The reference's norm with gain and bias, over any array, reshaped to the result's shape. -/
def refNorm (X : FVec Ideal S1x16384x2048 .f32) (g b : FVec Ideal S1x2048 .f32) : FVec Ideal S16384x2048 .f32 :=
  shapeCast S16384x2048 (addf (mulf (mulf (subf X (broadcastInDim S1x16384x2048 ![0, 1, 2] bcast_S1x16384x1_S1x16384x2048_0_1_2 (Host.divf (broadcastInDim S1x16384x1 ![0, 1] bcast_S1x16384_S1x16384x1_0_1 (Host.reduceAdd X (constant S_ .f32 0x00000000#32) reducesTo_S1x16384x2048_S1x16384_d2 h_S_)) (broadcastInDim S1x16384x1 ![] bcast_S_S1x16384x1 (constant S_ .f32 0x45000000#32))))) (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf (subf X (broadcastInDim S1x16384x2048 ![0, 1, 2] bcast_S1x16384x1_S1x16384x2048_0_1_2 (Host.divf (broadcastInDim S1x16384x1 ![0, 1] bcast_S1x16384_S1x16384x1_0_1 (Host.reduceAdd X (constant S_ .f32 0x00000000#32) reducesTo_S1x16384x2048_S1x16384_d2 h_S_)) (broadcastInDim S1x16384x1 ![] bcast_S_S1x16384x1 (constant S_ .f32 0x45000000#32))))) (subf X (broadcastInDim S1x16384x2048 ![0, 1, 2] bcast_S1x16384x1_S1x16384x2048_0_1_2 (Host.divf (broadcastInDim S1x16384x1 ![0, 1] bcast_S1x16384_S1x16384x1_0_1 (Host.reduceAdd X (constant S_ .f32 0x00000000#32) reducesTo_S1x16384x2048_S1x16384_d2 h_S_)) (broadcastInDim S1x16384x1 ![] bcast_S_S1x16384x1 (constant S_ .f32 0x45000000#32)))))) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x3727C5AC#32)))))) (broadcastInDim S1x16384x2048 ![0, 1, 2] bcast_S1x1x2048_S1x16384x2048_0_1_2 (broadcastInDim S1x1x2048 ![2] bcast_S2048_S1x1x2048_2 (shapeCast S2048 g shapeCasts_S1x2048_S2048)))) (broadcastInDim S1x16384x2048 ![0, 1, 2] bcast_S1x1x2048_S1x16384x2048_0_1_2 (broadcastInDim S1x1x2048 ![2] bcast_S2048_S1x1x2048_2 (shapeCast S2048 b shapeCasts_S1x2048_S2048)))) shapeCasts_S1x16384x2048_S16384x2048

/-- The reference's array before the norm. -/
def refPre (om on : FVec Ideal S1x16384x1024 .f32) (w : FVec Ideal S1x2048x2048 .f32) (x : FVec Ideal S1x16384x2048 .f32) :
    FVec Ideal S1x16384x2048 .f32 :=
  addf (mulf (broadcastInDim S1x16384x2048 ![] bcast_S_S1x16384x2048 (constant S_ .f32 0x3F9837F0#32)) x) (Host.dotGeneral dot_S1x16384x2048_S2048x2048_S1x16384x2048_2_0_01_1_n_n none (concatenate S1x16384x2048 2 [⟨S1x16384x1024, om⟩, ⟨S1x16384x1024, on⟩] concatenates_S1x16384x1024_S1x16384x1024_S1x16384x2048_d2) (shapeCast S2048x2048 w shapeCasts_S1x2048x2048_S2048x2048))

/-- The reference's norm, read at a row and a column. -/
theorem refNorm_at (X : FVec Ideal S1x16384x2048 .f32) (g b : FVec Ideal S1x2048 .f32) (r : Fin 16384) (k : Fin 2048) :
    refNorm X g b (ix2 r k) = LayerNorm.row (fun l => X (ix3 0 r l)) (g (ix2 0 k)) (b (ix2 0 k)) k := by
  pointwise [refNorm, LayerNorm.row, LayerNorm.mean, LayerNorm.var]

/-- The reference's array before the norm, read at a row and a column. -/
theorem refPre_at (om on : FVec Ideal S1x16384x1024 .f32) (w : FVec Ideal S1x2048x2048 .f32)
    (x : FVec Ideal S1x16384x2048 .f32) (r : Fin 16384) (k : Fin 2048) :
    refPre om on w x (ix3 0 r k) = pre om on w x r k := by
  pointwise [refPre, pre]

variable (m : (ℓ : Loc nD τ sig) → Buf (Elt Ideal) ℓ)

/-- The reference's composed term is `res` of its arguments. -/
theorem ref_eq (c : Dev nD) : res_main_v32 m c
    = res (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine Eq.trans (b := refNorm (refPre (m ((c.tc : Thread nD τ).loc main_arg0)) (m ((c.tc : Thread nD τ).loc main_arg1)) (m ((c.tc : Thread nD τ).loc main_arg2))
        (m ((c.tc : Thread nD τ).loc main_arg3))) (m ((c.tc : Thread nD τ).loc main_arg4)) (m ((c.tc : Thread nD τ).loc main_arg5))) ?_ ?_
  · unfold res_main_v32 refNorm refPre
    rfl
  · funext i
    obtain ⟨r, k, rfl⟩ : ∃ (r : Fin 16384) (k : Fin 2048), i = ix2 r k := ⟨i 0, i 1, eq_ix2 i⟩
    refine (refNorm_at _ _ _ r k).trans ?_
    simp only [refPre_at]
    rfl

end Reference

end Cert.OutLn

end
-- ==== Proof.OutLnClaims.lean ====
/- The claims about the output projection with its norm: the frames, the preservation and the equality with the reference. -/
module

public import proofs.«01_k».proof.Defs
public import proofs.«01_k».proof.Proof.OutLn
public import proofs.«01_k».proof.Proof.Gen.Kernel3.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.OutLnClaims

/-- The kernel leaves its arguments as they were and every counter at zero. -/
theorem frame_p : Cert.quiescent_Kernel3 := fun m ρ _ => Cert.Kernel3.Gen.frame m ρ

/-- The idealized kernel leaves its arguments as they were and every counter at zero. -/
theorem frame_pi : Cert.quiescent_Kernel3Ideal := fun m ρ _ => Cert.Kernel3Ideal.Gen.frame m ρ

/-- The reference leaves its arguments as they were; it has no counters. -/
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Nothing was rewritten. -/
theorem preserves : Cert.preserves_Kernel3_Kernel3Ideal := trivial

/-- Over the extended reals the kernel's result is the reference's. -/
theorem algebraic : Cert.algebraic_Kernel3Ideal_Reference3Ideal := by
  intro m ρ m' ρ' _ hagree
  refine ⟨fun c => (Cert.Kernel3Ideal.Gen.dats m 0 c).arrAt 7 Cert.Kernel3Ideal.cfg0.N,
    Cert.Kernel3Ideal.Value.run_blocks (F := Ideal) m ρ, ?_⟩
  refine (θ_run Cert.Reference3Ideal.defs _ _).mono (fun _ h c => ?_) (Cert.Reference3Ideal.Value.run (F := Ideal) m' ρ')
  refine ⟨(h c).1.trans ?_, (h c).2⟩
  obtain ⟨h0, h1, h2, h3, h4, h5⟩ := hagree c
  refine ((Cert.OutLn.ref_eq m' c).trans ?_).trans (Cert.OutLn.final m c).symm
  rw [h0, h1, h2, h3, h4, h5]

end Cert.Proof.OutLnClaims

end
-- ==== Proof.Ffn.lean ====
/- The feed-forward with its norm: the array the kernel leaves is the reference's, index by index. -/
module

public import proofs.«01_k».proof.Proof.LayerNorm
public import proofs.«01_k».proof.Proof.Gen.Kernel2Ideal.Value
public import proofs.«01_k».proof.Proof.Gen.Reference2Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ffn

/-- Hidden unit `f` of row `r`: the gate times its logistic, times the up projection. -/
def hid (x : FVec Ideal Cert.Kernel2Ideal.S1x16384x2048 .f32) (wg wu : FVec Ideal Cert.Kernel2Ideal.S1x2048x5632 .f32)
    (r : Fin 16384) (f : Fin 5632) : EReal :=
  (∑ k : Fin 2048, x (ix3 0 r k) * wg (ix3 0 k f)) * Ideal.logistic (∑ k : Fin 2048, x (ix3 0 r k) * wg (ix3 0 k f))
    * ∑ k : Fin 2048, x (ix3 0 r k) * wu (ix3 0 k f)

/-- Entry `k` of row `r` before the norm: the scaled residual plus half the feed-forward's result. -/
def pre (x : FVec Ideal Cert.Kernel2Ideal.S1x16384x2048 .f32) (wg wu : FVec Ideal Cert.Kernel2Ideal.S1x2048x5632 .f32)
    (wd : FVec Ideal Cert.Kernel2Ideal.S1x5632x2048 .f32) (r : Fin 16384) (k : Fin 2048) : EReal :=
  Ideal.ofBits .f32 0x3F9837F0#32 * x (ix3 0 r k)
    + Ideal.ofBits .f32 0x3F000000#32 * ∑ f : Fin 5632, hid x wg wu r f * wd (ix3 0 f k)

/-- The whole result: the layer norm of each row of `pre`. -/
def res (x : FVec Ideal Cert.Kernel2Ideal.S1x16384x2048 .f32) (wg wu : FVec Ideal Cert.Kernel2Ideal.S1x2048x5632 .f32)
    (wd : FVec Ideal Cert.Kernel2Ideal.S1x5632x2048 .f32) (g b : FVec Ideal Cert.Kernel2Ideal.S1x2048 .f32) :
    FVec Ideal Cert.Kernel2Ideal.S16384x2048 .f32 := fun i =>
  Cert.LayerNorm.row (pre x wg wu wd (i 0)) (g (ix2 0 (i 1))) (b (ix2 0 (i 1))) (i 1)

section Kernel

open Cert.Kernel2Ideal Cert.Kernel2Ideal.Gen

/-- The vector operations of the norm before gain and bias, over any block. -/
def normVec (X : FVec Ideal S512x2048 .f32) : FVec Ideal S512x2048 .f32 :=
  mulf (subf X (broadcastTo S512x2048 (divf (shapeCast S512x1 (multiReduction .add [1] S512 X 0x00000000#32 reduces_S512x2048_S512 (.inl rfl) rfl) shapeCasts_S512_S512x1) (broadcast S512x1 (Scalar.ofBits .f32 0x45000000#32))) broadcasts_S512x1_S512x2048))
    (broadcastTo S512x2048 (rsqrt (addf (divf (shapeCast S512x1 (multiReduction .add [1] S512
      (mulf (subf X (broadcastTo S512x2048 (divf (shapeCast S512x1 (multiReduction .add [1] S512 X 0x00000000#32 reduces_S512x2048_S512 (.inl rfl) rfl) shapeCasts_S512_S512x1) (broadcast S512x1 (Scalar.ofBits .f32 0x45000000#32))) broadcasts_S512x1_S512x2048))
        (subf X (broadcastTo S512x2048 (divf (shapeCast S512x1 (multiReduction .add [1] S512 X 0x00000000#32 reduces_S512x2048_S512 (.inl rfl) rfl) shapeCasts_S512_S512x1) (broadcast S512x1 (Scalar.ofBits .f32 0x45000000#32))) broadcasts_S512x1_S512x2048)))
      0x00000000#32 reduces_S512x2048_S512 (.inl rfl) rfl) shapeCasts_S512_S512x1) (broadcast S512x1 (Scalar.ofBits .f32 0x45000000#32))) (broadcast S512x1 (Scalar.ofBits .f32 0x3727C5AC#32)))) broadcasts_S512x1_S512x2048)

/-- The norm's vector operations, read at a row and a column. -/
theorem normVec_at (X : FVec Ideal S512x2048 .f32) (r : Fin 512) (k : Fin 2048) :
    normVec X (ix2 r k) = (X (ix2 r k) - LayerNorm.mean fun l => X (ix2 r l))
        * Ideal.rsqrt (LayerNorm.var (fun l => X (ix2 r l)) + Ideal.ofBits .f32 0x3727C5AC#32) := by
  pointwise [normVec, LayerNorm.mean, LayerNorm.var]

/-- Hidden unit `f` of row `r` of one block of hidden units, from the blocks one grid point reads. -/
def blockHid (xb : FVec Ideal S512x2048 .bf16) (wg wu : FVec Ideal S2048x512 .bf16) (r : Fin 512) (f : Fin 512) : EReal :=
  (∑ k : Fin 2048, xb (ix2 r k) * wg (ix2 k f)) * Ideal.logistic (∑ k : Fin 2048, xb (ix2 r k) * wg (ix2 k f))
    * ∑ k : Fin 2048, xb (ix2 r k) * wu (ix2 k f)

/-- The accumulating step adds the block of hidden units times its rows of the down projection. -/
theorem pay3_at (xb : FVec Ideal S512x2048 .bf16) (wg wu : FVec Ideal S2048x512 .bf16) (acc : FVec Ideal S512x2048 .f32)
    (wd : FVec Ideal S512x2048 .bf16) (r : Fin 512) (k : Fin 2048) :
    k0_pay3 (F := Ideal) xb wg wu acc wd (ix2 r k) = acc (ix2 r k) + ∑ f : Fin 512, blockHid xb wg wu r f * wd (ix2 f k) := by
  pointwise [k0_pay3, blockHid]

/-- The cast of the input block is the input block. -/
theorem pay1_eq (x : FVec Ideal S512x2048 .f32) : k0_pay1 (F := Ideal) x = x := by
  funext j
  pointwise [k0_pay1]

/-- The reset stores zeros. -/
theorem pay2_at (j : S512x2048.Idx) : k0_pay2 (F := Ideal) j = 0 := by
  pointwise [k0_pay2]

/-- The block before the norm, as vector operations. -/
def preVec (x acc : FVec Ideal S512x2048 .f32) : FVec Ideal S512x2048 .f32 :=
  addf (mulf (broadcast S512x2048 (Scalar.ofBits .f32 0x3F9837F0#32)) (shapeCast S512x2048 x shapeCasts_S512x2048_S512x2048))
    (mulf (broadcast S512x2048 (Scalar.ofBits .f32 0x3F000000#32)) acc)

/-- What the last step of a run stores, read at a row and a column. -/
theorem pay4_at (x acc : FVec Ideal S512x2048 .f32) (g b : FVec Ideal S1x2048 .f32) (r : Fin 512) (k : Fin 2048) :
    k0_pay4 (F := Ideal) x acc g b (ix2 r k)
      = LayerNorm.row (fun l => Ideal.ofBits .f32 0x3F9837F0#32 * x (ix2 r l) + Ideal.ofBits .f32 0x3F000000#32 * acc (ix2 r l))
          (g (ix2 0 k)) (b (ix2 0 k)) k := by
  have h : k0_pay4 (F := Ideal) x acc g b = addf (mulf (normVec (preVec x acc))
      (broadcastTo S512x2048 (shapeCast S1x2048 g shapeCasts_S1x2048_S1x2048) broadcasts_S1x2048_S512x2048))
      (broadcastTo S512x2048 (shapeCast S1x2048 b shapeCasts_S1x2048_S1x2048) broadcasts_S1x2048_S512x2048) := by
    simp only [k0_pay4, normVec, preVec]
  have hp : ∀ l : Fin 2048, preVec x acc (ix2 r l)
      = Ideal.ofBits .f32 0x3F9837F0#32 * x (ix2 r l) + Ideal.ofBits .f32 0x3F000000#32 * acc (ix2 r l) := fun l => by
    pointwise [preVec]
  rw [h]
  pointwise [LayerNorm.row]
  rw [normVec_at]
  simp only [hp]

variable (m : (ℓ : Loc nD τ sig) → Buf (Elt Ideal) ℓ)

/-- Where each window's block lies at grid point `t`. -/
theorem idx : ∀ t : Fin cfg0.N, win0_0.index t = ![t.val / 11, 0] ∧ win0_1.index t = ![0, t.val % 11]
    ∧ win0_2.index t = ![0, t.val % 11] ∧ win0_3.index t = ![t.val % 11, 0] ∧ win0_4.index t = ![0, 0]
    ∧ win0_5.index t = ![0, 0] ∧ win0_6.index t = ![t.val / 11, 0] :=
  (by decide +kernel : ∀ t : Fin grid0.N, _)

/-- Within a run over the hidden blocks the input block stays the same. -/
theorem xblk_prev (c : Dev nD) (t : Fin cfg0.N) (h0 : ¬t.val % 11 = 0) (ht : t.val - 1 < cfg0.N) :
    (show FVec Ideal S512x2048 .f32 from iblk m c 0 ⟨t.val - 1, ht⟩) = (show FVec Ideal S512x2048 .f32 from iblk m c 0 t) := by
  have hd : (t.val - 1) / 11 = t.val / 11 := by omega
  funext j
  blk_ext [iblk, V, idx t, idx ⟨t.val - 1, ht⟩]

/-- The first scratch holds the input block after every grid point. -/
theorem xb_eq (c : Dev nD) : ∀ (n : ℕ) (h : n < cfg0.N),
    (outsAt0 m c n h).2.1 = (show FVec Ideal S512x2048 .f32 from iblk m c 0 ⟨n, h⟩)
  | 0, h => by
    rw [outsAt0_A m c ⟨0, h⟩ rfl (by dsimp only; omega)]
    frame_out
    exact pay1_eq _
  | n + 1, h => by
    by_cases h0 : (n + 1) % 11 = 0
    · rw [outsAt0_A m c ⟨n + 1, h⟩ h0 (by dsimp only; omega)]
      frame_out
      exact pay1_eq _
    · refine Eq.trans ?_ ((xb_eq c n (Nat.lt_of_succ_lt h)).trans (xblk_prev m c ⟨n + 1, h⟩ h0 (Nat.lt_of_succ_lt h)))
      by_cases h1 : (n + 1) % 11 = 10
      · rw [outsAt0_C m c ⟨n + 1, h⟩ h0 h1]
        rfl
      · rw [outsAt0_B m c ⟨n + 1, h⟩ h0 h1]
        rfl

/-- What the second scratch gains at grid point `t`. -/
def gain (c : Dev nD) (t : Fin cfg0.N) (j : S512x2048.Idx) : EReal :=
  ∑ f : Fin 512, blockHid (iblk m c 0 t) (iblk m c 1 t) (iblk m c 2 t) (j 0) f
    * (show FVec Ideal S512x2048 .bf16 from iblk m c 3 t) (ix2 f (j 1))

/-- The first point of a run leaves its own gain. -/
theorem acc_reset (c : Dev nD) (t : Fin cfg0.N) (h0 : t.val % 11 = 0) (j : S512x2048.Idx) :
    (outsAt0 m c t.val t.isLt).2.2 j = (0 : EReal) + gain m c t j := by
  rw [outsAt0_A m c t h0 (by omega)]
  frame_out
  rw [pay1_eq, eq_ix2 j]
  refine (pay3_at _ _ _ _ _ (j 0) (j 1)).trans ?_
  rw [pay2_at]
  rfl

/-- The last point of a run: the accumulator's step. -/
theorem acc_C (c : Dev nD) (t : Fin cfg0.N) (h0 : ¬t.val % 11 = 0) (h1 : t.val % 11 = 10) :
    (outsAt0 m c t.val t.isLt).2.2 = k0_pay3 (F := Ideal) (outsAt0 m c (t.val - 1) (Nat.lt_of_le_of_lt (Nat.sub_le _ _) t.isLt)).2.1
      (iblk m c 1 t) (iblk m c 2 t) (outsAt0 m c (t.val - 1) (Nat.lt_of_le_of_lt (Nat.sub_le _ _) t.isLt)).2.2 (iblk m c 3 t) := by
  rw [outsAt0_C m c t h0 h1]
  frame_out
  rw [Memref.IsWhole.read_unread (Memref.isWhole_whole _), Memref.IsWhole.read_unread (Memref.isWhole_whole _)]

/-- The other points of a run: the accumulator's step. -/
theorem acc_B (c : Dev nD) (t : Fin cfg0.N) (h0 : ¬t.val % 11 = 0) (h1 : ¬t.val % 11 = 10) :
    (outsAt0 m c t.val t.isLt).2.2 = k0_pay3 (F := Ideal) (outsAt0 m c (t.val - 1) (Nat.lt_of_le_of_lt (Nat.sub_le _ _) t.isLt)).2.1
      (iblk m c 1 t) (iblk m c 2 t) (outsAt0 m c (t.val - 1) (Nat.lt_of_le_of_lt (Nat.sub_le _ _) t.isLt)).2.2 (iblk m c 3 t) := by
  rw [outsAt0_B m c t h0 h1]
  frame_out
  rw [Memref.IsWhole.read_unread (Memref.isWhole_whole _), Memref.IsWhole.read_unread (Memref.isWhole_whole _)]

/-- Every later point of a run adds its gain. -/
theorem acc_step (c : Dev nD) (t : Fin cfg0.N) (h0 : ¬t.val % 11 = 0) (j : S512x2048.Idx) :
    (outsAt0 m c t.val t.isLt).2.2 j
      = (outsAt0 m c (t.val - 1) (Nat.lt_of_le_of_lt (Nat.sub_le _ _) t.isLt)).2.2 j + gain m c t j := by
  have h : (outsAt0 m c t.val t.isLt).2.2 = k0_pay3 (F := Ideal) (iblk m c 0 t)
      (iblk m c 1 t) (iblk m c 2 t) (outsAt0 m c (t.val - 1) (Nat.lt_of_le_of_lt (Nat.sub_le _ _) t.isLt)).2.2 (iblk m c 3 t) := by
    rw [show (iblk m c 0 t) = _ from (((xb_eq m c _ (Nat.lt_of_le_of_lt (Nat.sub_le _ _) t.isLt)).trans (xblk_prev m c t h0 _))).symm]
    by_cases h1 : t.val % 11 = 10
    · exact acc_C m c t h0 h1
    · exact acc_B m c t h0 h1
  rw [h, eq_ix2 j]
  exact pay3_at _ _ _ _ _ (j 0) (j 1)

/-- What the last point of a run leaves in the output block. -/
theorem out_C (c : Dev nD) (t : Fin cfg0.N) (h1 : t.val % 11 = 10) :
    (outsAt0 m c t.val t.isLt).1 = k0_pay4 (F := Ideal) (iblk m c 0 t) (outsAt0 m c t.val t.isLt).2.2 (iblk m c 4 t) (iblk m c 5 t) := by
  rw [acc_C m c t (by omega) h1, outsAt0_C m c t (by omega) h1]
  frame_out
  rw [Memref.IsWhole.read_unread (Memref.isWhole_whole _), Memref.IsWhole.read_unread (Memref.isWhole_whole _)]

/-- At the last point of a run the accumulator holds the sum over all hidden units. -/
theorem acc_flush (c : Dev nD) (t : Fin cfg0.N) (h1 : t.val % 11 = 10) (r : Fin 512) (k : Fin 2048) (R : Fin 16384)
    (hR : R.val = t.val / 11 * 512 + r.val) :
    (outsAt0 m c t.val t.isLt).2.2 (ix2 r k)
    = ∑ f : Fin 5632, hid (m ((c.tc : Thread nD τ).loc main_arg0)) (m ((c.tc : Thread nD τ).loc main_arg1)) (m ((c.tc : Thread nD τ).loc main_arg2)) R f
        * (show FVec Ideal S1x5632x2048 .f32 from m ((c.tc : Thread nD τ).loc main_arg3)) (ix3 0 f k) := by
  rw [Pipeline.eq_sum_fin_of_reset_step_apply_of_flush (fun n h => (outsAt0 m c n h).2.2) 11 (fun _ => (0 : EReal)) (gain m c)
    (acc_reset m c) (acc_step m c) t h1 (ix2 r k), zero_add]
  unfold gain blockHid hid
  refine Fin.sum_mul_add_congr fun s f hl => ?_
  blk_point [iblk, idx ⟨_, Pipeline.run_point_lt_of_flush t h1 s⟩]

/-- The input block before the norm, at its place in the array. -/
theorem x_at (c : Dev nD) (t : Fin cfg0.N) (r : Fin 512) (k : Fin 2048) (R : Fin 16384) (hR : R.val = t.val / 11 * 512 + r.val) :
    (show FVec Ideal S512x2048 .f32 from iblk m c 0 t) (ix2 r k)
      = (show FVec Ideal S1x16384x2048 .f32 from m ((c.tc : Thread nD τ).loc main_arg0)) (ix3 0 R k) := by
  blk_point [iblk, idx t]

/-- The gain's block at every grid point is the gain. -/
theorem gain_at (c : Dev nD) (t : Fin cfg0.N) (k : Fin 2048) :
    (show FVec Ideal S1x2048 .f32 from iblk m c 4 t) (ix2 0 k)
      = (show FVec Ideal S1x2048 .f32 from m ((c.tc : Thread nD τ).loc main_arg4)) (ix2 0 k) := by
  blk_point [iblk, idx t]

/-- The bias' block at every grid point is the bias. -/
theorem bias_at (c : Dev nD) (t : Fin cfg0.N) (k : Fin 2048) :
    (show FVec Ideal S1x2048 .f32 from iblk m c 5 t) (ix2 0 k)
      = (show FVec Ideal S1x2048 .f32 from m ((c.tc : Thread nD τ).loc main_arg5)) (ix2 0 k) := by
  blk_point [iblk, idx t]

/-- What the last point of a run stores at a block index is `res` at the array index it is written to. -/
theorem out_res (c : Dev nD) (t : Fin cfg0.N) (h1 : t.val % 11 = 10) (r : Fin 512) (k : Fin 2048) (i : S16384x2048.Idx)
    (hi0 : (i 0 : ℕ) = t.val / 11 * 512 + r.val) (hi1 : (i 1 : ℕ) = k.val) :
    (outsAt0 m c t.val t.isLt).1 (ix2 r k)
    = res (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) i := by
  have hk : i 1 = k := Fin.ext hi1
  rw [out_C m c t h1]
  refine (pay4_at _ _ _ _ r k).trans ?_
  unfold res
  rw [hk]
  refine Eq.trans (congrArg₂ (fun a b => LayerNorm.row _ a b k) (gain_at m c t k) (bias_at m c t k)) ?_
  refine congrArg (fun q => LayerNorm.row q _ _ k) (funext fun l => ?_)
  exact congrArg₂ (fun a b : EReal => Ideal.ofBits .f32 0x3F9837F0#32 * a + Ideal.ofBits .f32 0x3F000000#32 * b)
    (x_at m c t r l (i 0) hi0) (acc_flush m c t h1 r l (i 0) hi0)

/-- The array after the run is `res` of the arguments. -/
theorem final (c : Dev nD) : (dats m 0 c).arrAt 6 (cfgs 0).N
    = res (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  blk_simp
  rw [after0_6, eq_ix2 y]
  refine out_res m c t ((flush0_6 t).mp hf) (y 0) (y 1) _ ?_ ?_
  · blk_simp [idx t]
  · blk_simp [idx t]

end Kernel

section Reference

open Cert.Reference2Ideal Cert.Reference2Ideal.Gen Cert.Reference2Ideal.Value

/-- The reference's norm with gain and bias, over any array, reshaped to the result's shape. -/
def refNorm (X : FVec Ideal S1x16384x2048 .f32) (g b : FVec Ideal S1x2048 .f32) : FVec Ideal S16384x2048 .f32 :=
  shapeCast S16384x2048 (addf (mulf (mulf (subf X (broadcastInDim S1x16384x2048 ![0, 1, 2] bcast_S1x16384x1_S1x16384x2048_0_1_2 (Host.divf (broadcastInDim S1x16384x1 ![0, 1] bcast_S1x16384_S1x16384x1_0_1 (Host.reduceAdd X (constant S_ .f32 0x00000000#32) reducesTo_S1x16384x2048_S1x16384_d2 h_S_)) (broadcastInDim S1x16384x1 ![] bcast_S_S1x16384x1 (constant S_ .f32 0x45000000#32))))) (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf (subf X (broadcastInDim S1x16384x2048 ![0, 1, 2] bcast_S1x16384x1_S1x16384x2048_0_1_2 (Host.divf (broadcastInDim S1x16384x1 ![0, 1] bcast_S1x16384_S1x16384x1_0_1 (Host.reduceAdd X (constant S_ .f32 0x00000000#32) reducesTo_S1x16384x2048_S1x16384_d2 h_S_)) (broadcastInDim S1x16384x1 ![] bcast_S_S1x16384x1 (constant S_ .f32 0x45000000#32))))) (subf X (broadcastInDim S1x16384x2048 ![0, 1, 2] bcast_S1x16384x1_S1x16384x2048_0_1_2 (Host.divf (broadcastInDim S1x16384x1 ![0, 1] bcast_S1x16384_S1x16384x1_0_1 (Host.reduceAdd X (constant S_ .f32 0x00000000#32) reducesTo_S1x16384x2048_S1x16384_d2 h_S_)) (broadcastInDim S1x16384x1 ![] bcast_S_S1x16384x1 (constant S_ .f32 0x45000000#32)))))) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x3727C5AC#32)))))) (broadcastInDim S1x16384x2048 ![0, 1, 2] bcast_S1x1x2048_S1x16384x2048_0_1_2 (broadcastInDim S1x1x2048 ![2] bcast_S2048_S1x1x2048_2 (shapeCast S2048 g shapeCasts_S1x2048_S2048)))) (broadcastInDim S1x16384x2048 ![0, 1, 2] bcast_S1x1x2048_S1x16384x2048_0_1_2 (broadcastInDim S1x1x2048 ![2] bcast_S2048_S1x1x2048_2 (shapeCast S2048 b shapeCasts_S1x2048_S2048)))) shapeCasts_S1x16384x2048_S16384x2048

/-- The reference's array before the norm. -/
def refPre (x : FVec Ideal S1x16384x2048 .f32) (wg wu : FVec Ideal S1x2048x5632 .f32) (wd : FVec Ideal S1x5632x2048 .f32) :
    FVec Ideal S1x16384x2048 .f32 :=
  addf (mulf (broadcastInDim S1x16384x2048 ![] bcast_S_S1x16384x2048 (constant S_ .f32 0x3F9837F0#32)) x) (mulf (broadcastInDim S1x16384x2048 ![] bcast_S_S1x16384x2048 (constant S_ .f32 0x3F000000#32)) (Host.dotGeneral dot_S1x16384x5632_S5632x2048_S1x16384x2048_2_0_01_1_n_n none (mulf (mulf (Host.dotGeneral dot_S1x16384x2048_S2048x5632_S1x16384x5632_2_0_01_1_n_n none x (shapeCast S2048x5632 wg shapeCasts_S1x2048x5632_S2048x5632)) (Host.divf (broadcastInDim S1x16384x5632 ![] bcast_S_S1x16384x5632 (constant S_ .f32 0x3F800000#32)) (addf (broadcastInDim S1x16384x5632 ![] bcast_S_S1x16384x5632 (constant S_ .f32 0x3F800000#32)) (Host.exp (Host.negf (Host.dotGeneral dot_S1x16384x2048_S2048x5632_S1x16384x5632_2_0_01_1_n_n none x (shapeCast S2048x5632 wg shapeCasts_S1x2048x5632_S2048x5632))))))) (Host.dotGeneral dot_S1x16384x2048_S2048x5632_S1x16384x5632_2_0_01_1_n_n none x (shapeCast S2048x5632 wu shapeCasts_S1x2048x5632_S2048x5632))) (shapeCast S5632x2048 wd shapeCasts_S1x5632x2048_S5632x2048)))

/-- The reference's norm, read at a row and a column. -/
theorem refNorm_at (X : FVec Ideal S1x16384x2048 .f32) (g b : FVec Ideal S1x2048 .f32) (r : Fin 16384) (k : Fin 2048) :
    refNorm X g b (ix2 r k) = LayerNorm.row (fun l => X (ix3 0 r l)) (g (ix2 0 k)) (b (ix2 0 k)) k := by
  pointwise [refNorm, LayerNorm.row, LayerNorm.mean, LayerNorm.var]

/-- The reference's array before the norm, read at a row and a column. -/
theorem refPre_at (x : FVec Ideal S1x16384x2048 .f32) (wg wu : FVec Ideal S1x2048x5632 .f32) (wd : FVec Ideal S1x5632x2048 .f32)
    (r : Fin 16384) (k : Fin 2048) :
    refPre x wg wu wd (ix3 0 r k) = pre x wg wu wd r k := by
  pointwise [refPre, pre, hid, Ideal.logistic]

variable (m : (ℓ : Loc nD τ sig) → Buf (Elt Ideal) ℓ)

/-- The reference's composed term is `res` of its arguments. -/
theorem ref_eq (c : Dev nD) : res_main_v39 m c
    = res (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine Eq.trans (b := refNorm (refPre (m ((c.tc : Thread nD τ).loc main_arg0)) (m ((c.tc : Thread nD τ).loc main_arg1)) (m ((c.tc : Thread nD τ).loc main_arg2))
        (m ((c.tc : Thread nD τ).loc main_arg3))) (m ((c.tc : Thread nD τ).loc main_arg4)) (m ((c.tc : Thread nD τ).loc main_arg5))) ?_ ?_
  · unfold res_main_v39 refNorm refPre
    rfl
  · funext i
    obtain ⟨r, k, rfl⟩ : ∃ (r : Fin 16384) (k : Fin 2048), i = ix2 r k := ⟨i 0, i 1, eq_ix2 i⟩
    refine (refNorm_at _ _ _ r k).trans ?_
    simp only [refPre_at]
    rfl

end Reference

end Cert.Ffn

end
-- ==== Proof.FfnClaims.lean ====
/- The claims about the feed-forward with its norm: the frames, the preservation and the equality with the reference. -/
module

public import proofs.«01_k».proof.Defs
public import proofs.«01_k».proof.Proof.Ffn
public import proofs.«01_k».proof.Proof.Gen.Kernel2.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.FfnClaims

/-- The kernel leaves its arguments as they were and every counter at zero. -/
theorem frame_p : Cert.quiescent_Kernel2 := fun m ρ _ => Cert.Kernel2.Gen.frame m ρ

/-- The idealized kernel leaves its arguments as they were and every counter at zero. -/
theorem frame_pi : Cert.quiescent_Kernel2Ideal := fun m ρ _ => Cert.Kernel2Ideal.Gen.frame m ρ

/-- The reference leaves its arguments as they were; it has no counters. -/
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- Nothing was rewritten. -/
theorem preserves : Cert.preserves_Kernel2_Kernel2Ideal := trivial

/-- Over the extended reals the kernel's result is the reference's. -/
theorem algebraic : Cert.algebraic_Kernel2Ideal_Reference2Ideal := by
  intro m ρ m' ρ' _ hagree
  refine ⟨fun c => (Cert.Kernel2Ideal.Gen.dats m 0 c).arrAt 6 Cert.Kernel2Ideal.cfg0.N,
    Cert.Kernel2Ideal.Value.run_blocks (F := Ideal) m ρ, ?_⟩
  refine (θ_run Cert.Reference2Ideal.defs _ _).mono (fun _ h c => ?_) (Cert.Reference2Ideal.Value.run (F := Ideal) m' ρ')
  refine ⟨(h c).1.trans ?_, (h c).2⟩
  obtain ⟨h0, h1, h2, h3, h4, h5⟩ := hagree c
  refine ((Cert.Ffn.ref_eq m' c).trans ?_).trans (Cert.Ffn.final m c).symm
  rw [h0, h1, h2, h3, h4, h5]

end Cert.Proof.FfnClaims

end
-- ==== Proof.CmpSpec.lean ====
/- The key compression over the extended reals: what an entry of the result is, in the order of the reference and in the
   order of the kernel, and that the two agree for finite numbers. -/
module

public import proofs.«01_k».proof.Proof.MlaSpec
public import proofs.«01_k».proof.Proof.Gen.Kernel4Ideal
public import Idealize.ShloMosaic.Lib.Pipeline.ValueKit

@[expose] public section

set_option maxRecDepth 16384

noncomputable section

namespace Cert.Cmp

open Cert.Kernel4Ideal
open Idealize.ShloMosaic

variable (t : FVec Ideal S1x2x16384x128 .f32) (pe : FVec Ideal S32x128 .f32) (w1 : FVec Ideal S4096x256 .f32)
  (w2 : FVec Ideal S256x128 .f32)

/-- Place `c` of the 4096 numbers of window `n` of head `h`: token `16 n + c / 128`, lane `c % 128`. -/
def win (h : Fin 2) (n : Fin 1023) (c : Fin 4096) : EReal :=
  t (ix4 0 h ⟨n.val * 16 + c.val / 128, by omega⟩ ⟨c.val % 128, by omega⟩)

/-- Place `c` of the 4096 numbers of the position embedding. -/
def emb (c : Fin 4096) : EReal := pe (ix2 ⟨c.val / 128, by omega⟩ ⟨c.val % 128, by omega⟩)

/-- Hidden entry `j` of window `n` of head `h`: the embedded window times the weights. -/
def hid (h : Fin 2) (n : Fin 1023) (j : Fin 256) : EReal := ∑ c : Fin 4096, (win t h n c + emb pe c) * w1 (ix2 c j)

/-- The same entry as the kernel sums it: the window's two halves and the embedding, each times its weights. -/
def hidK (h : Fin 2) (n : Fin 1023) (j : Fin 256) : EReal :=
  ((∑ c : Fin 2048, win t h n ⟨c.val, by omega⟩ * w1 (ix2 ⟨c.val, by omega⟩ j))
    + ∑ c : Fin 2048, win t h n ⟨2048 + c.val, by omega⟩ * w1 (ix2 ⟨2048 + c.val, by omega⟩ j))
    + ∑ c : Fin 4096, emb pe c * w1 (ix2 c j)

/-- The tanh form of the gelu. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The whole result: the gelu of the hidden entries times the second weights. -/
def res : FVec Ideal S2x1023x128 .bf16 := fun i => ∑ j : Fin 256, gelu (hid t pe w1 (i 0) (i 1) j) * w2 (ix2 j (i 2))

/-- A sum of finite numbers times a finite number, term by term. -/
theorem add_mul_fin {x y z : EReal} (hx : x ≠ ⊤ ∧ x ≠ ⊥) (hy : y ≠ ⊤ ∧ y ≠ ⊥) (hz : z ≠ ⊤ ∧ z ≠ ⊥) :
    (x + y) * z = x * z + y * z := by
  lift x to ℝ using hx
  lift y to ℝ using hy
  lift z to ℝ using hz
  norm_cast
  ring

/-- For finite numbers the kernel's order of summing gives the reference's hidden entry. -/
theorem hidK_eq (ht : ∀ i, t i ≠ ⊤ ∧ t i ≠ ⊥) (hp : ∀ i, pe i ≠ ⊤ ∧ pe i ≠ ⊥) (hw : ∀ i, w1 i ≠ ⊤ ∧ w1 i ≠ ⊥)
    (h : Fin 2) (n : Fin 1023) (j : Fin 256) : hidK t pe w1 h n j = hid t pe w1 h n j := by
  unfold hid hidK
  simp only [show ∀ c : Fin 4096, (win t h n c + emb pe c) * w1 (ix2 c j) = win t h n c * w1 (ix2 c j) + emb pe c * w1 (ix2 c j) from
    fun c => add_mul_fin (ht _) (hp _) (hw _)]
  rw [Finset.sum_add_distrib, ← Cert.Mla.sum_split 2048 2048 rfl fun c : Fin 4096 => win t h n c * w1 (ix2 c j)]

end Cert.Cmp

end
-- ==== Proof.CmpKernel.lean ====
/- The kernel's key compression: the array it leaves and its slice, index by index. -/
module

public import proofs.«01_k».proof.Proof.CmpSpec
public import proofs.«01_k».proof.Proof.Gen.Kernel4Ideal.Frame
public import Idealize.ShloMosaic.Lib.Pipeline.ValueKit

@[expose] public section

set_option maxRecDepth 16384

noncomputable section

namespace Cert.Cmp

open Cert.Kernel4Ideal Cert.Kernel4Ideal.Gen
open Idealize.ShloMosaic Idealize.ShloMosaic.TcCoe Idealize.SL.Sem
open Idealize.ShloMosaic.Pipeline (Dat)

/-- The hidden block, as vector operations. -/
def blockVec (v0 : FVec Ideal S1x1024x2048 .f32) (v2 v3 : FVec Ideal S2048x256 .f32) (v6 : FVec Ideal S8x4096 .f32)
    (v8 : FVec Ideal S4096x256 .f32) : FVec Ideal S1024x256 .f32 :=
  addf (addf (matmul dot_S1024x2048_S2048x256_S1024x256_1_0_0_1_n_n (some .fp32) (shapeCast S1024x2048 v0 shapeCasts_S1x1024x2048_S1024x2048) v2 (constant S1024x256 .f32 0x00000000#32))
      (dynamicRotate 0 1023#32 none (matmul dot_S1024x2048_S2048x256_S1024x256_1_0_0_1_n_n (some .fp32) (shapeCast S1024x2048 v0 shapeCasts_S1x1024x2048_S1024x2048) v3 (constant S1024x256 .f32 0x00000000#32)) rotates_S1024x256_d0))
    (broadcastTo S1024x256 (extractStridedSlice S1x256 ![0, 0] (matmul dot_S8x4096_S4096x256_S8x256_1_0_0_1_n_n (some .fp32) (shapeCast S8x4096 v6 shapeCasts_S8x4096_S8x4096) v8 (constant S8x256 .f32 0x00000000#32)) slices_S8x256_o0_0_S1x256) broadcasts_S1x256_S1024x256)

/-- The stored block from the hidden block. -/
def outBlk (x : FVec Ideal S1024x256 .f32) (w2 : FVec Ideal S256x128 .f32) : FVec Ideal S1x1024x128 .bf16 :=
  shapeCast S1x1024x128 (truncf .bf16 (matmul dot_S1024x256_S256x128_S1024x128_1_0_0_1_n_n (some .fp32) (mulf x (mulf (broadcast S1024x256 (Scalar.ofBits .f32 0x3F000000#32)) (addf (broadcast S1024x256 (Scalar.ofBits .f32 0x3F800000#32)) (tanh (mulf (broadcast S1024x256 (Scalar.ofBits .f32 0x3F4C422A#32)) (addf x (mulf (broadcast S1024x256 (Scalar.ofBits .f32 0x3D372713#32)) (mulf x (mulf x x))))))))) w2 (constant S1024x128 .f32 0x00000000#32)) bitsLt_bf16_f32) shapeCasts_S1024x128_S1x1024x128

/-- The hidden block at a row with a next row. -/
theorem blockVec_at (v0 : FVec Ideal S1x1024x2048 .f32) (v2 v3 : FVec Ideal S2048x256 .f32) (v6 : FVec Ideal S8x4096 .f32)
    (v8 : FVec Ideal S4096x256 .f32) (r : Fin 1023) (j : Fin 256) :
    blockVec v0 v2 v3 v6 v8 (ix2 ⟨r.val, by omega⟩ j)
      = ((∑ c : Fin 2048, v0 (ix3 0 ⟨r.val, by omega⟩ c) * v2 (ix2 c j)) + ∑ c : Fin 2048, v0 (ix3 0 ⟨r.val + 1, by omega⟩ c) * v3 (ix2 c j))
        + ∑ c : Fin 4096, v6 (ix2 0 c) * v8 (ix2 c j) := by
  have e : (r.val + 1024 - 1023) % 1024 = r.val + 1 := by omega
  pointwise [blockVec]
  simp only [e]

/-- The stored block, read at an index. -/
theorem outBlk_at (x : FVec Ideal S1024x256 .f32) (w2 : FVec Ideal S256x128 .f32) (r : Fin 1024) (d : Fin 128) :
    outBlk x w2 (ix3 0 r d) = ∑ j : Fin 256, gelu (x (ix2 r j)) * w2 (ix2 j d) := by
  simp only [gelu]
  pointwise [outBlk]

variable (m : (ℓ : Loc nD τ sig) → Buf (Elt Ideal) ℓ)

/-- The tokens as the kernel takes them: sixteen tokens a row. -/
theorem V_t (c : Dev nD) : V m c main_v0 = shapeCast S2x1024x2048 (m ((c : Thread nD τ).loc main_arg0)) shapeCasts_S1x2x16384x128_S2x1024x2048 := by
  unfold V V0
  simp only [hostOps0, List.flatten_cons, List.flatten_nil, List.append_nil]
  after_results_simp <;> rfl

/-- The embedding as the kernel takes it: one row, eight times. -/
theorem V_pe (c : Dev nD) : V m c main_v2 = broadcastInDim S8x4096 ![0, 1] bcast_S1x4096_S8x4096_0_1
    (shapeCast S1x4096 (m ((c : Thread nD τ).loc main_arg1)) shapeCasts_S32x128_S1x4096) := by
  unfold V V0
  simp only [hostOps0, List.flatten_cons, List.flatten_nil, List.append_nil]
  after_results_simp <;> rfl

/-- Row `n`, lane `c` of the tokens as the kernel takes them. -/
theorem t_at (t : FVec Ideal S1x2x16384x128 .f32) (h : Fin 2) (n : Fin 1024) (c : Fin 2048) :
    shapeCast S2x1024x2048 t shapeCasts_S1x2x16384x128_S2x1024x2048 (ix3 h n c)
      = t (ix4 0 h ⟨n.val * 16 + c.val / 128, by omega⟩ ⟨c.val % 128, by omega⟩) := by
  pointwise []

/-- Lane `c` of the embedding as the kernel takes it. -/
theorem pe_at (pe : FVec Ideal S32x128 .f32) (c : Fin 4096) :
    (broadcastInDim S8x4096 ![0, 1] bcast_S1x4096_S8x4096_0_1 (shapeCast S1x4096 pe shapeCasts_S32x128_S1x4096) : FVec Ideal S8x4096 .f32) (ix2 0 c)
      = emb pe c := by
  unfold emb
  pointwise []

/-- Where each window's block lies at grid point `t`. -/
theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] :=
  (by decide +kernel : ∀ t : Fin grid0.N, _)

/-- The rows of one head. -/
def headBlk (x : FVec Ideal S2x1024x2048 .f32) (h : Fin 2) : FVec Ideal S1x1024x2048 .f32 := fun y => x (ix3 h (y 1) (y 2))

/-- The first half of the weights' rows. -/
def lo (x : FVec Ideal S4096x256 .f32) : FVec Ideal S2048x256 .f32 :=
  fun y => x (ix2 ⟨(y 0).val, Nat.lt_of_lt_of_le (y 0).isLt (show 2048 ≤ 4096 by omega)⟩ (y 1))

/-- The second half of the weights' rows. -/
def hi (x : FVec Ideal S4096x256 .f32) : FVec Ideal S2048x256 .f32 :=
  fun y => x (ix2 ⟨2048 + (y 0).val, Nat.add_lt_add_left (show (y 0).val < 2048 from (y 0).isLt) 2048⟩ (y 1))

/-- The array the kernel leaves, from the arrays it is launched on. -/
def left (t16 : FVec Ideal S2x1024x2048 .f32) (pe8 : FVec Ideal S8x4096 .f32) (w1 : FVec Ideal S4096x256 .f32)
    (w2 : FVec Ideal S256x128 .f32) : FVec Ideal S2x1024x128 .bf16 := fun i =>
  outBlk (blockVec (headBlk t16 (i 0)) (lo w1)
    (hi w1) pe8 w1) w2 (ix3 0 (i 1) (i 2))

/-- The stored block is the gelu and the product of the hidden block. -/
theorem pay_eq (v0 : FVec Ideal S1x1024x2048 .f32) (v2 v3 : FVec Ideal S2048x256 .f32) (v6 : FVec Ideal S8x4096 .f32)
    (v8 : FVec Ideal S4096x256 .f32) (v28 : FVec Ideal S256x128 .f32) :
    k0_pay1 (F := Ideal) v0 v2 v3 v6 v8 v28 = outBlk (blockVec v0 v2 v3 v6 v8) v28 := rfl

/-- The first weights' block at every grid point is the whole array. -/
theorem w1_blk (c : Dev nD) (t : Fin cfg0.N) : (show FVec Ideal S4096x256 .f32 from iblk m c 2 t) = m ((c.tc : Thread nD τ).loc main_arg2) := by
  funext y
  rw [eq_ix2 y]
  blk_point [iblk, idx t]

/-- The second weights' block at every grid point is the whole array. -/
theorem w2_blk (c : Dev nD) (t : Fin cfg0.N) : (show FVec Ideal S256x128 .f32 from iblk m c 3 t) = m ((c.tc : Thread nD τ).loc main_arg3) := by
  funext y
  rw [eq_ix2 y]
  blk_point [iblk, idx t]

/-- The embedding's block at every grid point is the whole array. -/
theorem pe_blk (c : Dev nD) (t : Fin cfg0.N) : (show FVec Ideal S8x4096 .f32 from iblk m c 1 t) = V m c main_v2 := by
  funext y
  rw [eq_ix2 y]
  blk_point [iblk, idx t]

/-- The tokens' block at grid point `t` is head `t`. -/
theorem t_blk (c : Dev nD) (t : Fin cfg0.N) (h : Fin 2) (e : h.val = t.val) : (show FVec Ideal S1x1024x2048 .f32 from iblk m c 0 t)
    = headBlk (V m c main_v0) h := by
  unfold headBlk
  funext y
  rw [eq_ix3 y]
  blk_point [iblk, idx t]

/-- The load of the first half of the weights. -/
theorem ld_lo (x : FVec Ideal S4096x256 .f32) : (View.ld (Val := Elt Ideal) (e' := .f32) x r0_1 : FVec Ideal S2048x256 .f32) = lo x := by
  funext y
  refine congrArg x ?_
  funext k
  refine Fin.ext ?_
  match k with
  | ⟨0, _⟩ => show 0 + 1 * (y 0).val = (y 0).val; omega
  | ⟨1, _⟩ => show 0 + 1 * (y 1).val = (y 1).val; omega

/-- The load of the second half of the weights. -/
theorem ld_hi (x : FVec Ideal S4096x256 .f32) : (View.ld (Val := Elt Ideal) (e' := .f32) x r0_2 : FVec Ideal S2048x256 .f32) = hi x := by
  funext y
  refine congrArg x ?_
  funext k
  refine Fin.ext ?_
  match k with
  | ⟨0, _⟩ => show 2048 + 1 * (y 0).val = 2048 + (y 0).val; omega
  | ⟨1, _⟩ => show 0 + 1 * (y 1).val = (y 1).val; omega

/-- Equal operands give equal blocks. -/
theorem blk_congr {a a' : FVec Ideal S1x1024x2048 .f32} {b b' d d' : FVec Ideal S2048x256 .f32} {e e' : FVec Ideal S8x4096 .f32}
    {f f' : FVec Ideal S4096x256 .f32} {g g' : FVec Ideal S256x128 .f32} (ha : a = a') (hb : b = b') (hd : d = d') (he : e = e')
    (hf : f = f') (hg : g = g') : outBlk (blockVec a b d e f) g = outBlk (blockVec a' b' d' e' f') g' := by
  rw [ha, hb, hd, he, hf, hg]

/-- The array after the run is `left` of the arrays at the launch. -/
theorem final (c : Dev nD) : (dats m 0 c).arrAt 4 (cfgs 0).N
    = left (V m c main_v0) (V m c main_v2) (m ((c.tc : Thread nD τ).loc main_arg2)) (m ((c.tc : Thread nD τ).loc main_arg3)) := by
  refine (dats m 0 c).arrAt_eq_of_covers 4 _ (by decide +kernel) fun t _ y => ?_
  blk_simp
  rw [after0_4]
  frame_out
  refine (congrFun (pay_eq _ _ _ _ _ _) y).trans ?_
  have e0 : ((((View.whole main_v3).slice (win0_4.rect t)).emb y) 0 : ℕ) = t.val := by
    blk_simp [idx t]
  have e1 : ((((View.whole main_v3).slice (win0_4.rect t)).emb y) 1 : ℕ) = (y 1 : ℕ) := by
    blk_simp [idx t]
  have e2 : ((((View.whole main_v3).slice (win0_4.rect t)).emb y) 2 : ℕ) = (y 2 : ℕ) := by
    blk_simp [idx t]
  refine Eq.trans (congrFun (blk_congr (t_blk m c t ⟨t.val, t.isLt⟩ rfl) ((congrArg (fun x : FVec Ideal S4096x256 .f32 => (View.ld (Val := Elt Ideal) (e' := .f32) x r0_1 : FVec Ideal S2048x256 .f32)) (w1_blk m c t)).trans (ld_lo _))
    ((congrArg (fun x : FVec Ideal S4096x256 .f32 => (View.ld (Val := Elt Ideal) (e' := .f32) x r0_2 : FVec Ideal S2048x256 .f32)) (w1_blk m c t)).trans (ld_hi _)) (pe_blk m c t) (w1_blk m c t) (w2_blk m c t)) y) ?_
  unfold left
  rw [show (((View.whole main_v3).slice (win0_4.rect t)).emb y) 0 = (⟨t.val, t.isLt⟩ : Fin 2) from Fin.ext e0]
  refine congrArg _ ?_
  funext k
  refine Fin.ext ?_
  match k with
  | ⟨0, _⟩ => exact Nat.lt_one_iff.1 (y 0).isLt
  | ⟨1, _⟩ => exact e1.symm
  | ⟨2, _⟩ => exact e2.symm

/-- The kernel's result: the slice of the array it leaves. -/
theorem tail (c : Dev nD) : Pipeline.afterTail₀ cfgs (dats m) 0 (V0 m) [hostOps1] c main_v4
    = extractStridedSlice S2x1023x128 ![0, 0, 0] ((dats m 0 c).arrAt 4 (cfgs 0).N : FVec Ideal S2x1024x128 .bf16) slices_S2x1024x128_S2x1023x128_0_0_0 := by
  unfold Pipeline.afterTail₀
  simp only [hostOps1, List.flatten_cons, List.flatten_nil, List.append_nil]
  after_results_simp
  exact congrArg (fun X => extractStridedSlice S2x1023x128 ![0, 0, 0] (X : FVec Ideal S2x1024x128 .bf16) slices_S2x1024x128_S2x1023x128_0_0_0)
    (Pipeline.withArrays_arr (cfgs 0).spec launch0.win.arr_inj c (V0 m c) (fun w => (dats m 0 c).arrAt w (cfgs 0).N) 4)

/-- The slice, read at an index. -/
theorem slice_at (x : FVec Ideal S2x1024x128 .bf16) (h : Fin 2) (n : Fin 1023) (d : Fin 128) :
    extractStridedSlice S2x1023x128 ![0, 0, 0] x slices_S2x1024x128_S2x1023x128_0_0_0 (ix3 h n d) = x (ix3 h ⟨n.val, by omega⟩ d) := by
  pointwise []

/-- For finite numbers the slice is `res` of the arguments. -/
theorem slice_eq (t : FVec Ideal S1x2x16384x128 .f32) (pe : FVec Ideal S32x128 .f32) (w1 : FVec Ideal S4096x256 .f32)
    (w2 : FVec Ideal S256x128 .f32) (ht : ∀ i, t i ≠ ⊤ ∧ t i ≠ ⊥) (hp : ∀ i, pe i ≠ ⊤ ∧ pe i ≠ ⊥) (hw : ∀ i, w1 i ≠ ⊤ ∧ w1 i ≠ ⊥) :
    extractStridedSlice S2x1023x128 ![0, 0, 0] (left (shapeCast S2x1024x2048 t shapeCasts_S1x2x16384x128_S2x1024x2048)
      (broadcastInDim S8x4096 ![0, 1] bcast_S1x4096_S8x4096_0_1 (shapeCast S1x4096 pe shapeCasts_S32x128_S1x4096)) w1 w2)
      slices_S2x1024x128_S2x1023x128_0_0_0 = res t pe w1 w2 := by
  funext i
  obtain ⟨h, n, d, rfl⟩ : ∃ (h : Fin 2) (n : Fin 1023) (d : Fin 128), i = ix3 h n d := ⟨i 0, i 1, i 2, eq_ix3 i⟩
  refine Eq.trans (b := outBlk (blockVec (headBlk (shapeCast S2x1024x2048 t shapeCasts_S1x2x16384x128_S2x1024x2048) h)
    (lo w1)
    (hi w1)
    (broadcastInDim S8x4096 ![0, 1] bcast_S1x4096_S8x4096_0_1 (shapeCast S1x4096 pe shapeCasts_S32x128_S1x4096)) w1) w2
      (ix3 0 ⟨n.val, by omega⟩ d)) ?_ ?_
  · exact slice_at _ h n d
  · rw [outBlk_at]
    unfold res
    refine Finset.sum_congr rfl fun j _ => congrArg (fun x => gelu x * w2 (ix2 j d)) ?_
    refine Eq.trans ?_ (hidK_eq t pe w1 ht hp hw h n j)
    refine (blockVec_at _ _ _ _ _ n j).trans ?_
    unfold hidK
    refine congrArg₂ (· + ·) (congrArg₂ (· + ·) (Finset.sum_congr rfl fun c _ => ?_) (Finset.sum_congr rfl fun c _ => ?_))
      (Finset.sum_congr rfl fun c _ => ?_)
    · exact congrArg (· * _) (t_at t h ⟨n.val, by omega⟩ c)
    · refine congrArg (· * _) ((t_at t h ⟨n.val + 1, by omega⟩ c).trans ?_)
      unfold win
      refine congrArg t (congrArg₂ (ix4 0 h) (Fin.ext ?_) (Fin.ext ?_))
      · show (n.val + 1) * 16 + c.val / 128 = n.val * 16 + (2048 + c.val) / 128
        omega
      · show c.val % 128 = (2048 + c.val) % 128
        omega
    · exact congrArg (· * _) (pe_at pe c)

/-- For finite tokens, embedding and first weights the kernel's result is `res` of its arguments. -/
theorem value (c : Dev nD)
    (ht : ∀ i, (show FVec Ideal S1x2x16384x128 .f32 from m ((c.tc : Thread nD τ).loc main_arg0)) i ≠ ⊤ ∧ (show FVec Ideal S1x2x16384x128 .f32 from m ((c.tc : Thread nD τ).loc main_arg0)) i ≠ ⊥)
    (hp : ∀ i, (show FVec Ideal S32x128 .f32 from m ((c.tc : Thread nD τ).loc main_arg1)) i ≠ ⊤ ∧ (show FVec Ideal S32x128 .f32 from m ((c.tc : Thread nD τ).loc main_arg1)) i ≠ ⊥)
    (hw : ∀ i, (show FVec Ideal S4096x256 .f32 from m ((c.tc : Thread nD τ).loc main_arg2)) i ≠ ⊤ ∧ (show FVec Ideal S4096x256 .f32 from m ((c.tc : Thread nD τ).loc main_arg2)) i ≠ ⊥) :
    Pipeline.afterTail₀ cfgs (dats m) 0 (V0 m) [hostOps1] c main_v4
      = res (m ((c.tc : Thread nD τ).loc main_arg0)) (m ((c.tc : Thread nD τ).loc main_arg1)) (m ((c.tc : Thread nD τ).loc main_arg2))
        (m ((c.tc : Thread nD τ).loc main_arg3)) := by
  refine (tail m c).trans ?_
  rw [final, V_t, V_pe]
  exact slice_eq _ _ _ _ ht hp hw

end Cert.Cmp

end
-- ==== Proof.CmpRef.lean ====
/- The reference's key compression, read at an index. -/
module

public import proofs.«01_k».proof.Proof.CmpSpec
public import proofs.«01_k».proof.Proof.Gen.Reference4Ideal.Run
public import Idealize.ShloMosaic.Lib.Pipeline.ValueKit

@[expose] public section

set_option maxRecDepth 16384

noncomputable section

namespace Cert.Cmp

open Cert.Reference4Ideal Cert.Reference4Ideal.Gen Cert.Reference4Ideal.Value
open Idealize.ShloMosaic Idealize.ShloMosaic.TcCoe Idealize.SL.Sem

/-- The token the window's place starts from, before it is wrapped. -/
def tokRaw : IVec S1023x32 32 :=
  addi (broadcastInDim S1023x32 ![0, 1] bcast_S1023x1_S1023x32_0_1 (muli (broadcastInDim S1023x1 ![0] bcast_S1023_S1023x1_0 (iotaInDim S1023 32 0)) (broadcastInDim S1023x1 ![] bcast_S_S1023x1 (constantI S_ 32 16#32)))) (broadcastInDim S1023x32 ![0, 1] bcast_S1x32_S1023x32_0_1 (broadcastInDim S1x32 ![1] bcast_S32_S1x32_1 (iotaInDim S32 32 0)))

/-- The token of each place of each window. -/
def tok : IVec S1023x32x1 32 :=
  broadcastInDim S1023x32x1 ![0, 1] bcast_S1023x32_S1023x32x1_0_1 (select (cmpi .slt tokRaw (broadcastInDim S1023x32 ![] bcast_S_S1023x32 (constantI S_ 32 0#32))) (addi tokRaw (broadcastInDim S1023x32 ![] bcast_S_S1023x32 (constantI S_ 32 16384#32))) tokRaw)

/-- The embedded windows. -/
def flat (t : FVec Ideal S1x2x16384x128 .f32) (pe : FVec Ideal S32x128 .f32) : FVec Ideal S1x2x1023x4096 .f32 :=
  shapeCast S1x2x1023x4096 (addf (Host.gather gather_S1x2x16384x128_S1023x32x1_S1x2x1023x32x128_014_2_n_n_2_2_121128 t tok) (broadcastInDim S1x2x1023x32x128 ![0, 1, 2, 3, 4] bcast_S1x1x1x32x128_S1x2x1023x32x128_0_1_2_3_4 (broadcastInDim S1x1x1x32x128 ![3, 4] bcast_S32x128_S1x1x1x32x128_3_4 pe))) shapeCasts_S1x2x1023x32x128_S1x2x1023x4096

/-- The hidden array. -/
def hidVec (f : FVec Ideal S1x2x1023x4096 .f32) (w1 : FVec Ideal S4096x256 .f32) : FVec Ideal S1x2x1023x256 .f32 :=
  Host.dotGeneral dot_S1x2x1023x4096_S4096x256_S1x2x1023x256_3_0_012_1_n_n none f w1

/-- The result, from the hidden array. -/
def outVec (x : FVec Ideal S1x2x1023x256 .f32) (w2 : FVec Ideal S256x128 .f32) : FVec Ideal S2x1023x128 .bf16 :=
  truncf .bf16 (shapeCast S2x1023x128 (Host.dotGeneral dot_S1x2x1023x256_S256x128_S1x2x1023x128_3_0_012_1_n_n none (mulf x (mulf (broadcastInDim S1x2x1023x256 ![] bcast_S_S1x2x1023x256 (constant S_ .f32 0x3F000000#32)) (addf (broadcastInDim S1x2x1023x256 ![] bcast_S_S1x2x1023x256 (constant S_ .f32 0x3F800000#32)) (Host.tanh (mulf (broadcastInDim S1x2x1023x256 ![] bcast_S_S1x2x1023x256 (constant S_ .f32 0x3F4C422A#32)) (addf x (mulf (broadcastInDim S1x2x1023x256 ![] bcast_S_S1x2x1023x256 (constant S_ .f32 0x3D372713#32)) (mulf (mulf x x) x)))))))) w2) shapeCasts_S1x2x1023x128_S2x1023x128) bitsLt_bf16_f32

/-- The token read at a window and a place: `16 n + u`, as a word. -/
theorem tokRaw_at (n : Fin 1023) (u : Fin 32) :
    tokRaw (ix2 n u) = BitVec.ofNat 32 n.val * 16#32 + BitVec.ofNat 32 u.val := by
  pointwise [tokRaw]
  rfl

/-- The token is not negative, so it is read as it is. -/
theorem tok_at (n : Fin 1023) (u : Fin 32) : (tok (ix3 n u 0)).toInt.toNat = n.val * 16 + u.val := by
  have e : BitVec.ofNat 32 n.val * 16#32 + BitVec.ofNat 32 u.val = BitVec.ofNat 32 (n.val * 16 + u.val) := by
    apply BitVec.eq_of_toNat_eq
    simp only [BitVec.toNat_add, BitVec.toNat_mul, BitVec.toNat_ofNat]
    omega
  have hi : (BitVec.ofNat 32 (n.val * 16 + u.val)).toInt = ((n.val * 16 + u.val : ℕ) : ℤ) := by
    rw [BitVec.toInt_eq_toNat_of_lt] <;> rw [BitVec.toNat_ofNat] <;> omega
  pointwise [tok]
  rw [tokRaw_at, e]
  have hs : IntOp.cmpi .slt (BitVec.ofNat 32 (n.val * 16 + u.val)) 0#32 = 0#1 := by
    simp only [IntOp.cmpi, BitVec.slt, hi, BitVec.toInt_zero]
    rw [decide_eq_false (by omega)]
    rfl
  rw [hs]
  show (BitVec.ofNat 32 (n.val * 16 + u.val)).toInt.toNat = _
  rw [hi]
  rfl

/-- The windows gathered from the tokens, read at an index. -/
theorem gather_at (t : FVec Ideal S1x2x16384x128 .f32) (idx : IVec S1023x32x1 32) (h : Fin 2) (n : Fin 1023) (u : Fin 32) (d : Fin 128) :
    Host.gather gather_S1x2x16384x128_S1023x32x1_S1x2x1023x32x128_014_2_n_n_2_2_121128 t idx (ix5 0 h n u d)
      = t (ix4 0 h ⟨min (idx (ix3 n u 0)).toInt.toNat (16384 - 1), by omega⟩ d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ =>
    show GatherDims.start gather_S1x2x16384x128_S1023x32x1_S1x2x1023x32x128_014_2_n_n_2_2_121128 _ idx (0 : Fin 4) + GatherDims.offCoord gather_S1x2x16384x128_S1023x32x1_S1x2x1023x32x128_014_2_n_n_2_2_121128 _ (0 : Fin 4) = _
    unfold GatherDims.start GatherDims.offCoord
    rw [dif_neg (by decide), dif_pos (by decide)]
    rfl
  | ⟨1, _⟩ =>
    show GatherDims.start gather_S1x2x16384x128_S1023x32x1_S1x2x1023x32x128_014_2_n_n_2_2_121128 _ idx (1 : Fin 4) + GatherDims.offCoord gather_S1x2x16384x128_S1023x32x1_S1x2x1023x32x128_014_2_n_n_2_2_121128 _ (1 : Fin 4) = _
    unfold GatherDims.start GatherDims.offCoord
    rw [dif_neg (by decide), dif_pos (by decide)]
    exact Nat.zero_add _
  | ⟨2, _⟩ =>
    show GatherDims.start gather_S1x2x16384x128_S1023x32x1_S1x2x1023x32x128_014_2_n_n_2_2_121128 _ idx (2 : Fin 4) + GatherDims.offCoord gather_S1x2x16384x128_S1023x32x1_S1x2x1023x32x128_014_2_n_n_2_2_121128 _ (2 : Fin 4) = _
    rw [GatherDims.offCoord_eq_zero _ _ _ (by decide)]
    unfold GatherDims.start
    rw [dif_pos (by decide)]
    refine congrArg (fun z => min (idx z).toInt.toNat (16384 - 1)) ?_
    funext b
    refine Fin.ext ?_
    match b with
    | ⟨0, _⟩ => rfl
    | ⟨1, _⟩ => rfl
    | ⟨2, _⟩ => rfl
  | ⟨3, _⟩ =>
    show GatherDims.start gather_S1x2x16384x128_S1023x32x1_S1x2x1023x32x128_014_2_n_n_2_2_121128 _ idx (3 : Fin 4) + GatherDims.offCoord gather_S1x2x16384x128_S1023x32x1_S1x2x1023x32x128_014_2_n_n_2_2_121128 _ (3 : Fin 4) = _
    unfold GatherDims.start GatherDims.offCoord
    rw [dif_neg (by decide), dif_pos (by decide)]
    exact Nat.zero_add _

/-- The embedded windows, read at an index. -/
theorem flat_at (t : FVec Ideal S1x2x16384x128 .f32) (pe : FVec Ideal S32x128 .f32) (h : Fin 2) (n : Fin 1023) (c : Fin 4096) :
    flat t pe (ix4 0 h n c) = win t h n c + emb pe c := by
  pointwise [flat]
  rw [gather_at]
  unfold win emb
  simp only [tok_at]
  congr 3
  exact Fin.ext (Nat.min_eq_left (by omega))

/-- The hidden array, read at an index. -/
theorem hidVec_at (f : FVec Ideal S1x2x1023x4096 .f32) (w1 : FVec Ideal S4096x256 .f32) (h : Fin 2) (n : Fin 1023) (j : Fin 256) :
    hidVec f w1 (ix4 0 h n j) = ∑ c : Fin 4096, f (ix4 0 h n c) * w1 (ix2 c j) := by
  pointwise [hidVec]

/-- The result, read at an index. -/
theorem outVec_at (x : FVec Ideal S1x2x1023x256 .f32) (w2 : FVec Ideal S256x128 .f32) (h : Fin 2) (n : Fin 1023) (d : Fin 128) :
    outVec x w2 (ix3 h n d) = ∑ j : Fin 256, gelu (x (ix4 0 h n j)) * w2 (ix2 j d) := by
  simp only [gelu, mul_comm (x _) (x _ * x _)]
  pointwise [outVec]

variable (m : (ℓ : Loc nD τ sig) → Buf (Elt Ideal) ℓ)

/-- The reference's composed term is `res` of its arguments. -/
theorem ref_eq (c : Dev nD) : res_main_v36 m c
    = res (m ((c.tc : Thread nD τ).loc main_arg0)) (m ((c.tc : Thread nD τ).loc main_arg1)) (m ((c.tc : Thread nD τ).loc main_arg2))
        (m ((c.tc : Thread nD τ).loc main_arg3)) := by
  refine Eq.trans (b := outVec (hidVec (flat (m ((c.tc : Thread nD τ).loc main_arg0)) (m ((c.tc : Thread nD τ).loc main_arg1)))
    (m ((c.tc : Thread nD τ).loc main_arg2))) (m ((c.tc : Thread nD τ).loc main_arg3))) ?_ ?_
  · unfold res_main_v36 outVec hidVec flat tok tokRaw
    rfl
  · funext i
    obtain ⟨h, n, d, rfl⟩ : ∃ (h : Fin 2) (n : Fin 1023) (d : Fin 128), i = ix3 h n d := ⟨i 0, i 1, i 2, eq_ix3 i⟩
    refine (outVec_at _ _ h n d).trans ?_
    simp only [hidVec_at, flat_at]
    rfl

end Cert.Cmp

end
-- ==== Proof.CmpClaims.lean ====
/- The claims about the key compression: the frames, the preservation and the equality with the reference. -/
module

public import proofs.«01_k».proof.Defs
public import proofs.«01_k».proof.Proof.CmpKernel
public import proofs.«01_k».proof.Proof.CmpRef
public import proofs.«01_k».proof.Proof.MlaClaims
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Pre_finite4
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.CmpClaims

/-- The kernel leaves its arguments as they were and every counter at zero. -/
theorem frame_p : Cert.quiescent_Kernel4 := fun m ρ _ => Cert.Kernel4.Gen.frame m ρ

/-- The idealized kernel leaves its arguments as they were and every counter at zero. -/
theorem frame_pi : Cert.quiescent_Kernel4Ideal := fun m ρ _ => Cert.Kernel4Ideal.Gen.frame m ρ

/-- The same under the precondition. -/
theorem frame_pi_pre : Cert.quiescent_Kernel4Ideal_pre_finite4 := fun m ρ _ => Cert.Kernel4Ideal.Gen.frame m ρ

/-- The reference leaves its arguments as they were; it has no counters. -/
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The same under the precondition. -/
theorem frame_ri_pre : Cert.quiescent_Reference4Ideal_pre_finite4 := fun m ρ _ => frame_ri m ρ trivial

/-- Nothing was rewritten in the kernel. -/
theorem preserves : Cert.preserves_Kernel4_Kernel4Ideal := trivial

/-- The tokens, the embedding and the first weights are finite. -/
def Fin4 (m : (ℓ : Loc Cert.Kernel4Ideal.nD Cert.Kernel4Ideal.τ Cert.Kernel4Ideal.sig) → Buf (Elt Ideal) ℓ) (c : Dev Cert.Kernel4Ideal.nD) : Prop :=
  (∀ i, (show FVec Ideal Cert.Kernel4Ideal.S1x2x16384x128 .f32 from m ((c.tc : Thread Cert.Kernel4Ideal.nD Cert.Kernel4Ideal.τ).loc Cert.Kernel4Ideal.main_arg0)) i ≠ ⊤
      ∧ (show FVec Ideal Cert.Kernel4Ideal.S1x2x16384x128 .f32 from m ((c.tc : Thread Cert.Kernel4Ideal.nD Cert.Kernel4Ideal.τ).loc Cert.Kernel4Ideal.main_arg0)) i ≠ ⊥)
  ∧ (∀ i, (show FVec Ideal Cert.Kernel4Ideal.S32x128 .f32 from m ((c.tc : Thread Cert.Kernel4Ideal.nD Cert.Kernel4Ideal.τ).loc Cert.Kernel4Ideal.main_arg1)) i ≠ ⊤
      ∧ (show FVec Ideal Cert.Kernel4Ideal.S32x128 .f32 from m ((c.tc : Thread Cert.Kernel4Ideal.nD Cert.Kernel4Ideal.τ).loc Cert.Kernel4Ideal.main_arg1)) i ≠ ⊥)
  ∧ (∀ i, (show FVec Ideal Cert.Kernel4Ideal.S4096x256 .f32 from m ((c.tc : Thread Cert.Kernel4Ideal.nD Cert.Kernel4Ideal.τ).loc Cert.Kernel4Ideal.main_arg2)) i ≠ ⊤
      ∧ (show FVec Ideal Cert.Kernel4Ideal.S4096x256 .f32 from m ((c.tc : Thread Cert.Kernel4Ideal.nD Cert.Kernel4Ideal.τ).loc Cert.Kernel4Ideal.main_arg2)) i ≠ ⊥)

/-- Where the precondition holds they are. -/
theorem fin_of_pre (m : (ℓ : Loc Cert.Kernel4Ideal.nD Cert.Kernel4Ideal.τ Cert.Kernel4Ideal.sig) → Buf (Elt Ideal) ℓ)
    (h : Cert.Pre_Kernel4Ideal_finite4 m) (c : Dev Cert.Kernel4Ideal.nD) : Fin4 m c := by
  obtain ⟨h0, h1, h2⟩ := h c
  refine ⟨fun i => MlaClaims.finite_of_lt _ ?_, fun i => MlaClaims.finite_of_lt _ ?_, fun i => MlaClaims.finite_of_lt _ ?_⟩
  · exact congrFun h0 i
  · exact congrFun h1 i
  · exact congrFun h2 i

/-- Over the extended reals the kernel's result is the reference's, for finite tokens, embedding and first weights. -/
theorem algebraic : Cert.algebraic_Kernel4Ideal_Reference4Ideal_pre_finite4 := by
  intro m ρ m' ρ' hpre hagree
  refine ⟨fun c => Cert.Cmp.res (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3)), ?_, ?_⟩
  · refine (θ_run Cert.Kernel4Ideal.defs _ _).mono (fun r h c => ⟨?_, h.2.1 c⟩)
      (θ_run_and (Cert.Kernel4Ideal.Gen.run_main (F := Ideal) m ρ) (Cert.Kernel4Ideal.Gen.frame (F := Ideal) m ρ))
    obtain ⟨h0, h1, h2⟩ := fin_of_pre m hpre c
    exact ((h.1 c).2 Cert.Kernel4Ideal.main_v4 (Pipeline.mem_restRefs_of Cert.Kernel4Ideal.main_v4 (by decide) (by decide))).trans (Cert.Cmp.value m c h0 h1 h2)
  · refine (θ_run Cert.Reference4Ideal.defs _ _).mono (fun _ h c => ⟨(h c).1.trans ?_, (h c).2⟩) (Cert.Reference4Ideal.Value.run (F := Ideal) m' ρ')
    obtain ⟨h0, h1, h2, h3⟩ := hagree c
    refine (Cert.Cmp.ref_eq m' c).trans ?_
    rw [h0, h1, h2, h3]

end Cert.Proof.CmpClaims

end
-- ==== Proof.CmpVKernel.lean ====
/- The kernel's compression for the values, which stores each head's block transposed: the array it leaves and the
   transposed slice of it, index by index. -/
module

public import proofs.«01_k».proof.Proof.CmpKernel
public import proofs.«01_k».proof.Proof.Gen.Kernel5Ideal.Frame
public import Idealize.ShloMosaic.Lib.Pipeline.ValueKit

@[expose] public section

set_option maxRecDepth 16384

noncomputable section

namespace Cert.CmpV

open Cert.Kernel5Ideal Cert.Kernel5Ideal.Gen
open Cert.Cmp (blockVec blockVec_at headBlk lo hi gelu t_at pe_at res hidK hidK_eq win emb)
open Idealize.ShloMosaic Idealize.ShloMosaic.TcCoe Idealize.SL.Sem
open Idealize.ShloMosaic.Pipeline (Dat)

/-- The stored block from the hidden block: the product transposed. -/
def outBlk (x : FVec Ideal S1024x256 .f32) (w2 : FVec Ideal S256x128 .f32) : FVec Ideal S1x128x1024 .bf16 :=
  shapeCast S1x128x1024 (truncf .bf16 (transpose S128x1024 [1, 0] (matmul dot_S1024x256_S256x128_S1024x128_1_0_0_1_n_n (some .fp32) (mulf x (mulf (broadcast S1024x256 (Scalar.ofBits .f32 0x3F000000#32)) (addf (broadcast S1024x256 (Scalar.ofBits .f32 0x3F800000#32)) (tanh (mulf (broadcast S1024x256 (Scalar.ofBits .f32 0x3F4C422A#32)) (addf x (mulf (broadcast S1024x256 (Scalar.ofBits .f32 0x3D372713#32)) (mulf x (mulf x x))))))))) w2 (constant S1024x128 .f32 0x00000000#32)) transposes_S1024x128_p1_0_S128x1024) bitsLt_bf16_f32) shapeCasts_S128x1024_S1x128x1024

/-- The stored block, read at an index. -/
theorem outBlk_at (x : FVec Ideal S1024x256 .f32) (w2 : FVec Ideal S256x128 .f32) (r : Fin 1024) (d : Fin 128) :
    outBlk x w2 (ix3 0 d r) = ∑ j : Fin 256, gelu (x (ix2 r j)) * w2 (ix2 j d) := by
  simp only [gelu]
  pointwise [outBlk]

variable (m : (ℓ : Loc nD τ sig) → Buf (Elt Ideal) ℓ)

/-- The tokens as the kernel takes them: sixteen tokens a row. -/
theorem V_t (c : Dev nD) : V m c main_v0 = shapeCast S2x1024x2048 (m ((c : Thread nD τ).loc main_arg0)) shapeCasts_S1x2x16384x128_S2x1024x2048 := by
  unfold V V0
  simp only [hostOps0, List.flatten_cons, List.flatten_nil, List.append_nil]
  after_results_simp <;> rfl

/-- The embedding as the kernel takes it: one row, eight times. -/
theorem V_pe (c : Dev nD) : V m c main_v2 = broadcastInDim S8x4096 ![0, 1] bcast_S1x4096_S8x4096_0_1
    (shapeCast S1x4096 (m ((c : Thread nD τ).loc main_arg1)) shapeCasts_S32x128_S1x4096) := by
  unfold V V0
  simp only [hostOps0, List.flatten_cons, List.flatten_nil, List.append_nil]
  after_results_simp <;> rfl

/-- Where each window's block lies at grid point `t`. -/
theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] :=
  (by decide +kernel : ∀ t : Fin grid0.N, _)

/-- The array the kernel leaves, from the arrays it is launched on. -/
def left (t16 : FVec Ideal S2x1024x2048 .f32) (pe8 : FVec Ideal S8x4096 .f32) (w1 : FVec Ideal S4096x256 .f32)
    (w2 : FVec Ideal S256x128 .f32) : FVec Ideal S2x128x1024 .bf16 := fun i =>
  outBlk (blockVec (headBlk t16 (i 0)) (lo w1)
    (hi w1) pe8 w1) w2 (ix3 0 (i 1) (i 2))

/-- The stored block is the gelu and the product of the hidden block. -/
theorem pay_eq (v0 : FVec Ideal S1x1024x2048 .f32) (v2 v3 : FVec Ideal S2048x256 .f32) (v6 : FVec Ideal S8x4096 .f32)
    (v8 : FVec Ideal S4096x256 .f32) (v28 : FVec Ideal S256x128 .f32) :
    k0_pay1 (F := Ideal) (k0_pay2 (F := Ideal) v0 v2 v3 v6 v8 v28) = outBlk (blockVec v0 v2 v3 v6 v8) v28 := rfl

/-- The first weights' block at every grid point is the whole array. -/
theorem w1_blk (c : Dev nD) (t : Fin cfg0.N) : (show FVec Ideal S4096x256 .f32 from iblk m c 2 t) = m ((c.tc : Thread nD τ).loc main_arg2) := by
  funext y
  rw [eq_ix2 y]
  blk_point [iblk, idx t]

/-- The second weights' block at every grid point is the whole array. -/
theorem w2_blk (c : Dev nD) (t : Fin cfg0.N) : (show FVec Ideal S256x128 .f32 from iblk m c 3 t) = m ((c.tc : Thread nD τ).loc main_arg3) := by
  funext y
  rw [eq_ix2 y]
  blk_point [iblk, idx t]

/-- The embedding's block at every grid point is the whole array. -/
theorem pe_blk (c : Dev nD) (t : Fin cfg0.N) : (show FVec Ideal S8x4096 .f32 from iblk m c 1 t) = V m c main_v2 := by
  funext y
  rw [eq_ix2 y]
  blk_point [iblk, idx t]

/-- The tokens' block at grid point `t` is head `t`. -/
theorem t_blk (c : Dev nD) (t : Fin cfg0.N) (h : Fin 2) (e : h.val = t.val) : (show FVec Ideal S1x1024x2048 .f32 from iblk m c 0 t)
    = headBlk (V m c main_v0) h := by
  unfold headBlk
  funext y
  rw [eq_ix3 y]
  blk_point [iblk, idx t]

/-- The load of the first half of the weights. -/
theorem ld_lo (x : FVec Ideal S4096x256 .f32) : (View.ld (Val := Elt Ideal) (e' := .f32) x r0_1 : FVec Ideal S2048x256 .f32) = lo x := by
  funext y
  refine congrArg x ?_
  funext k
  refine Fin.ext ?_
  match k with
  | ⟨0, _⟩ => show 0 + 1 * (y 0).val = (y 0).val; omega
  | ⟨1, _⟩ => show 0 + 1 * (y 1).val = (y 1).val; omega

/-- The load of the second half of the weights. -/
theorem ld_hi (x : FVec Ideal S4096x256 .f32) : (View.ld (Val := Elt Ideal) (e' := .f32) x r0_2 : FVec Ideal S2048x256 .f32) = hi x := by
  funext y
  refine congrArg x ?_
  funext k
  refine Fin.ext ?_
  match k with
  | ⟨0, _⟩ => show 2048 + 1 * (y 0).val = 2048 + (y 0).val; omega
  | ⟨1, _⟩ => show 0 + 1 * (y 1).val = (y 1).val; omega

/-- Equal operands give equal blocks. -/
theorem blk_congr {a a' : FVec Ideal S1x1024x2048 .f32} {b b' d d' : FVec Ideal S2048x256 .f32} {e e' : FVec Ideal S8x4096 .f32}
    {f f' : FVec Ideal S4096x256 .f32} {g g' : FVec Ideal S256x128 .f32} (ha : a = a') (hb : b = b') (hd : d = d') (he : e = e')
    (hf : f = f') (hg : g = g') : outBlk (blockVec a b d e f) g = outBlk (blockVec a' b' d' e' f') g' := by
  rw [ha, hb, hd, he, hf, hg]

/-- The array after the run is `left` of the arrays at the launch. -/
theorem final (c : Dev nD) : (dats m 0 c).arrAt 4 (cfgs 0).N
    = left (V m c main_v0) (V m c main_v2) (m ((c.tc : Thread nD τ).loc main_arg2)) (m ((c.tc : Thread nD τ).loc main_arg3)) := by
  refine (dats m 0 c).arrAt_eq_of_covers 4 _ (by decide +kernel) fun t _ y => ?_
  blk_simp
  rw [after0_4]
  frame_out
  refine (congrFun (pay_eq _ _ _ _ _ _) y).trans ?_
  have e0 : ((((View.whole main_v3).slice (win0_4.rect t)).emb y) 0 : ℕ) = t.val := by
    blk_simp [idx t]
  have e1 : ((((View.whole main_v3).slice (win0_4.rect t)).emb y) 1 : ℕ) = (y 1 : ℕ) := by
    blk_simp [idx t]
  have e2 : ((((View.whole main_v3).slice (win0_4.rect t)).emb y) 2 : ℕ) = (y 2 : ℕ) := by
    blk_simp [idx t]
  refine Eq.trans (congrFun (blk_congr (t_blk m c t ⟨t.val, t.isLt⟩ rfl) ((congrArg (fun x : FVec Ideal S4096x256 .f32 => (View.ld (Val := Elt Ideal) (e' := .f32) x r0_1 : FVec Ideal S2048x256 .f32)) (w1_blk m c t)).trans (ld_lo _))
    ((congrArg (fun x : FVec Ideal S4096x256 .f32 => (View.ld (Val := Elt Ideal) (e' := .f32) x r0_2 : FVec Ideal S2048x256 .f32)) (w1_blk m c t)).trans (ld_hi _)) (pe_blk m c t) (w1_blk m c t) (w2_blk m c t)) y) ?_
  unfold left
  rw [show (((View.whole main_v3).slice (win0_4.rect t)).emb y) 0 = (⟨t.val, t.isLt⟩ : Fin 2) from Fin.ext e0]
  refine congrArg _ ?_
  funext k
  refine Fin.ext ?_
  match k with
  | ⟨0, _⟩ => exact Nat.lt_one_iff.1 (y 0).isLt
  | ⟨1, _⟩ => exact e1.symm
  | ⟨2, _⟩ => exact e2.symm

/-- The kernel's result: the slice of the array it leaves, transposed. -/
theorem tail (c : Dev nD) : Pipeline.afterTail₀ cfgs (dats m) 0 (V0 m) [hostOps1] c main_v5
    = extractStridedSlice S2x1023x128 ![0, 0, 0] (transpose S2x1024x128 [0, 2, 1] ((dats m 0 c).arrAt 4 (cfgs 0).N : FVec Ideal S2x128x1024 .bf16) transposes_S2x128x1024_S2x1024x128_0_2_1) slices_S2x1024x128_S2x1023x128_0_0_0 := by
  unfold Pipeline.afterTail₀
  simp only [hostOps1, List.flatten_cons, List.flatten_nil, List.append_nil]
  after_results_simp
  exact congrArg (fun X => extractStridedSlice S2x1023x128 ![0, 0, 0] (transpose S2x1024x128 [0, 2, 1] (X : FVec Ideal S2x128x1024 .bf16) transposes_S2x128x1024_S2x1024x128_0_2_1) slices_S2x1024x128_S2x1023x128_0_0_0)
    (Pipeline.withArrays_arr (cfgs 0).spec launch0.win.arr_inj c (V0 m c) (fun w => (dats m 0 c).arrAt w (cfgs 0).N) 4)

/-- The transposed slice, read at an index. -/
theorem slice_at (x : FVec Ideal S2x128x1024 .bf16) (h : Fin 2) (n : Fin 1023) (d : Fin 128) :
    extractStridedSlice S2x1023x128 ![0, 0, 0] (transpose S2x1024x128 [0, 2, 1] x transposes_S2x128x1024_S2x1024x128_0_2_1) slices_S2x1024x128_S2x1023x128_0_0_0 (ix3 h n d) = x (ix3 h d ⟨n.val, by omega⟩) := by
  pointwise []

/-- For finite numbers the transposed slice is `res` of the arguments. -/
theorem slice_eq (t : FVec Ideal S1x2x16384x128 .f32) (pe : FVec Ideal S32x128 .f32) (w1 : FVec Ideal S4096x256 .f32)
    (w2 : FVec Ideal S256x128 .f32) (ht : ∀ i, t i ≠ ⊤ ∧ t i ≠ ⊥) (hp : ∀ i, pe i ≠ ⊤ ∧ pe i ≠ ⊥) (hw : ∀ i, w1 i ≠ ⊤ ∧ w1 i ≠ ⊥) :
    extractStridedSlice S2x1023x128 ![0, 0, 0] (transpose S2x1024x128 [0, 2, 1] (left (shapeCast S2x1024x2048 t shapeCasts_S1x2x16384x128_S2x1024x2048)
      (broadcastInDim S8x4096 ![0, 1] bcast_S1x4096_S8x4096_0_1 (shapeCast S1x4096 pe shapeCasts_S32x128_S1x4096)) w1 w2) transposes_S2x128x1024_S2x1024x128_0_2_1)
      slices_S2x1024x128_S2x1023x128_0_0_0 = res t pe w1 w2 := by
  funext i
  obtain ⟨h, n, d, rfl⟩ : ∃ (h : Fin 2) (n : Fin 1023) (d : Fin 128), i = ix3 h n d := ⟨i 0, i 1, i 2, eq_ix3 i⟩
  refine Eq.trans (b := outBlk (blockVec (headBlk (shapeCast S2x1024x2048 t shapeCasts_S1x2x16384x128_S2x1024x2048) h)
    (lo w1)
    (hi w1)
    (broadcastInDim S8x4096 ![0, 1] bcast_S1x4096_S8x4096_0_1 (shapeCast S1x4096 pe shapeCasts_S32x128_S1x4096)) w1) w2
      (ix3 0 d ⟨n.val, by omega⟩)) ?_ ?_
  · exact slice_at _ h n d
  · rw [outBlk_at]
    unfold res
    refine Finset.sum_congr rfl fun j _ => congrArg (fun x => gelu x * w2 (ix2 j d)) ?_
    refine Eq.trans ?_ (hidK_eq t pe w1 ht hp hw h n j)
    refine (blockVec_at _ _ _ _ _ n j).trans ?_
    unfold hidK
    refine congrArg₂ (· + ·) (congrArg₂ (· + ·) (Finset.sum_congr rfl fun c _ => ?_) (Finset.sum_congr rfl fun c _ => ?_))
      (Finset.sum_congr rfl fun c _ => ?_)
    · exact congrArg (· * _) (t_at t h ⟨n.val, by omega⟩ c)
    · refine congrArg (· * _) ((t_at t h ⟨n.val + 1, by omega⟩ c).trans ?_)
      unfold win
      refine congrArg t (congrArg₂ (ix4 0 h) (Fin.ext ?_) (Fin.ext ?_))
      · show (n.val + 1) * 16 + c.val / 128 = n.val * 16 + (2048 + c.val) / 128
        omega
      · show c.val % 128 = (2048 + c.val) % 128
        omega
    · exact congrArg (· * _) (pe_at pe c)

/-- For finite tokens, embedding and first weights the kernel's result is `res` of its arguments. -/
theorem value (c : Dev nD)
    (ht : ∀ i, (show FVec Ideal S1x2x16384x128 .f32 from m ((c.tc : Thread nD τ).loc main_arg0)) i ≠ ⊤ ∧ (show FVec Ideal S1x2x16384x128 .f32 from m ((c.tc : Thread nD τ).loc main_arg0)) i ≠ ⊥)
    (hp : ∀ i, (show FVec Ideal S32x128 .f32 from m ((c.tc : Thread nD τ).loc main_arg1)) i ≠ ⊤ ∧ (show FVec Ideal S32x128 .f32 from m ((c.tc : Thread nD τ).loc main_arg1)) i ≠ ⊥)
    (hw : ∀ i, (show FVec Ideal S4096x256 .f32 from m ((c.tc : Thread nD τ).loc main_arg2)) i ≠ ⊤ ∧ (show FVec Ideal S4096x256 .f32 from m ((c.tc : Thread nD τ).loc main_arg2)) i ≠ ⊥) :
    Pipeline.afterTail₀ cfgs (dats m) 0 (V0 m) [hostOps1] c main_v5
      = res (m ((c.tc : Thread nD τ).loc main_arg0)) (m ((c.tc : Thread nD τ).loc main_arg1)) (m ((c.tc : Thread nD τ).loc main_arg2))
        (m ((c.tc : Thread nD τ).loc main_arg3)) := by
  refine (tail m c).trans ?_
  rw [final, V_t, V_pe]
  exact slice_eq _ _ _ _ ht hp hw

end Cert.CmpV

end
-- ==== Proof.CmpVClaims.lean ====
/- The claims about the compression for the values: the frames, the preservation and the equality with the reference. -/
module

public import proofs.«01_k».proof.Defs
public import proofs.«01_k».proof.Proof.CmpVKernel
public import proofs.«01_k».proof.Proof.CmpRef
public import proofs.«01_k».proof.Proof.CmpClaims
public import proofs.«01_k».proof.Proof.Gen.Kernel5
public import proofs.«01_k».proof.Proof.Gen.Kernel5Ideal
public import proofs.«01_k».proof.Proof.Gen.Reference4Ideal
public import proofs.«01_k».proof.Proof.Gen.Kernel5.Frame
public import proofs.«01_k».proof.Proof.Gen.Kernel5Ideal.Frame
public import proofs.«01_k».proof.Proof.Gen.Reference4Ideal.Run
public import proofs.«01_k».proof.Proof.Gen.Pre_finite4
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.CmpVClaims

/-- The kernel leaves its arguments as they were and every counter at zero. -/
theorem frame_p : Cert.quiescent_Kernel5 := fun m ρ _ => Cert.Kernel5.Gen.frame m ρ

/-- The idealized kernel leaves its arguments as they were and every counter at zero. -/
theorem frame_pi : Cert.quiescent_Kernel5Ideal := fun m ρ _ => Cert.Kernel5Ideal.Gen.frame m ρ

/-- The same under the precondition. -/
theorem frame_pi_pre : Cert.quiescent_Kernel5Ideal_pre_finite4 := fun m ρ _ => Cert.Kernel5Ideal.Gen.frame m ρ

/-- Nothing was rewritten in the kernel. -/
theorem preserves : Cert.preserves_Kernel5_Kernel5Ideal := trivial

/-- The tokens, the embedding and the first weights are finite. -/
def Fin4 (m : (ℓ : Loc Cert.Kernel5Ideal.nD Cert.Kernel5Ideal.τ Cert.Kernel5Ideal.sig) → Buf (Elt Ideal) ℓ) (c : Dev Cert.Kernel5Ideal.nD) : Prop :=
  (∀ i, (show FVec Ideal Cert.Kernel5Ideal.S1x2x16384x128 .f32 from m ((c.tc : Thread Cert.Kernel5Ideal.nD Cert.Kernel5Ideal.τ).loc Cert.Kernel5Ideal.main_arg0)) i ≠ ⊤
      ∧ (show FVec Ideal Cert.Kernel5Ideal.S1x2x16384x128 .f32 from m ((c.tc : Thread Cert.Kernel5Ideal.nD Cert.Kernel5Ideal.τ).loc Cert.Kernel5Ideal.main_arg0)) i ≠ ⊥)
  ∧ (∀ i, (show FVec Ideal Cert.Kernel5Ideal.S32x128 .f32 from m ((c.tc : Thread Cert.Kernel5Ideal.nD Cert.Kernel5Ideal.τ).loc Cert.Kernel5Ideal.main_arg1)) i ≠ ⊤
      ∧ (show FVec Ideal Cert.Kernel5Ideal.S32x128 .f32 from m ((c.tc : Thread Cert.Kernel5Ideal.nD Cert.Kernel5Ideal.τ).loc Cert.Kernel5Ideal.main_arg1)) i ≠ ⊥)
  ∧ (∀ i, (show FVec Ideal Cert.Kernel5Ideal.S4096x256 .f32 from m ((c.tc : Thread Cert.Kernel5Ideal.nD Cert.Kernel5Ideal.τ).loc Cert.Kernel5Ideal.main_arg2)) i ≠ ⊤
      ∧ (show FVec Ideal Cert.Kernel5Ideal.S4096x256 .f32 from m ((c.tc : Thread Cert.Kernel5Ideal.nD Cert.Kernel5Ideal.τ).loc Cert.Kernel5Ideal.main_arg2)) i ≠ ⊥)

/-- Where the precondition holds they are. -/
theorem fin_of_pre (m : (ℓ : Loc Cert.Kernel5Ideal.nD Cert.Kernel5Ideal.τ Cert.Kernel5Ideal.sig) → Buf (Elt Ideal) ℓ)
    (h : Cert.Pre_Kernel5Ideal_finite4 m) (c : Dev Cert.Kernel5Ideal.nD) : Fin4 m c := by
  obtain ⟨h0, h1, h2⟩ := h c
  refine ⟨fun i => MlaClaims.finite_of_lt _ ?_, fun i => MlaClaims.finite_of_lt _ ?_, fun i => MlaClaims.finite_of_lt _ ?_⟩
  · exact congrFun h0 i
  · exact congrFun h1 i
  · exact congrFun h2 i

/-- Over the extended reals the kernel's result is the reference's, for finite tokens, embedding and first weights. -/
theorem algebraic : Cert.algebraic_Kernel5Ideal_Reference4Ideal_pre_finite4 := by
  intro m ρ m' ρ' hpre hagree
  refine ⟨fun c => Cert.Cmp.res (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3)), ?_, ?_⟩
  · refine (θ_run Cert.Kernel5Ideal.defs _ _).mono (fun r h c => ⟨?_, h.2.1 c⟩)
      (θ_run_and (Cert.Kernel5Ideal.Gen.run_main (F := Ideal) m ρ) (Cert.Kernel5Ideal.Gen.frame (F := Ideal) m ρ))
    obtain ⟨h0, h1, h2⟩ := fin_of_pre m hpre c
    exact ((h.1 c).2 Cert.Kernel5Ideal.main_v5 (Pipeline.mem_restRefs_of Cert.Kernel5Ideal.main_v5 (by decide) (by decide))).trans (Cert.CmpV.value m c h0 h1 h2)
  · refine (θ_run Cert.Reference4Ideal.defs _ _).mono (fun _ h c => ⟨(h c).1.trans ?_, (h c).2⟩) (Cert.Reference4Ideal.Value.run (F := Ideal) m' ρ')
    obtain ⟨h0, h1, h2, h3⟩ := hagree c
    refine (Cert.Cmp.ref_eq m' c).trans ?_
    rw [h0, h1, h2, h3]

end Cert.Proof.CmpVClaims

end
-- ==== Proof.lean ====
/- The proof of the claims about the decoder layer's attention, its output projection with the norm, its
   feed-forward block and its compression of keys and of values. -/
module

public import proofs.«01_k».proof.Defs
public import proofs.«01_k».proof.Proof.MlaClaims
public import proofs.«01_k».proof.Proof.OutLnClaims
public import proofs.«01_k».proof.Proof.FfnClaims
public import proofs.«01_k».proof.Proof.CmpClaims
public import proofs.«01_k».proof.Proof.CmpVClaims
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Pre_finite
public import proofs.«01_k».proof.Proof.Gen.Pre_finite4
public import Idealize.ShloMosaic.Adequacy
public import Idealize.ShloMosaic.Init

@[expose] public section

noncomputable section

namespace Cert.Proof

open Idealize.ShloMosaic Idealize.SL.Sem

/-- Everything that is claimed. -/
theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Pre_finite.Gen.facts, Cert.Pre_finite4.Gen.facts,
    MlaClaims.frame_p, MlaClaims.frame_pi, MlaClaims.frame_pi_pre, MlaClaims.frame_ri, MlaClaims.frame_ri_pre,
    MlaClaims.frame_r,
    FfnClaims.frame_p, FfnClaims.frame_pi, FfnClaims.frame_ri,
    OutLnClaims.frame_p, OutLnClaims.frame_pi, OutLnClaims.frame_ri,
    CmpClaims.frame_p, CmpClaims.frame_pi, CmpClaims.frame_pi_pre, CmpClaims.frame_ri, CmpClaims.frame_ri_pre,
    CmpVClaims.frame_p, CmpVClaims.frame_pi, CmpVClaims.frame_pi_pre,
    MlaClaims.preserves, MlaClaims.preserves_r, MlaClaims.algebraic,
    FfnClaims.preserves, FfnClaims.algebraic, OutLnClaims.preserves, OutLnClaims.algebraic,
    CmpClaims.preserves, CmpClaims.algebraic,
    CmpVClaims.preserves, CmpVClaims.algebraic⟩

end Cert.Proof

end
